-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S2x256x1024 : Shape := ⟨3, ![2, 256, 1024]⟩
abbrev S2x1024x1024 : Shape := ⟨3, ![2, 1024, 1024]⟩
abbrev S2 : Shape := ⟨1, ![2]⟩
abbrev S2x8 : Shape := ⟨2, ![2, 8]⟩
abbrev S2x3x8 : Shape := ⟨3, ![2, 3, 8]⟩
abbrev S2x4 : Shape := ⟨2, ![2, 4]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256x2048 : Shape := ⟨2, ![256, 2048]⟩
abbrev S1x1 : Shape := ⟨2, ![1, 1]⟩
abbrev S1x128x1024 : Shape := ⟨3, ![1, 128, 1024]⟩
abbrev S128x1024 : Shape := ⟨2, ![128, 1024]⟩
abbrev S1x1x1 : Shape := ⟨3, ![1, 1, 1]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x2048, .f32⟩
  | .local _ .vmem, ⟨1, _⟩ => ⟨S2x256x1024, .f32⟩
  | .local _ .vmem, ⟨2, _⟩ => ⟨S2x1024x1024, .f32⟩
  | .local _ .vmem, ⟨3, _⟩ => ⟨S4096x2048, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 139 → Bool
  | ⟨i, _⟩ => dmaSemScopedAt i

abbrev sig : RefSig :=
  (ofTc nBuf bufTy 17 139 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch8 : Ref sig .tc := ⟨.vmem, 3, rfl⟩
abbrev cc0_sem0_0 : DmaSem sig := 0
abbrev barrier0 : Sem sig := 16

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v356 : BitVec 32 := Scalar.muli v2 c1024_i32
  let v357 : BitVec 32 := Scalar.addi v356 c0_i32_237
  let c0_i32_269 : BitVec 32 := 0#32
  ![v357.toNat, 0]
def k0_off2 (d0 : Dev nD) (c0_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v356 : BitVec 32 := Scalar.muli v2 c1024_i32
  let v357 : BitVec 32 := Scalar.addi v356 c0_i32_237
  let v408 : Index := Scalar.indexCast v357
  let c0_284 : Index := 0#32
  ![v408.toNat, 0]
def k0_off3 (d0 : Dev nD) (c0_i32_21 : BitVec 32) (c0_i32_286 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let v32 : BitVec 32 := Scalar.subi v31 c0_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c1024_i32_285 : BitVec 32 := 1024#32
  let v412 : BitVec 32 := Scalar.muli v42 c1024_i32_285
  let v413 : BitVec 32 := Scalar.addi v412 c0_i32_286
  let c0_i32_296 : BitVec 32 := 0#32
  ![v413.toNat, 0]
def k0_dev3 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_292 : BitVec 32 := 1#32
  let v414 : BitVec 32 := Scalar.muli v25 c1_i32_292
  let v415 : BitVec 32 := Scalar.addi c0_i32_293 v414
  v415.toNat
def k0_off4 (d0 : Dev nD) (c0_i32_44 : BitVec 32) (c0_i32_298 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.addi v2 c0_i32_44
  let c4_i32_45 : BitVec 32 := 4#32
  let c0_i32_46 : BitVec 32 := 0#32
  let v68 : BitVec 1 := Scalar.cmpi .eq c4_i32_45 c0_i32_46
  let c1_i32_47 : BitVec 32 := 1#32
  let v69 : BitVec 32 := Scalar.select v68 c1_i32_47 c4_i32_45
  let v70 : BitVec 32 := Scalar.remsi v67 v69
  let c0_i32_49 : BitVec 32 := 0#32
  let v72 : BitVec 1 := Scalar.cmpi .slt v70 c0_i32_49
  let c0_i32_50 : BitVec 32 := 0#32
  let v73 : BitVec 1 := Scalar.cmpi .slt v69 c0_i32_50
  let v74 : BitVec 1 := Scalar.xori v72 v73
  let c0_i32_48 : BitVec 32 := 0#32
  let v71 : BitVec 1 := Scalar.cmpi .ne v70 c0_i32_48
  let v75 : BitVec 1 := Scalar.andi v74 v71
  let v76 : BitVec 32 := Scalar.addi v70 v69
  let v77 : BitVec 32 := Scalar.select v75 v76 v70
  let c1024_i32_297 : BitVec 32 := 1024#32
  let v423 : BitVec 32 := Scalar.muli v77 c1024_i32_297
  let v424 : BitVec 32 := Scalar.addi v423 c0_i32_298
  let c1024_i32_308 : BitVec 32 := 1024#32
  ![v424.toNat, 1024]
def k0_dev4 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_304 : BitVec 32 := 1#32
  let v425 : BitVec 32 := Scalar.muli v14 c1_i32_304
  let v426 : BitVec 32 := Scalar.addi c0_i32_305 v425
  v426.toNat
def k0_dev5 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_315 : BitVec 32 := 1#32
  let v436 : BitVec 32 := Scalar.muli v25 c1_i32_315
  let v437 : BitVec 32 := Scalar.addi c0_i32_316 v436
  v437.toNat
def k0_dev6 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_327 : BitVec 32 := 1#32
  let v447 : BitVec 32 := Scalar.muli v14 c1_i32_327
  let v448 : BitVec 32 := Scalar.addi c0_i32_328 v447
  v448.toNat
def k0_dev7 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_355 : BitVec 32 := 1#32
  let v477 : BitVec 32 := Scalar.muli v25 c1_i32_355
  let v478 : BitVec 32 := Scalar.addi c0_i32_356 v477
  v478.toNat
def k0_dev8 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_367 : BitVec 32 := 1#32
  let v488 : BitVec 32 := Scalar.muli v14 c1_i32_367
  let v489 : BitVec 32 := Scalar.addi c0_i32_368 v488
  v489.toNat
def k0_dev9 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_377 : BitVec 32 := 1#32
  let v499 : BitVec 32 := Scalar.muli v25 c1_i32_377
  let v500 : BitVec 32 := Scalar.addi c0_i32_378 v499
  v500.toNat
def k0_dev10 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_389 : BitVec 32 := 1#32
  let v510 : BitVec 32 := Scalar.muli v14 c1_i32_389
  let v511 : BitVec 32 := Scalar.addi c0_i32_390 v510
  v511.toNat
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_418 : BitVec 32 := 1#32
  let v540 : BitVec 32 := Scalar.muli v25 c1_i32_418
  let v541 : BitVec 32 := Scalar.addi c0_i32_419 v540
  v541.toNat
def k0_dev12 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_430 : BitVec 32 := 1#32
  let v551 : BitVec 32 := Scalar.muli v14 c1_i32_430
  let v552 : BitVec 32 := Scalar.addi c0_i32_431 v551
  v552.toNat
def k0_dev13 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_440 : BitVec 32 := 1#32
  let v562 : BitVec 32 := Scalar.muli v25 c1_i32_440
  let v563 : BitVec 32 := Scalar.addi c0_i32_441 v562
  v563.toNat
def k0_dev14 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_452 : BitVec 32 := 1#32
  let v573 : BitVec 32 := Scalar.muli v14 c1_i32_452
  let v574 : BitVec 32 := Scalar.addi c0_i32_453 v573
  v574.toNat
def k0_off5 (d0 : Dev nD) (c0_i32_242 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_215 : BitVec 32 := 4#32
  let v322 : BitVec 32 := Scalar.addi v2 c4_i32_215
  let c1_i32_216 : BitVec 32 := 1#32
  let v323 : BitVec 32 := Scalar.subi v322 c1_i32_216
  let c4_i32_217 : BitVec 32 := 4#32
  let c0_i32_218 : BitVec 32 := 0#32
  let v324 : BitVec 1 := Scalar.cmpi .eq c4_i32_217 c0_i32_218
  let c1_i32_219 : BitVec 32 := 1#32
  let v325 : BitVec 32 := Scalar.select v324 c1_i32_219 c4_i32_217
  let v326 : BitVec 32 := Scalar.remsi v323 v325
  let c0_i32_221 : BitVec 32 := 0#32
  let v328 : BitVec 1 := Scalar.cmpi .slt v326 c0_i32_221
  let c0_i32_222 : BitVec 32 := 0#32
  let v329 : BitVec 1 := Scalar.cmpi .slt v325 c0_i32_222
  let v330 : BitVec 1 := Scalar.xori v328 v329
  let c0_i32_220 : BitVec 32 := 0#32
  let v327 : BitVec 1 := Scalar.cmpi .ne v326 c0_i32_220
  let v331 : BitVec 1 := Scalar.andi v330 v327
  let v332 : BitVec 32 := Scalar.addi v326 v325
  let v333 : BitVec 32 := Scalar.select v331 v332 v326
  let c1024_i32_241 : BitVec 32 := 1024#32
  let v364 : BitVec 32 := Scalar.muli v333 c1024_i32_241
  let v365 : BitVec 32 := Scalar.addi v364 c0_i32_242
  let c0_i32_461 : BitVec 32 := 0#32
  ![v365.toNat, 0]
def k0_dev15 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_480 : BitVec 32 := 1#32
  let v603 : BitVec 32 := Scalar.muli v25 c1_i32_480
  let v604 : BitVec 32 := Scalar.addi c0_i32_481 v603
  v604.toNat
def k0_dev16 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_492 : BitVec 32 := 1#32
  let v614 : BitVec 32 := Scalar.muli v14 c1_i32_492
  let v615 : BitVec 32 := Scalar.addi c0_i32_493 v614
  v615.toNat
def k0_dev17 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_502 : BitVec 32 := 1#32
  let v625 : BitVec 32 := Scalar.muli v25 c1_i32_502
  let v626 : BitVec 32 := Scalar.addi c0_i32_503 v625
  v626.toNat
def k0_dev18 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_514 : BitVec 32 := 1#32
  let v636 : BitVec 32 := Scalar.muli v14 c1_i32_514
  let v637 : BitVec 32 := Scalar.addi c0_i32_515 v636
  v637.toNat
def k0_off6 (d0 : Dev nD) (c0_i32_242 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_215 : BitVec 32 := 4#32
  let v322 : BitVec 32 := Scalar.addi v2 c4_i32_215
  let c1_i32_216 : BitVec 32 := 1#32
  let v323 : BitVec 32 := Scalar.subi v322 c1_i32_216
  let c4_i32_217 : BitVec 32 := 4#32
  let c0_i32_218 : BitVec 32 := 0#32
  let v324 : BitVec 1 := Scalar.cmpi .eq c4_i32_217 c0_i32_218
  let c1_i32_219 : BitVec 32 := 1#32
  let v325 : BitVec 32 := Scalar.select v324 c1_i32_219 c4_i32_217
  let v326 : BitVec 32 := Scalar.remsi v323 v325
  let c0_i32_221 : BitVec 32 := 0#32
  let v328 : BitVec 1 := Scalar.cmpi .slt v326 c0_i32_221
  let c0_i32_222 : BitVec 32 := 0#32
  let v329 : BitVec 1 := Scalar.cmpi .slt v325 c0_i32_222
  let v330 : BitVec 1 := Scalar.xori v328 v329
  let c0_i32_220 : BitVec 32 := 0#32
  let v327 : BitVec 1 := Scalar.cmpi .ne v326 c0_i32_220
  let v331 : BitVec 1 := Scalar.andi v330 v327
  let v332 : BitVec 32 := Scalar.addi v326 v325
  let v333 : BitVec 32 := Scalar.select v331 v332 v326
  let c1024_i32_241 : BitVec 32 := 1024#32
  let v364 : BitVec 32 := Scalar.muli v333 c1024_i32_241
  let v365 : BitVec 32 := Scalar.addi v364 c0_i32_242
  let v660 : Index := Scalar.indexCast v365
  let c0_535 : Index := 0#32
  ![v660.toNat, 0]
def k0_off7 (d0 : Dev nD) (c1_i32_223 : BitVec 32) (c0_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v334 : BitVec 32 := Scalar.addi v2 c1_i32_223
  let c4_i32_224 : BitVec 32 := 4#32
  let c0_i32_225 : BitVec 32 := 0#32
  let v335 : BitVec 1 := Scalar.cmpi .eq c4_i32_224 c0_i32_225
  let c1_i32_226 : BitVec 32 := 1#32
  let v336 : BitVec 32 := Scalar.select v335 c1_i32_226 c4_i32_224
  let v337 : BitVec 32 := Scalar.remsi v334 v336
  let c0_i32_228 : BitVec 32 := 0#32
  let v339 : BitVec 1 := Scalar.cmpi .slt v337 c0_i32_228
  let c0_i32_229 : BitVec 32 := 0#32
  let v340 : BitVec 1 := Scalar.cmpi .slt v336 c0_i32_229
  let v341 : BitVec 1 := Scalar.xori v339 v340
  let c0_i32_227 : BitVec 32 := 0#32
  let v338 : BitVec 1 := Scalar.cmpi .ne v337 c0_i32_227
  let v342 : BitVec 1 := Scalar.andi v341 v338
  let v343 : BitVec 32 := Scalar.addi v337 v336
  let v344 : BitVec 32 := Scalar.select v342 v343 v337
  let c1024_i32_249 : BitVec 32 := 1024#32
  let v372 : BitVec 32 := Scalar.muli v344 c1024_i32_249
  let v373 : BitVec 32 := Scalar.addi v372 c0_i32_250
  let c0_i32_574 : BitVec 32 := 0#32
  ![v373.toNat, 0]
def k0_off8 (d0 : Dev nD) (c1_i32_223 : BitVec 32) (c0_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v334 : BitVec 32 := Scalar.addi v2 c1_i32_223
  let c4_i32_224 : BitVec 32 := 4#32
  let c0_i32_225 : BitVec 32 := 0#32
  let v335 : BitVec 1 := Scalar.cmpi .eq c4_i32_224 c0_i32_225
  let c1_i32_226 : BitVec 32 := 1#32
  let v336 : BitVec 32 := Scalar.select v335 c1_i32_226 c4_i32_224
  let v337 : BitVec 32 := Scalar.remsi v334 v336
  let c0_i32_228 : BitVec 32 := 0#32
  let v339 : BitVec 1 := Scalar.cmpi .slt v337 c0_i32_228
  let c0_i32_229 : BitVec 32 := 0#32
  let v340 : BitVec 1 := Scalar.cmpi .slt v336 c0_i32_229
  let v341 : BitVec 1 := Scalar.xori v339 v340
  let c0_i32_227 : BitVec 32 := 0#32
  let v338 : BitVec 1 := Scalar.cmpi .ne v337 c0_i32_227
  let v342 : BitVec 1 := Scalar.andi v341 v338
  let v343 : BitVec 32 := Scalar.addi v337 v336
  let v344 : BitVec 32 := Scalar.select v342 v343 v337
  let c1024_i32_249 : BitVec 32 := 1024#32
  let v372 : BitVec 32 := Scalar.muli v344 c1024_i32_249
  let v373 : BitVec 32 := Scalar.addi v372 c0_i32_250
  let v736 : Index := Scalar.indexCast v373
  let c0_603 : Index := 0#32
  ![v736.toNat, 0]
def k0_off9 (d0 : Dev nD) (c0_i32_66 : BitVec 32) (c0_i32_731 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_65 : BitVec 32 := 4#32
  let v100 : BitVec 32 := Scalar.addi v2 c4_i32_65
  let v101 : BitVec 32 := Scalar.subi v100 c0_i32_66
  let c1_i32_67 : BitVec 32 := 1#32
  let v102 : BitVec 32 := Scalar.subi v101 c1_i32_67
  let c4_i32_68 : BitVec 32 := 4#32
  let c0_i32_69 : BitVec 32 := 0#32
  let v103 : BitVec 1 := Scalar.cmpi .eq c4_i32_68 c0_i32_69
  let c1_i32_70 : BitVec 32 := 1#32
  let v104 : BitVec 32 := Scalar.select v103 c1_i32_70 c4_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  let c1024_i32_730 : BitVec 32 := 1024#32
  let v877 : BitVec 32 := Scalar.muli v112 c1024_i32_730
  let v878 : BitVec 32 := Scalar.addi v877 c0_i32_731
  let v879 : Index := Scalar.indexCast v878
  let c0_732 : Index := 0#32
  ![v879.toNat, 0]
def k0_dev19 (d0 : Dev nD) : Nat :=
  let c0_i32_741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_740 : BitVec 32 := 1#32
  let v890 : BitVec 32 := Scalar.muli v14 c1_i32_740
  let v891 : BitVec 32 := Scalar.addi c0_i32_741 v890
  v891.toNat
def k0_dev20 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_762 : BitVec 32 := 1#32
  let v901 : BitVec 32 := Scalar.muli v25 c1_i32_762
  let v902 : BitVec 32 := Scalar.addi c0_i32_763 v901
  v902.toNat
def k0_off10 (d0 : Dev nD) (c0_i32_92 : BitVec 32) (c0_i32_780 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.addi v2 c0_i32_92
  let c1_i32_93 : BitVec 32 := 1#32
  let v140 : BitVec 32 := Scalar.addi v139 c1_i32_93
  let c4_i32_94 : BitVec 32 := 4#32
  let c0_i32_95 : BitVec 32 := 0#32
  let v141 : BitVec 1 := Scalar.cmpi .eq c4_i32_94 c0_i32_95
  let c1_i32_96 : BitVec 32 := 1#32
  let v142 : BitVec 32 := Scalar.select v141 c1_i32_96 c4_i32_94
  let v143 : BitVec 32 := Scalar.remsi v140 v142
  let c0_i32_98 : BitVec 32 := 0#32
  let v145 : BitVec 1 := Scalar.cmpi .slt v143 c0_i32_98
  let c0_i32_99 : BitVec 32 := 0#32
  let v146 : BitVec 1 := Scalar.cmpi .slt v142 c0_i32_99
  let v147 : BitVec 1 := Scalar.xori v145 v146
  let c0_i32_97 : BitVec 32 := 0#32
  let v144 : BitVec 1 := Scalar.cmpi .ne v143 c0_i32_97
  let v148 : BitVec 1 := Scalar.andi v147 v144
  let v149 : BitVec 32 := Scalar.addi v143 v142
  let v150 : BitVec 32 := Scalar.select v148 v149 v143
  let c1024_i32_779 : BitVec 32 := 1024#32
  let v919 : BitVec 32 := Scalar.muli v150 c1024_i32_779
  let v920 : BitVec 32 := Scalar.addi v919 c0_i32_780
  let v921 : Index := Scalar.indexCast v920
  let c1024 : Index := 1024#32
  ![v921.toNat, 1024]
def k0_dev21 (d0 : Dev nD) : Nat :=
  let c0_i32_789 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_788 : BitVec 32 := 1#32
  let v932 : BitVec 32 := Scalar.muli v25 c1_i32_788
  let v933 : BitVec 32 := Scalar.addi c0_i32_789 v932
  v933.toNat
def k0_dev22 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_810 : BitVec 32 := 1#32
  let v943 : BitVec 32 := Scalar.muli v14 c1_i32_810
  let v944 : BitVec 32 := Scalar.addi c0_i32_811 v943
  v944.toNat
def k0_dev23 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_836 : BitVec 32 := 1#32
  let v974 : BitVec 32 := Scalar.muli v14 c1_i32_836
  let v975 : BitVec 32 := Scalar.addi c0_i32_837 v974
  v975.toNat
def k0_dev24 (d0 : Dev nD) : Nat :=
  let c0_i32_859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_858 : BitVec 32 := 1#32
  let v985 : BitVec 32 := Scalar.muli v25 c1_i32_858
  let v986 : BitVec 32 := Scalar.addi c0_i32_859 v985
  v986.toNat
def k0_dev25 (d0 : Dev nD) : Nat :=
  let c0_i32_886 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_885 : BitVec 32 := 1#32
  let v1016 : BitVec 32 := Scalar.muli v25 c1_i32_885
  let v1017 : BitVec 32 := Scalar.addi c0_i32_886 v1016
  v1017.toNat
def k0_dev26 (d0 : Dev nD) : Nat :=
  let c0_i32_908 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_907 : BitVec 32 := 1#32
  let v1027 : BitVec 32 := Scalar.muli v14 c1_i32_907
  let v1028 : BitVec 32 := Scalar.addi c0_i32_908 v1027
  v1028.toNat
def k0_dev27 (d0 : Dev nD) : Nat :=
  let c0_i32_934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_933 : BitVec 32 := 1#32
  let v1058 : BitVec 32 := Scalar.muli v14 c1_i32_933
  let v1059 : BitVec 32 := Scalar.addi c0_i32_934 v1058
  v1059.toNat
def k0_dev28 (d0 : Dev nD) : Nat :=
  let c0_i32_956 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_955 : BitVec 32 := 1#32
  let v1069 : BitVec 32 := Scalar.muli v25 c1_i32_955
  let v1070 : BitVec 32 := Scalar.addi c0_i32_956 v1069
  v1070.toNat
def k0_dev29 (d0 : Dev nD) : Nat :=
  let c0_i32_983 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_982 : BitVec 32 := 1#32
  let v1100 : BitVec 32 := Scalar.muli v25 c1_i32_982
  let v1101 : BitVec 32 := Scalar.addi c0_i32_983 v1100
  v1101.toNat
def k0_dev30 (d0 : Dev nD) : Nat :=
  let c0_i32_1005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1004 : BitVec 32 := 1#32
  let v1111 : BitVec 32 := Scalar.muli v14 c1_i32_1004
  let v1112 : BitVec 32 := Scalar.addi c0_i32_1005 v1111
  v1112.toNat
def k0_dev31 (d0 : Dev nD) : Nat :=
  let c0_i32_1031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1030 : BitVec 32 := 1#32
  let v1142 : BitVec 32 := Scalar.muli v14 c1_i32_1030
  let v1143 : BitVec 32 := Scalar.addi c0_i32_1031 v1142
  v1143.toNat
def k0_dev32 (d0 : Dev nD) : Nat :=
  let c0_i32_1053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1052 : BitVec 32 := 1#32
  let v1153 : BitVec 32 := Scalar.muli v25 c1_i32_1052
  let v1154 : BitVec 32 := Scalar.addi c0_i32_1053 v1153
  v1154.toNat
def k0_dev33 (d0 : Dev nD) : Nat :=
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1079 : BitVec 32 := 1#32
  let v1184 : BitVec 32 := Scalar.muli v25 c1_i32_1079
  let v1185 : BitVec 32 := Scalar.addi c0_i32_1080 v1184
  v1185.toNat
def k0_dev34 (d0 : Dev nD) : Nat :=
  let c0_i32_1102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1101 : BitVec 32 := 1#32
  let v1195 : BitVec 32 := Scalar.muli v14 c1_i32_1101
  let v1196 : BitVec 32 := Scalar.addi c0_i32_1102 v1195
  v1196.toNat
def k0_dev35 (d0 : Dev nD) : Nat :=
  let c0_i32_1128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1127 : BitVec 32 := 1#32
  let v1226 : BitVec 32 := Scalar.muli v14 c1_i32_1127
  let v1227 : BitVec 32 := Scalar.addi c0_i32_1128 v1226
  v1227.toNat
def k0_dev36 (d0 : Dev nD) : Nat :=
  let c0_i32_1150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1149 : BitVec 32 := 1#32
  let v1237 : BitVec 32 := Scalar.muli v25 c1_i32_1149
  let v1238 : BitVec 32 := Scalar.addi c0_i32_1150 v1237
  v1238.toNat
def k0_dev37 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1176 : BitVec 32 := 1#32
  let v1268 : BitVec 32 := Scalar.muli v25 c1_i32_1176
  let v1269 : BitVec 32 := Scalar.addi c0_i32_1177 v1268
  v1269.toNat
def k0_dev38 (d0 : Dev nD) : Nat :=
  let c0_i32_1199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1198 : BitVec 32 := 1#32
  let v1279 : BitVec 32 := Scalar.muli v14 c1_i32_1198
  let v1280 : BitVec 32 := Scalar.addi c0_i32_1199 v1279
  v1280.toNat
def k0_dev39 (d0 : Dev nD) : Nat :=
  let c0_i32_1225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1310 : BitVec 32 := Scalar.muli v14 c1_i32_1224
  let v1311 : BitVec 32 := Scalar.addi c0_i32_1225 v1310
  v1311.toNat
def k0_dev40 (d0 : Dev nD) : Nat :=
  let c0_i32_1247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1246 : BitVec 32 := 1#32
  let v1321 : BitVec 32 := Scalar.muli v25 c1_i32_1246
  let v1322 : BitVec 32 := Scalar.addi c0_i32_1247 v1321
  v1322.toNat
def k0_dev41 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1273 : BitVec 32 := 1#32
  let v1352 : BitVec 32 := Scalar.muli v25 c1_i32_1273
  let v1353 : BitVec 32 := Scalar.addi c0_i32_1274 v1352
  v1353.toNat
def k0_dev42 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1295 : BitVec 32 := 1#32
  let v1363 : BitVec 32 := Scalar.muli v14 c1_i32_1295
  let v1364 : BitVec 32 := Scalar.addi c0_i32_1296 v1363
  v1364.toNat
def k0_dev43 (d0 : Dev nD) : Nat :=
  let c0_i32_1322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1321 : BitVec 32 := 1#32
  let v1394 : BitVec 32 := Scalar.muli v14 c1_i32_1321
  let v1395 : BitVec 32 := Scalar.addi c0_i32_1322 v1394
  v1395.toNat
def k0_dev44 (d0 : Dev nD) : Nat :=
  let c0_i32_1344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1343 : BitVec 32 := 1#32
  let v1405 : BitVec 32 := Scalar.muli v25 c1_i32_1343
  let v1406 : BitVec 32 := Scalar.addi c0_i32_1344 v1405
  v1406.toNat
def k0_dev45 (d0 : Dev nD) : Nat :=
  let c0_i32_1371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1370 : BitVec 32 := 1#32
  let v1436 : BitVec 32 := Scalar.muli v25 c1_i32_1370
  let v1437 : BitVec 32 := Scalar.addi c0_i32_1371 v1436
  v1437.toNat
def k0_dev46 (d0 : Dev nD) : Nat :=
  let c0_i32_1393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1392 : BitVec 32 := 1#32
  let v1447 : BitVec 32 := Scalar.muli v14 c1_i32_1392
  let v1448 : BitVec 32 := Scalar.addi c0_i32_1393 v1447
  v1448.toNat
def k0_dev47 (d0 : Dev nD) : Nat :=
  let c0_i32_1419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1418 : BitVec 32 := 1#32
  let v1478 : BitVec 32 := Scalar.muli v14 c1_i32_1418
  let v1479 : BitVec 32 := Scalar.addi c0_i32_1419 v1478
  v1479.toNat
def k0_dev48 (d0 : Dev nD) : Nat :=
  let c0_i32_1441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1440 : BitVec 32 := 1#32
  let v1489 : BitVec 32 := Scalar.muli v25 c1_i32_1440
  let v1490 : BitVec 32 := Scalar.addi c0_i32_1441 v1489
  v1490.toNat
def k0_dev49 (d0 : Dev nD) : Nat :=
  let c0_i32_1468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1467 : BitVec 32 := 1#32
  let v1520 : BitVec 32 := Scalar.muli v25 c1_i32_1467
  let v1521 : BitVec 32 := Scalar.addi c0_i32_1468 v1520
  v1521.toNat
def k0_dev50 (d0 : Dev nD) : Nat :=
  let c0_i32_1490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1489 : BitVec 32 := 1#32
  let v1531 : BitVec 32 := Scalar.muli v14 c1_i32_1489
  let v1532 : BitVec 32 := Scalar.addi c0_i32_1490 v1531
  v1532.toNat
def k0_dev51 (d0 : Dev nD) : Nat :=
  let c0_i32_1517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1516 : BitVec 32 := 1#32
  let v1562 : BitVec 32 := Scalar.muli v14 c1_i32_1516
  let v1563 : BitVec 32 := Scalar.addi c0_i32_1517 v1562
  v1563.toNat
def k0_dev52 (d0 : Dev nD) : Nat :=
  let c0_i32_1539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1538 : BitVec 32 := 1#32
  let v1573 : BitVec 32 := Scalar.muli v25 c1_i32_1538
  let v1574 : BitVec 32 := Scalar.addi c0_i32_1539 v1573
  v1574.toNat
def k0_dev53 (d0 : Dev nD) : Nat :=
  let c0_i32_1566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1565 : BitVec 32 := 1#32
  let v1604 : BitVec 32 := Scalar.muli v25 c1_i32_1565
  let v1605 : BitVec 32 := Scalar.addi c0_i32_1566 v1604
  v1605.toNat
def k0_dev54 (d0 : Dev nD) : Nat :=
  let c0_i32_1588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1587 : BitVec 32 := 1#32
  let v1615 : BitVec 32 := Scalar.muli v14 c1_i32_1587
  let v1616 : BitVec 32 := Scalar.addi c0_i32_1588 v1615
  v1616.toNat
def k0_dev55 (d0 : Dev nD) : Nat :=
  let c0_i32_1615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1614 : BitVec 32 := 1#32
  let v1646 : BitVec 32 := Scalar.muli v14 c1_i32_1614
  let v1647 : BitVec 32 := Scalar.addi c0_i32_1615 v1646
  v1647.toNat
def k0_dev56 (d0 : Dev nD) : Nat :=
  let c0_i32_1637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1636 : BitVec 32 := 1#32
  let v1657 : BitVec 32 := Scalar.muli v25 c1_i32_1636
  let v1658 : BitVec 32 := Scalar.addi c0_i32_1637 v1657
  v1658.toNat
def k0_dev57 (d0 : Dev nD) : Nat :=
  let c0_i32_1664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1663 : BitVec 32 := 1#32
  let v1688 : BitVec 32 := Scalar.muli v25 c1_i32_1663
  let v1689 : BitVec 32 := Scalar.addi c0_i32_1664 v1688
  v1689.toNat
def k0_dev58 (d0 : Dev nD) : Nat :=
  let c0_i32_1686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1685 : BitVec 32 := 1#32
  let v1699 : BitVec 32 := Scalar.muli v14 c1_i32_1685
  let v1700 : BitVec 32 := Scalar.addi c0_i32_1686 v1699
  v1700.toNat
def k0_dev59 (d0 : Dev nD) : Nat :=
  let c0_i32_1713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1712 : BitVec 32 := 1#32
  let v1730 : BitVec 32 := Scalar.muli v14 c1_i32_1712
  let v1731 : BitVec 32 := Scalar.addi c0_i32_1713 v1730
  v1731.toNat
def k0_dev60 (d0 : Dev nD) : Nat :=
  let c0_i32_1735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1734 : BitVec 32 := 1#32
  let v1741 : BitVec 32 := Scalar.muli v25 c1_i32_1734
  let v1742 : BitVec 32 := Scalar.addi c0_i32_1735 v1741
  v1742.toNat
def k0_dev61 (d0 : Dev nD) : Nat :=
  let c0_i32_1762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1761 : BitVec 32 := 1#32
  let v1772 : BitVec 32 := Scalar.muli v25 c1_i32_1761
  let v1773 : BitVec 32 := Scalar.addi c0_i32_1762 v1772
  v1773.toNat
def k0_dev62 (d0 : Dev nD) : Nat :=
  let c0_i32_1784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1783 : BitVec 32 := 1#32
  let v1783 : BitVec 32 := Scalar.muli v14 c1_i32_1783
  let v1784 : BitVec 32 := Scalar.addi c0_i32_1784 v1783
  v1784.toNat
def k0_dev63 (d0 : Dev nD) : Nat :=
  let c0_i32_1811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1810 : BitVec 32 := 1#32
  let v1814 : BitVec 32 := Scalar.muli v14 c1_i32_1810
  let v1815 : BitVec 32 := Scalar.addi c0_i32_1811 v1814
  v1815.toNat
def k0_dev64 (d0 : Dev nD) : Nat :=
  let c0_i32_1833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1832 : BitVec 32 := 1#32
  let v1825 : BitVec 32 := Scalar.muli v25 c1_i32_1832
  let v1826 : BitVec 32 := Scalar.addi c0_i32_1833 v1825
  v1826.toNat
def k0_dev65 (d0 : Dev nD) : Nat :=
  let c0_i32_1860 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1859 : BitVec 32 := 1#32
  let v1856 : BitVec 32 := Scalar.muli v25 c1_i32_1859
  let v1857 : BitVec 32 := Scalar.addi c0_i32_1860 v1856
  v1857.toNat
def k0_dev66 (d0 : Dev nD) : Nat :=
  let c0_i32_1882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1881 : BitVec 32 := 1#32
  let v1867 : BitVec 32 := Scalar.muli v14 c1_i32_1881
  let v1868 : BitVec 32 := Scalar.addi c0_i32_1882 v1867
  v1868.toNat
def k0_dev67 (d0 : Dev nD) : Nat :=
  let c0_i32_1909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1908 : BitVec 32 := 1#32
  let v1898 : BitVec 32 := Scalar.muli v14 c1_i32_1908
  let v1899 : BitVec 32 := Scalar.addi c0_i32_1909 v1898
  v1899.toNat
def k0_dev68 (d0 : Dev nD) : Nat :=
  let c0_i32_1931 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1930 : BitVec 32 := 1#32
  let v1909 : BitVec 32 := Scalar.muli v25 c1_i32_1930
  let v1910 : BitVec 32 := Scalar.addi c0_i32_1931 v1909
  v1910.toNat
def k0_dev69 (d0 : Dev nD) : Nat :=
  let c0_i32_1958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1957 : BitVec 32 := 1#32
  let v1940 : BitVec 32 := Scalar.muli v25 c1_i32_1957
  let v1941 : BitVec 32 := Scalar.addi c0_i32_1958 v1940
  v1941.toNat
def k0_dev70 (d0 : Dev nD) : Nat :=
  let c0_i32_1980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1979 : BitVec 32 := 1#32
  let v1951 : BitVec 32 := Scalar.muli v14 c1_i32_1979
  let v1952 : BitVec 32 := Scalar.addi c0_i32_1980 v1951
  v1952.toNat
def k0_dev71 (d0 : Dev nD) : Nat :=
  let c0_i32_2007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2006 : BitVec 32 := 1#32
  let v1982 : BitVec 32 := Scalar.muli v14 c1_i32_2006
  let v1983 : BitVec 32 := Scalar.addi c0_i32_2007 v1982
  v1983.toNat
def k0_dev72 (d0 : Dev nD) : Nat :=
  let c0_i32_2029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2028 : BitVec 32 := 1#32
  let v1993 : BitVec 32 := Scalar.muli v25 c1_i32_2028
  let v1994 : BitVec 32 := Scalar.addi c0_i32_2029 v1993
  v1994.toNat
def k0_dev73 (d0 : Dev nD) : Nat :=
  let c0_i32_2056 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2055 : BitVec 32 := 1#32
  let v2024 : BitVec 32 := Scalar.muli v25 c1_i32_2055
  let v2025 : BitVec 32 := Scalar.addi c0_i32_2056 v2024
  v2025.toNat
def k0_dev74 (d0 : Dev nD) : Nat :=
  let c0_i32_2078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2077 : BitVec 32 := 1#32
  let v2035 : BitVec 32 := Scalar.muli v14 c1_i32_2077
  let v2036 : BitVec 32 := Scalar.addi c0_i32_2078 v2035
  v2036.toNat
def k0_dev75 (d0 : Dev nD) : Nat :=
  let c0_i32_2105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2104 : BitVec 32 := 1#32
  let v2066 : BitVec 32 := Scalar.muli v14 c1_i32_2104
  let v2067 : BitVec 32 := Scalar.addi c0_i32_2105 v2066
  v2067.toNat
def k0_dev76 (d0 : Dev nD) : Nat :=
  let c0_i32_2127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2126 : BitVec 32 := 1#32
  let v2077 : BitVec 32 := Scalar.muli v25 c1_i32_2126
  let v2078 : BitVec 32 := Scalar.addi c0_i32_2127 v2077
  v2078.toNat
def k0_dev77 (d0 : Dev nD) : Nat :=
  let c0_i32_2154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2153 : BitVec 32 := 1#32
  let v2108 : BitVec 32 := Scalar.muli v25 c1_i32_2153
  let v2109 : BitVec 32 := Scalar.addi c0_i32_2154 v2108
  v2109.toNat
def k0_dev78 (d0 : Dev nD) : Nat :=
  let c0_i32_2176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2175 : BitVec 32 := 1#32
  let v2119 : BitVec 32 := Scalar.muli v14 c1_i32_2175
  let v2120 : BitVec 32 := Scalar.addi c0_i32_2176 v2119
  v2120.toNat
def k0_dev79 (d0 : Dev nD) : Nat :=
  let c0_i32_2203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2202 : BitVec 32 := 1#32
  let v2150 : BitVec 32 := Scalar.muli v14 c1_i32_2202
  let v2151 : BitVec 32 := Scalar.addi c0_i32_2203 v2150
  v2151.toNat
def k0_dev80 (d0 : Dev nD) : Nat :=
  let c0_i32_2225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2224 : BitVec 32 := 1#32
  let v2161 : BitVec 32 := Scalar.muli v25 c1_i32_2224
  let v2162 : BitVec 32 := Scalar.addi c0_i32_2225 v2161
  v2162.toNat
def k0_dev81 (d0 : Dev nD) : Nat :=
  let c0_i32_2252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2251 : BitVec 32 := 1#32
  let v2192 : BitVec 32 := Scalar.muli v25 c1_i32_2251
  let v2193 : BitVec 32 := Scalar.addi c0_i32_2252 v2192
  v2193.toNat
def k0_dev82 (d0 : Dev nD) : Nat :=
  let c0_i32_2274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2273 : BitVec 32 := 1#32
  let v2203 : BitVec 32 := Scalar.muli v14 c1_i32_2273
  let v2204 : BitVec 32 := Scalar.addi c0_i32_2274 v2203
  v2204.toNat
def k0_off11 (d0 : Dev nD) (c0_i32_118 : BitVec 32) (c0_i32_2306 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_116 : BitVec 32 := 1#32
  let v175 : BitVec 32 := Scalar.addi v2 c1_i32_116
  let c4_i32_117 : BitVec 32 := 4#32
  let v176 : BitVec 32 := Scalar.addi v175 c4_i32_117
  let v177 : BitVec 32 := Scalar.subi v176 c0_i32_118
  let c4_i32_119 : BitVec 32 := 4#32
  let c0_i32_120 : BitVec 32 := 0#32
  let v178 : BitVec 1 := Scalar.cmpi .eq c4_i32_119 c0_i32_120
  let c1_i32_121 : BitVec 32 := 1#32
  let v179 : BitVec 32 := Scalar.select v178 c1_i32_121 c4_i32_119
  let v180 : BitVec 32 := Scalar.remsi v177 v179
  let c0_i32_123 : BitVec 32 := 0#32
  let v182 : BitVec 1 := Scalar.cmpi .slt v180 c0_i32_123
  let c0_i32_124 : BitVec 32 := 0#32
  let v183 : BitVec 1 := Scalar.cmpi .slt v179 c0_i32_124
  let v184 : BitVec 1 := Scalar.xori v182 v183
  let c0_i32_122 : BitVec 32 := 0#32
  let v181 : BitVec 1 := Scalar.cmpi .ne v180 c0_i32_122
  let v185 : BitVec 1 := Scalar.andi v184 v181
  let v186 : BitVec 32 := Scalar.addi v180 v179
  let v187 : BitVec 32 := Scalar.select v185 v186 v180
  let c1024_i32_2305 : BitVec 32 := 1024#32
  let v2253 : BitVec 32 := Scalar.muli v187 c1024_i32_2305
  let v2254 : BitVec 32 := Scalar.addi v2253 c0_i32_2306
  let c0_i32_2315 : BitVec 32 := 0#32
  ![v2254.toNat, 0]
def k0_dev83 (d0 : Dev nD) : Nat :=
  let c0_i32_2314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2313 : BitVec 32 := 1#32
  let v2255 : BitVec 32 := Scalar.muli v25 c1_i32_2313
  let v2256 : BitVec 32 := Scalar.addi c0_i32_2314 v2255
  v2256.toNat
def k0_off12 (d0 : Dev nD) (c0_i32_145 : BitVec 32) (c0_i32_2345 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_143 : BitVec 32 := 4#32
  let v214 : BitVec 32 := Scalar.addi v2 c4_i32_143
  let c1_i32_144 : BitVec 32 := 1#32
  let v215 : BitVec 32 := Scalar.subi v214 c1_i32_144
  let v216 : BitVec 32 := Scalar.addi v215 c0_i32_145
  let c4_i32_146 : BitVec 32 := 4#32
  let c0_i32_147 : BitVec 32 := 0#32
  let v217 : BitVec 1 := Scalar.cmpi .eq c4_i32_146 c0_i32_147
  let c1_i32_148 : BitVec 32 := 1#32
  let v218 : BitVec 32 := Scalar.select v217 c1_i32_148 c4_i32_146
  let v219 : BitVec 32 := Scalar.remsi v216 v218
  let c0_i32_150 : BitVec 32 := 0#32
  let v221 : BitVec 1 := Scalar.cmpi .slt v219 c0_i32_150
  let c0_i32_151 : BitVec 32 := 0#32
  let v222 : BitVec 1 := Scalar.cmpi .slt v218 c0_i32_151
  let v223 : BitVec 1 := Scalar.xori v221 v222
  let c0_i32_149 : BitVec 32 := 0#32
  let v220 : BitVec 1 := Scalar.cmpi .ne v219 c0_i32_149
  let v224 : BitVec 1 := Scalar.andi v223 v220
  let v225 : BitVec 32 := Scalar.addi v219 v218
  let v226 : BitVec 32 := Scalar.select v224 v225 v219
  let c1024_i32_2344 : BitVec 32 := 1024#32
  let v2304 : BitVec 32 := Scalar.muli v226 c1024_i32_2344
  let v2305 : BitVec 32 := Scalar.addi v2304 c0_i32_2345
  let c1024_i32_2354 : BitVec 32 := 1024#32
  ![v2305.toNat, 1024]
def k0_dev84 (d0 : Dev nD) : Nat :=
  let c0_i32_2353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2352 : BitVec 32 := 1#32
  let v2306 : BitVec 32 := Scalar.muli v14 c1_i32_2352
  let v2307 : BitVec 32 := Scalar.addi c0_i32_2353 v2306
  v2307.toNat
def k0_dev85 (d0 : Dev nD) : Nat :=
  let c0_i32_2392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2391 : BitVec 32 := 1#32
  let v2357 : BitVec 32 := Scalar.muli v25 c1_i32_2391
  let v2358 : BitVec 32 := Scalar.addi c0_i32_2392 v2357
  v2358.toNat
def k0_dev86 (d0 : Dev nD) : Nat :=
  let c0_i32_2431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2430 : BitVec 32 := 1#32
  let v2408 : BitVec 32 := Scalar.muli v14 c1_i32_2430
  let v2409 : BitVec 32 := Scalar.addi c0_i32_2431 v2408
  v2409.toNat
def k0_dev87 (d0 : Dev nD) : Nat :=
  let c0_i32_2470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2469 : BitVec 32 := 1#32
  let v2459 : BitVec 32 := Scalar.muli v25 c1_i32_2469
  let v2460 : BitVec 32 := Scalar.addi c0_i32_2470 v2459
  v2460.toNat
def k0_dev88 (d0 : Dev nD) : Nat :=
  let c0_i32_2509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2508 : BitVec 32 := 1#32
  let v2510 : BitVec 32 := Scalar.muli v14 c1_i32_2508
  let v2511 : BitVec 32 := Scalar.addi c0_i32_2509 v2510
  v2511.toNat
def k0_dev89 (d0 : Dev nD) : Nat :=
  let c0_i32_2548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2547 : BitVec 32 := 1#32
  let v2561 : BitVec 32 := Scalar.muli v25 c1_i32_2547
  let v2562 : BitVec 32 := Scalar.addi c0_i32_2548 v2561
  v2562.toNat
def k0_dev90 (d0 : Dev nD) : Nat :=
  let c0_i32_2587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2586 : BitVec 32 := 1#32
  let v2612 : BitVec 32 := Scalar.muli v14 c1_i32_2586
  let v2613 : BitVec 32 := Scalar.addi c0_i32_2587 v2612
  v2613.toNat
def k0_dev91 (d0 : Dev nD) : Nat :=
  let c0_i32_2626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2625 : BitVec 32 := 1#32
  let v2663 : BitVec 32 := Scalar.muli v25 c1_i32_2625
  let v2664 : BitVec 32 := Scalar.addi c0_i32_2626 v2663
  v2664.toNat
def k0_dev92 (d0 : Dev nD) : Nat :=
  let c0_i32_2665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2664 : BitVec 32 := 1#32
  let v2714 : BitVec 32 := Scalar.muli v14 c1_i32_2664
  let v2715 : BitVec 32 := Scalar.addi c0_i32_2665 v2714
  v2715.toNat
def k0_dev93 (d0 : Dev nD) : Nat :=
  let c0_i32_2704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2703 : BitVec 32 := 1#32
  let v2765 : BitVec 32 := Scalar.muli v25 c1_i32_2703
  let v2766 : BitVec 32 := Scalar.addi c0_i32_2704 v2765
  v2766.toNat
def k0_dev94 (d0 : Dev nD) : Nat :=
  let c0_i32_2743 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2742 : BitVec 32 := 1#32
  let v2816 : BitVec 32 := Scalar.muli v14 c1_i32_2742
  let v2817 : BitVec 32 := Scalar.addi c0_i32_2743 v2816
  v2817.toNat
def k0_dev95 (d0 : Dev nD) : Nat :=
  let c0_i32_2782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2781 : BitVec 32 := 1#32
  let v2867 : BitVec 32 := Scalar.muli v25 c1_i32_2781
  let v2868 : BitVec 32 := Scalar.addi c0_i32_2782 v2867
  v2868.toNat
def k0_dev96 (d0 : Dev nD) : Nat :=
  let c0_i32_2821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2820 : BitVec 32 := 1#32
  let v2918 : BitVec 32 := Scalar.muli v14 c1_i32_2820
  let v2919 : BitVec 32 := Scalar.addi c0_i32_2821 v2918
  v2919.toNat
def k0_dev97 (d0 : Dev nD) : Nat :=
  let c0_i32_2860 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2859 : BitVec 32 := 1#32
  let v2969 : BitVec 32 := Scalar.muli v25 c1_i32_2859
  let v2970 : BitVec 32 := Scalar.addi c0_i32_2860 v2969
  v2970.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_83 : BitVec 32 := 4#32
  let v126 : BitVec 32 := Scalar.addi v2 c4_i32_83
  let c2_i32_84 : BitVec 32 := 2#32
  let v127 : BitVec 32 := Scalar.subi v126 c2_i32_84
  let c1_i32_85 : BitVec 32 := 1#32
  let v128 : BitVec 32 := Scalar.subi v127 c1_i32_85
  let c4_i32_86 : BitVec 32 := 4#32
  let c0_i32_87 : BitVec 32 := 0#32
  let v129 : BitVec 1 := Scalar.cmpi .eq c4_i32_86 c0_i32_87
  let c1_i32_88 : BitVec 32 := 1#32
  let v130 : BitVec 32 := Scalar.select v129 c1_i32_88 c4_i32_86
  let v131 : BitVec 32 := Scalar.remsi v128 v130
  let c0_i32_90 : BitVec 32 := 0#32
  let v133 : BitVec 1 := Scalar.cmpi .slt v131 c0_i32_90
  let c0_i32_91 : BitVec 32 := 0#32
  let v134 : BitVec 1 := Scalar.cmpi .slt v130 c0_i32_91
  let v135 : BitVec 1 := Scalar.xori v133 v134
  let c0_i32_89 : BitVec 32 := 0#32
  let v132 : BitVec 1 := Scalar.cmpi .ne v131 c0_i32_89
  let v136 : BitVec 1 := Scalar.andi v135 v132
  let v137 : BitVec 32 := Scalar.addi v131 v130
  let v138 : BitVec 32 := Scalar.select v136 v137 v131
  let c1024_i32_2863 : BitVec 32 := 1024#32
  let v2977 : BitVec 32 := Scalar.muli v138 c1024_i32_2863
  let c0_i32_2866 : BitVec 32 := 0#32
  ![v2977.toNat, 0]
def k0_dev98 (d0 : Dev nD) : Nat :=
  let c0_i32_2904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2903 : BitVec 32 := 1#32
  let v3025 : BitVec 32 := Scalar.muli v14 c1_i32_2903
  let v3026 : BitVec 32 := Scalar.addi c0_i32_2904 v3025
  v3026.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_108 : BitVec 32 := 2#32
  let v163 : BitVec 32 := Scalar.addi v2 c2_i32_108
  let c1_i32_109 : BitVec 32 := 1#32
  let v164 : BitVec 32 := Scalar.addi v163 c1_i32_109
  let c4_i32_110 : BitVec 32 := 4#32
  let c0_i32_111 : BitVec 32 := 0#32
  let v165 : BitVec 1 := Scalar.cmpi .eq c4_i32_110 c0_i32_111
  let c1_i32_112 : BitVec 32 := 1#32
  let v166 : BitVec 32 := Scalar.select v165 c1_i32_112 c4_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1024_i32_2907 : BitVec 32 := 1024#32
  let v3033 : BitVec 32 := Scalar.muli v174 c1024_i32_2907
  let c1024_i32_2910 : BitVec 32 := 1024#32
  ![v3033.toNat, 1024]
def k0_dev99 (d0 : Dev nD) : Nat :=
  let c0_i32_2937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2936 : BitVec 32 := 1#32
  let v3052 : BitVec 32 := Scalar.muli v25 c1_i32_2936
  let v3053 : BitVec 32 := Scalar.addi c0_i32_2937 v3052
  v3053.toNat
def k0_dev100 (d0 : Dev nD) : Nat :=
  let c0_i32_2965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2964 : BitVec 32 := 1#32
  let v3074 : BitVec 32 := Scalar.muli v14 c1_i32_2964
  let v3075 : BitVec 32 := Scalar.addi c0_i32_2965 v3074
  v3075.toNat
def k0_dev101 (d0 : Dev nD) : Nat :=
  let c0_i32_2993 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2992 : BitVec 32 := 1#32
  let v3096 : BitVec 32 := Scalar.muli v25 c1_i32_2992
  let v3097 : BitVec 32 := Scalar.addi c0_i32_2993 v3096
  v3097.toNat
def k0_dev102 (d0 : Dev nD) : Nat :=
  let c0_i32_3021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3020 : BitVec 32 := 1#32
  let v3118 : BitVec 32 := Scalar.muli v14 c1_i32_3020
  let v3119 : BitVec 32 := Scalar.addi c0_i32_3021 v3118
  v3119.toNat
def k0_dev103 (d0 : Dev nD) : Nat :=
  let c0_i32_3049 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3048 : BitVec 32 := 1#32
  let v3140 : BitVec 32 := Scalar.muli v25 c1_i32_3048
  let v3141 : BitVec 32 := Scalar.addi c0_i32_3049 v3140
  v3141.toNat
def k0_dev104 (d0 : Dev nD) : Nat :=
  let c0_i32_3077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3076 : BitVec 32 := 1#32
  let v3162 : BitVec 32 := Scalar.muli v14 c1_i32_3076
  let v3163 : BitVec 32 := Scalar.addi c0_i32_3077 v3162
  v3163.toNat
def k0_dev105 (d0 : Dev nD) : Nat :=
  let c0_i32_3105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3104 : BitVec 32 := 1#32
  let v3184 : BitVec 32 := Scalar.muli v25 c1_i32_3104
  let v3185 : BitVec 32 := Scalar.addi c0_i32_3105 v3184
  v3185.toNat
def k0_dev106 (d0 : Dev nD) : Nat :=
  let c0_i32_3133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3132 : BitVec 32 := 1#32
  let v3206 : BitVec 32 := Scalar.muli v14 c1_i32_3132
  let v3207 : BitVec 32 := Scalar.addi c0_i32_3133 v3206
  v3207.toNat
def k0_dev107 (d0 : Dev nD) : Nat :=
  let c0_i32_3161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3160 : BitVec 32 := 1#32
  let v3228 : BitVec 32 := Scalar.muli v25 c1_i32_3160
  let v3229 : BitVec 32 := Scalar.addi c0_i32_3161 v3228
  v3229.toNat
def k0_dev108 (d0 : Dev nD) : Nat :=
  let c0_i32_3189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3188 : BitVec 32 := 1#32
  let v3250 : BitVec 32 := Scalar.muli v14 c1_i32_3188
  let v3251 : BitVec 32 := Scalar.addi c0_i32_3189 v3250
  v3251.toNat
def k0_dev109 (d0 : Dev nD) : Nat :=
  let c0_i32_3217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3216 : BitVec 32 := 1#32
  let v3272 : BitVec 32 := Scalar.muli v25 c1_i32_3216
  let v3273 : BitVec 32 := Scalar.addi c0_i32_3217 v3272
  v3273.toNat
def k0_dev110 (d0 : Dev nD) : Nat :=
  let c0_i32_3245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3244 : BitVec 32 := 1#32
  let v3294 : BitVec 32 := Scalar.muli v14 c1_i32_3244
  let v3295 : BitVec 32 := Scalar.addi c0_i32_3245 v3294
  v3295.toNat
def k0_dev111 (d0 : Dev nD) : Nat :=
  let c0_i32_3273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3272 : BitVec 32 := 1#32
  let v3316 : BitVec 32 := Scalar.muli v25 c1_i32_3272
  let v3317 : BitVec 32 := Scalar.addi c0_i32_3273 v3316
  v3317.toNat
def k0_dev112 (d0 : Dev nD) : Nat :=
  let c0_i32_3301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3300 : BitVec 32 := 1#32
  let v3338 : BitVec 32 := Scalar.muli v14 c1_i32_3300
  let v3339 : BitVec 32 := Scalar.addi c0_i32_3301 v3338
  v3339.toNat
def k0_dev113 (d0 : Dev nD) : Nat :=
  let c0_i32_3329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3328 : BitVec 32 := 1#32
  let v3360 : BitVec 32 := Scalar.muli v25 c1_i32_3328
  let v3361 : BitVec 32 := Scalar.addi c0_i32_3329 v3360
  v3361.toNat
def k0_off15 (d0 : Dev nD) (c0_i32_171 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_170 : BitVec 32 := 4#32
  let v253 : BitVec 32 := Scalar.addi v2 c4_i32_170
  let v254 : BitVec 32 := Scalar.subi v253 c0_i32_171
  let c4_i32_172 : BitVec 32 := 4#32
  let c0_i32_173 : BitVec 32 := 0#32
  let v255 : BitVec 1 := Scalar.cmpi .eq c4_i32_172 c0_i32_173
  let c1_i32_174 : BitVec 32 := 1#32
  let v256 : BitVec 32 := Scalar.select v255 c1_i32_174 c4_i32_172
  let v257 : BitVec 32 := Scalar.remsi v254 v256
  let c0_i32_176 : BitVec 32 := 0#32
  let v259 : BitVec 1 := Scalar.cmpi .slt v257 c0_i32_176
  let c0_i32_177 : BitVec 32 := 0#32
  let v260 : BitVec 1 := Scalar.cmpi .slt v256 c0_i32_177
  let v261 : BitVec 1 := Scalar.xori v259 v260
  let c0_i32_175 : BitVec 32 := 0#32
  let v258 : BitVec 1 := Scalar.cmpi .ne v257 c0_i32_175
  let v262 : BitVec 1 := Scalar.andi v261 v258
  let v263 : BitVec 32 := Scalar.addi v257 v256
  let v264 : BitVec 32 := Scalar.select v262 v263 v257
  let c1024_i32_3332 : BitVec 32 := 1024#32
  let v3368 : BitVec 32 := Scalar.muli v264 c1024_i32_3332
  let c0_i32_3335 : BitVec 32 := 0#32
  ![v3368.toNat, 0]
def k0_dev114 (d0 : Dev nD) : Nat :=
  let c0_i32_3362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3361 : BitVec 32 := 1#32
  let v3387 : BitVec 32 := Scalar.muli v14 c1_i32_3361
  let v3388 : BitVec 32 := Scalar.addi c0_i32_3362 v3387
  v3388.toNat
def k0_off16 (d0 : Dev nD) (c0_i32_194 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v289 : BitVec 32 := Scalar.addi v2 c0_i32_194
  let c4_i32_195 : BitVec 32 := 4#32
  let c0_i32_196 : BitVec 32 := 0#32
  let v290 : BitVec 1 := Scalar.cmpi .eq c4_i32_195 c0_i32_196
  let c1_i32_197 : BitVec 32 := 1#32
  let v291 : BitVec 32 := Scalar.select v290 c1_i32_197 c4_i32_195
  let v292 : BitVec 32 := Scalar.remsi v289 v291
  let c0_i32_199 : BitVec 32 := 0#32
  let v294 : BitVec 1 := Scalar.cmpi .slt v292 c0_i32_199
  let c0_i32_200 : BitVec 32 := 0#32
  let v295 : BitVec 1 := Scalar.cmpi .slt v291 c0_i32_200
  let v296 : BitVec 1 := Scalar.xori v294 v295
  let c0_i32_198 : BitVec 32 := 0#32
  let v293 : BitVec 1 := Scalar.cmpi .ne v292 c0_i32_198
  let v297 : BitVec 1 := Scalar.andi v296 v293
  let v298 : BitVec 32 := Scalar.addi v292 v291
  let v299 : BitVec 32 := Scalar.select v297 v298 v292
  let c1024_i32_3365 : BitVec 32 := 1024#32
  let v3395 : BitVec 32 := Scalar.muli v299 c1024_i32_3365
  let c1024_i32_3368 : BitVec 32 := 1024#32
  ![v3395.toNat, 1024]
def k0_dev115 (d0 : Dev nD) : Nat :=
  let c0_i32_3395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3394 : BitVec 32 := 1#32
  let v3414 : BitVec 32 := Scalar.muli v25 c1_i32_3394
  let v3415 : BitVec 32 := Scalar.addi c0_i32_3395 v3414
  v3415.toNat
def k0_dev116 (d0 : Dev nD) : Nat :=
  let c0_i32_3423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3422 : BitVec 32 := 1#32
  let v3436 : BitVec 32 := Scalar.muli v14 c1_i32_3422
  let v3437 : BitVec 32 := Scalar.addi c0_i32_3423 v3436
  v3437.toNat
def k0_dev117 (d0 : Dev nD) : Nat :=
  let c0_i32_3451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3450 : BitVec 32 := 1#32
  let v3458 : BitVec 32 := Scalar.muli v25 c1_i32_3450
  let v3459 : BitVec 32 := Scalar.addi c0_i32_3451 v3458
  v3459.toNat
def k0_dev118 (d0 : Dev nD) : Nat :=
  let c0_i32_3479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3478 : BitVec 32 := 1#32
  let v3480 : BitVec 32 := Scalar.muli v14 c1_i32_3478
  let v3481 : BitVec 32 := Scalar.addi c0_i32_3479 v3480
  v3481.toNat
def k0_dev119 (d0 : Dev nD) : Nat :=
  let c0_i32_3507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3506 : BitVec 32 := 1#32
  let v3502 : BitVec 32 := Scalar.muli v25 c1_i32_3506
  let v3503 : BitVec 32 := Scalar.addi c0_i32_3507 v3502
  v3503.toNat
def k0_dev120 (d0 : Dev nD) : Nat :=
  let c0_i32_3535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3534 : BitVec 32 := 1#32
  let v3524 : BitVec 32 := Scalar.muli v14 c1_i32_3534
  let v3525 : BitVec 32 := Scalar.addi c0_i32_3535 v3524
  v3525.toNat
def k0_dev121 (d0 : Dev nD) : Nat :=
  let c0_i32_3563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3562 : BitVec 32 := 1#32
  let v3546 : BitVec 32 := Scalar.muli v25 c1_i32_3562
  let v3547 : BitVec 32 := Scalar.addi c0_i32_3563 v3546
  v3547.toNat
def k0_dev122 (d0 : Dev nD) : Nat :=
  let c0_i32_3591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3590 : BitVec 32 := 1#32
  let v3568 : BitVec 32 := Scalar.muli v14 c1_i32_3590
  let v3569 : BitVec 32 := Scalar.addi c0_i32_3591 v3568
  v3569.toNat
def k0_dev123 (d0 : Dev nD) : Nat :=
  let c0_i32_3619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3618 : BitVec 32 := 1#32
  let v3590 : BitVec 32 := Scalar.muli v25 c1_i32_3618
  let v3591 : BitVec 32 := Scalar.addi c0_i32_3619 v3590
  v3591.toNat
def k0_dev124 (d0 : Dev nD) : Nat :=
  let c0_i32_3647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3646 : BitVec 32 := 1#32
  let v3612 : BitVec 32 := Scalar.muli v14 c1_i32_3646
  let v3613 : BitVec 32 := Scalar.addi c0_i32_3647 v3612
  v3613.toNat
def k0_dev125 (d0 : Dev nD) : Nat :=
  let c0_i32_3675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3674 : BitVec 32 := 1#32
  let v3634 : BitVec 32 := Scalar.muli v25 c1_i32_3674
  let v3635 : BitVec 32 := Scalar.addi c0_i32_3675 v3634
  v3635.toNat
def k0_dev126 (d0 : Dev nD) : Nat :=
  let c0_i32_3703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3702 : BitVec 32 := 1#32
  let v3656 : BitVec 32 := Scalar.muli v14 c1_i32_3702
  let v3657 : BitVec 32 := Scalar.addi c0_i32_3703 v3656
  v3657.toNat
def k0_dev127 (d0 : Dev nD) : Nat :=
  let c0_i32_3731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3730 : BitVec 32 := 1#32
  let v3678 : BitVec 32 := Scalar.muli v25 c1_i32_3730
  let v3679 : BitVec 32 := Scalar.addi c0_i32_3731 v3678
  v3679.toNat
def k0_dev128 (d0 : Dev nD) : Nat :=
  let c0_i32_3759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3758 : BitVec 32 := 1#32
  let v3700 : BitVec 32 := Scalar.muli v14 c1_i32_3758
  let v3701 : BitVec 32 := Scalar.addi c0_i32_3759 v3700
  v3701.toNat
def k0_dev129 (d0 : Dev nD) : Nat :=
  let c0_i32_3787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3786 : BitVec 32 := 1#32
  let v3722 : BitVec 32 := Scalar.muli v25 c1_i32_3786
  let v3723 : BitVec 32 := Scalar.addi c0_i32_3787 v3722
  v3723.toNat
def k0_dev130 (d0 : Dev nD) : Nat :=
  let c0_i32_3820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3819 : BitVec 32 := 1#32
  let v3749 : BitVec 32 := Scalar.muli v14 c1_i32_3819
  let v3750 : BitVec 32 := Scalar.addi c0_i32_3820 v3749
  v3750.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/- The kernel body written over again as a chain of parametric steps: one definition per kind of step, indexed by the
   row slab, the lane (direction, row sub-block) and the hop, with the offsets, devices and semaphores of the printed
   text. `body_eq` says that the printed body is that chain. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.RS

open Idealize.ShloMosaic Idealize.ShloMosaic.TcCoe
open Idealize.SL Idealize.SL.Sem
open Cert.KernelIdeal Cert.KernelIdeal.Gen

variable {F : FTy → Type} [FloatOps F]

/-- A device's program. -/
abbrev PG (F : FTy → Type) : Type 1 := Prog (TpuEff nD τ sig (Elt F) Λ₀ .tc) PUnit

/-! ### Devices -/

/-- Where direction `d` sends: the right neighbour for 0, the left one for 1. -/
def nxt (d : Fin 2) (c : Dev nD) : Dev nD :=
  if d = 0 then ⟨k0_dev3 c, k0_dev3_lt c⟩ else ⟨k0_dev4 c, k0_dev4_lt c⟩
/-- Where direction `d` receives from. -/
def prv (d : Fin 2) (c : Dev nD) : Dev nD :=
  if d = 0 then ⟨k0_dev1 c, k0_dev1_lt c⟩ else ⟨k0_dev2 c, k0_dev2_lt c⟩

/-! ### Buffers -/

/-- The device's columns of `x`. -/
abbrev xM : Memref sig .tc .hbm S4096x1024 .f32 := Memref.whole main_arg0
/-- The result. -/
abbrev outM : Memref sig .tc .hbm S4096x2048 .f32 := Memref.whole main_v1
/-- The two slots the row slabs of `x` are copied into. -/
abbrev bufM : Memref sig .tc .vmem S2x256x1024 .f32 := Memref.whole cc0_scratch0
/-- The landing buffer of the reduce-scatter, one half per direction. -/
abbrev commM : Memref sig .tc .vmem S2x1024x1024 .f32 := Memref.whole cc0_scratch1
/-- The accumulator. -/
abbrev accM : Memref sig .tc .vmem S4096x2048 .f32 := Memref.whole cc0_scratch8

/-! ### Offsets, as the kernel computes them -/

/-- The first row of the `i`-th row slab of `x` in the order the kernel takes them. -/
def xOff (c : Dev nD) (i : Fin 16) : Fin 2 → Nat :=
  if i.val / 4 = 0 then k0_off1 c (BitVec.ofNat 32 (256 * (i.val % 4)))
  else if i.val / 4 = 1 then k0_off5 c (BitVec.ofNat 32 (256 * (i.val % 4)))
  else k0_off7 c (BitVec.ofNat 32 (i.val / 4 - 1)) (BitVec.ofNat 32 (256 * (i.val % 4)))
/-- The corner of the accumulator's slab for the `i`-th row slab. -/
def gOff (c : Dev nD) (i : Fin 16) : Fin 2 → Nat :=
  if i.val / 4 = 0 then k0_off2 c (BitVec.ofNat 32 (256 * (i.val % 4)))
  else if i.val / 4 = 1 then k0_off6 c (BitVec.ofNat 32 (256 * (i.val % 4)))
  else k0_off8 c (BitVec.ofNat 32 (i.val / 4 - 1)) (BitVec.ofNat 32 (256 * (i.val % 4)))
/-- The corner of the block a reduce-scatter hop sends. -/
def sOff (c : Dev nD) (d : Fin 2) (s : Fin 3) (k : Fin 8) : Fin 2 → Nat :=
  if d = 0 then k0_off3 c (BitVec.ofNat 32 s.val) (BitVec.ofNat 32 (128 * k.val))
  else k0_off4 c (BitVec.ofNat 32 s.val) (BitVec.ofNat 32 (128 * k.val))
/-- The corner of the block a reduce-scatter hop adds to. -/
def aOff (c : Dev nD) (d : Fin 2) (s : Fin 3) (k : Fin 8) : Fin 2 → Nat :=
  if d = 0 then k0_off9 c (BitVec.ofNat 32 s.val) (BitVec.ofNat 32 (128 * k.val))
  else k0_off10 c (BitVec.ofNat 32 s.val) (BitVec.ofNat 32 (128 * k.val))
/-- The corner of the block an all-gather hop sends. -/
def hOff (c : Dev nD) (d : Fin 2) (h : Fin 3) (k : Fin 8) : Fin 2 → Nat :=
  if d = 0 then k0_off11 c (BitVec.ofNat 32 h.val) (BitVec.ofNat 32 (128 * k.val))
  else k0_off12 c (BitVec.ofNat 32 h.val) (BitVec.ofNat 32 (128 * k.val))
/-- The corner of the half chunk written out after all-gather hop `h`. -/
def fOff (c : Dev nD) (d : Fin 2) (h : Fin 4) : Fin 2 → Nat :=
  if h.val = 0 then (if d = 0 then k0_off13 c else k0_off14 c)
  else if d = 0 then k0_off15 c (BitVec.ofNat 32 (h.val - 1)) else k0_off16 c (BitVec.ofNat 32 (h.val - 1))

theorem xOff_inb : ∀ (c : Dev nD) (i : Fin 16) (a), xOff c i a + S256x1024.size a ≤ S4096x1024.size a := by decide +kernel
theorem gOff_inb : ∀ (c : Dev nD) (i : Fin 16) (a), gOff c i a + S256x2048.size a ≤ S4096x2048.size a := by decide +kernel
theorem sOff_inb : ∀ (c : Dev nD) (d : Fin 2) (s : Fin 3) (k : Fin 8) (a), sOff c d s k a + S128x1024.size a ≤ S4096x2048.size a := by decide +kernel
theorem aOff_inb : ∀ (c : Dev nD) (d : Fin 2) (s : Fin 3) (k : Fin 8) (a), aOff c d s k a + S128x1024.size a ≤ S4096x2048.size a := by decide +kernel
theorem hOff_inb : ∀ (c : Dev nD) (d : Fin 2) (s : Fin 3) (k : Fin 8) (a), hOff c d s k a + S128x1024.size a ≤ S4096x2048.size a := by decide +kernel
theorem fOff_inb : ∀ (c : Dev nD) (d : Fin 2) (h : Fin 4) (a), fOff c d h a + S1024x1024.size a ≤ S4096x2048.size a := by decide +kernel
theorem buf_inb : ∀ (b : Fin 2) (a), (![b.val, 0, 0] : Fin 3 → Nat) a + S1x256x1024.size a ≤ S2x256x1024.size a := by decide +kernel
theorem comm_inb : ∀ (d : Fin 2) (k : Fin 8) (a), (![d.val, 128 * k.val, 0] : Fin 3 → Nat) a + S1x128x1024.size a ≤ S2x1024x1024.size a := by decide +kernel
theorem w_inb : ∀ a, (![0, 0] : Fin 2 → Nat) a + S1024x2048.size a ≤ S1024x2048.size a := by decide +kernel

/-! ### Views -/

/-- A row slab of `x`. -/
def xV (c : Dev nD) (i : Fin 16) : Memref sig .tc .hbm S256x1024 .f32 :=
  xM.slice (Rect.unit (s := S4096x1024) (xOff c i) S256x1024.size (xOff_inb c i)) (fun _ => rfl)
/-- A slot of the copy buffer. -/
def bufV (b : Fin 2) : Memref sig .tc .vmem S256x1024 .f32 :=
  (bufM.slice (Rect.unit (s := S2x256x1024) ![b.val, 0, 0] S1x256x1024.size (buf_inb b)) (fun _ => rfl)).squeeze S256x1024 squeezes_S1x256x1024_S256x1024
/-- A block of the landing buffer. -/
def commV (d : Fin 2) (k : Fin 8) : Memref sig .tc .vmem S128x1024 .f32 :=
  (commM.slice (Rect.unit (s := S2x1024x1024) ![d.val, 128 * k.val, 0] S1x128x1024.size (comm_inb d k)) (fun _ => rfl)).squeeze S128x1024 squeezes_S1x128x1024_S128x1024
/-- A block of the accumulator at a corner. -/
def accB (off : Fin 2 → Nat) (h : ∀ a, off a + S128x1024.size a ≤ S4096x2048.size a) : Memref sig .tc .vmem S128x1024 .f32 :=
  accM.slice (Rect.unit (s := S4096x2048) off S128x1024.size h) (fun _ => rfl)
/-- A half chunk of the accumulator at a corner. -/
def accH (off : Fin 2 → Nat) (h : ∀ a, off a + S1024x1024.size a ≤ S4096x2048.size a) : Memref sig .tc .vmem S1024x1024 .f32 :=
  accM.slice (Rect.unit (s := S4096x2048) off S1024x1024.size h) (fun _ => rfl)
/-- A half chunk of the result at a corner. -/
def outH (off : Fin 2 → Nat) (h : ∀ a, off a + S1024x1024.size a ≤ S4096x2048.size a) : Memref sig .tc .hbm S1024x1024 .f32 :=
  outM.slice (Rect.unit (s := S4096x2048) off S1024x1024.size h) (fun _ => rfl)

/-! ### Semaphores -/

/-- The runtime's barrier semaphore. -/
def barS : Sem sig := (SemArray.scalar (sig.barrier 0 rfl) : Sems sig S_).sem
/-- The credit semaphore of a lane. -/
def creditS (d : Fin 2) (k : Fin 8) : Sem sig := ⟨8 * d.val + k.val, by have := d.2; have := k.2; show _ < 17; omega⟩
/-- A DMA semaphore by number. -/
def dsem (n : ℕ) (h : n < 139) : DmaSem sig := ⟨n, h⟩
/-- The semaphore of a slot of the copy buffer. -/
def copyS (b : Fin 2) : DmaSem sig := dsem (1 + b.val) (by have := b.2; omega)
/-- The semaphore the sends of hop `t` (0 to 2: reduce-scatter, 3 to 5: all-gather) complete on. -/
def sendS (t : Fin 6) (d : Fin 2) (k : Fin 8) : DmaSem sig :=
  if t.val < 3 then dsem (3 + (8 * d.val + k.val)) (by have := d.2; have := k.2; omega)
  else dsem (35 + (24 * d.val + 8 * (t.val - 3) + k.val)) (by have := d.2; have := k.2; have := t.2; omega)
/-- The semaphore the arrivals of hop `t` complete on. -/
def recvS (t : Fin 6) (d : Fin 2) (k : Fin 8) : DmaSem sig :=
  if t.val < 3 then dsem (19 + (8 * d.val + k.val)) (by have := d.2; have := k.2; omega)
  else dsem (83 + (24 * d.val + 8 * (t.val - 3) + k.val)) (by have := d.2; have := k.2; have := t.2; omega)
/-- The semaphore a half chunk written out completes on. -/
def flushS (d : Fin 2) (h : Fin 4) : DmaSem sig := dsem (131 + (4 * d.val + h.val)) (by have := d.2; have := h.2; omega)

/-! ### Steps, each with what follows it -/

/-- A local copy. -/
def copyP {sp sp' : Space} {s : Shape} (src : Memref sig .tc sp s .f32) (dst : Memref sig .tc sp' s .f32) (sem : DmaSem sig)
    (h : DmaTarget.Typed (nD := nD) (τ := τ) (p := .tc) sp (.dma sem) (.here dst)) (K : PG F) : PG F :=
  .op (.enqueueDma src (.here dst) (.dma sem) (View.wordExact_bits rfl) (View.wordExact_bits rfl) h) fun _ => K
/-- A wait for a copy. -/
def waitP {sp sp' : Space} {s : Shape} (sem : DmaSem sig) (src : Memref sig .tc sp s .f32) (dst : Memref sig .tc sp' s .f32) (K : PG F) : PG F :=
  .op (.waitDma2 sem src dst (View.wordExact_bits rfl) (View.wordExact_bits rfl)) fun _ => K
/-- A transfer to a neighbour. -/
def sendP (e : Dev nD) (src dst : Memref sig .tc .vmem S128x1024 .f32) (sS sR : DmaSem sig) (K : PG F) : PG F :=
  .op (.enqueueDma src (.remote (Dev.tc e) dst (.dma sS)) (.dma sR) (View.wordExact_bits rfl) (View.wordExact_bits rfl) ⟨⟨rfl, Or.inl rfl⟩, trivial⟩) fun _ => K
/-- A unit to a neighbour's semaphore. -/
def sigP (e : Dev nD) (sm : Sem sig) (K : PG F) : PG F := .op (.semSignal (Dev.tc e) sm (1 : ℕ)) fun _ => K
/-- A wait for `n` units. -/
def swaitP (sm : Sem sig) (n : ℕ) (K : PG F) : PG F := .op (.semWait sm (n : ℕ)) fun _ => K

/-- Start the copy of row slab `i`. -/
def xstart (c : Dev nD) (i : Fin 16) (K : PG F) : PG F :=
  copyP (xV c i) (bufV ⟨i.val % 2, Nat.mod_lt _ (by decide)⟩) (copyS ⟨i.val % 2, Nat.mod_lt _ (by decide)⟩) ⟨Or.inl rfl, trivial⟩ K
/-- Wait for row slab `i`. -/
def xwait (c : Dev nD) (i : Fin 16) (K : PG F) : PG F :=
  waitP (copyS ⟨i.val % 2, Nat.mod_lt _ (by decide)⟩) (xV c i) (bufV ⟨i.val % 2, Nat.mod_lt _ (by decide)⟩) K
/-- Multiply row slab `i`, held in slot `b`, into the accumulator at the corner `off`. -/
def gemmP (w : Memref sig .tc .vmem S1024x2048 .f32) (b : Fin 2) (off : Fin 2 → Nat) (h : ∀ a, off a + S256x2048.size a ≤ S4096x2048.size a) (K : PG F) : PG F :=
  .op (.load bufM (Rect.unit (s := S2x256x1024) ![b.val, 0, 0] S1x256x1024.size (buf_inb b)).toLoadRect (View.loadsAt_vmem h_S1x256x1024)) fun v =>
  .op (.load w (Rect.unit (s := S1024x2048) ![0, 0] S1024x2048.size w_inb).toLoadRect (View.loadsAt_vmem h_S1024x2048)) fun u =>
  .op (.load accM (Rect.unit (s := S4096x2048) off S256x2048.size h).toLoadRect (View.loadsAt_vmem h_S256x2048)) fun _ =>
  .op (.store accM (Rect.unit (s := S4096x2048) off S256x2048.size h) (k0_pay1 v u) Finset.univ (View.stores_vmem_bits_univ h_S256x2048 rfl) (.inl rfl)) fun _ => K
/-- A reduce-scatter hop's transfer. -/
def rsend (c : Dev nD) (t : Fin 3) (d : Fin 2) (k : Fin 8) (K : PG F) : PG F :=
  sendP (nxt d c) (accB (sOff c d t k) (sOff_inb c d t k)) (commV d k) (sendS ⟨t.val, by omega⟩ d k) (recvS ⟨t.val, by omega⟩ d k) K
/-- An all-gather hop's transfer. -/
def asend (c : Dev nD) (t : Fin 3) (d : Fin 2) (k : Fin 8) (K : PG F) : PG F :=
  sendP (nxt d c) (accB (hOff c d t k) (hOff_inb c d t k)) (accB (hOff c d t k) (hOff_inb c d t k)) (sendS ⟨3 + t.val, by omega⟩ d k) (recvS ⟨3 + t.val, by omega⟩ d k) K
/-- The landed block added into the accumulator's. -/
def addP (d : Fin 2) (k : Fin 8) (off : Fin 2 → Nat) (h : ∀ a, off a + S128x1024.size a ≤ S4096x2048.size a) (K : PG F) : PG F :=
  .op (.load accM (Rect.unit (s := S4096x2048) off S128x1024.size h).toLoadRect (View.loadsAt_vmem h_S128x1024)) fun v =>
  .op (.load commM (Rect.unit (s := S2x1024x1024) ![d.val, 128 * k.val, 0] S1x128x1024.size (comm_inb d k)).toLoadRect (View.loadsAt_vmem h_S1x128x1024)) fun u =>
  .op (.load accM (Rect.unit (s := S4096x2048) off S128x1024.size h).toLoadRect (View.loadsAt_vmem h_S128x1024)) fun _ =>
  .op (.store accM (Rect.unit (s := S4096x2048) off S128x1024.size h) (k0_pay21 v u) Finset.univ (View.stores_vmem_bits_univ h_S128x1024 rfl) (.inl rfl)) fun _ => K
/-- The activation applied to the accumulator's block. -/
def geluP (off : Fin 2 → Nat) (h : ∀ a, off a + S128x1024.size a ≤ S4096x2048.size a) (K : PG F) : PG F :=
  .op (.load accM (Rect.unit (s := S4096x2048) off S128x1024.size h).toLoadRect (View.loadsAt_vmem h_S128x1024)) fun v =>
  .op (.load accM (Rect.unit (s := S4096x2048) off S128x1024.size h).toLoadRect (View.loadsAt_vmem h_S128x1024)) fun _ =>
  .op (.store accM (Rect.unit (s := S4096x2048) off S128x1024.size h) (k0_pay57 v) Finset.univ (View.stores_vmem_bits_univ h_S128x1024 rfl) (.inl rfl)) fun _ => K

/-- A wait for the arrival of a reduce-scatter hop. -/
def rrecv (c : Dev nD) (t : Fin 3) (d : Fin 2) (k : Fin 8) (K : PG F) : PG F :=
  waitP (recvS ⟨t.val, by omega⟩ d k) (accB (sOff c d t k) (sOff_inb c d t k)) (commV d k) K
/-- A wait for the departure of a reduce-scatter hop. -/
def rdone (c : Dev nD) (t : Fin 3) (d : Fin 2) (k : Fin 8) (K : PG F) : PG F :=
  waitP (sendS ⟨t.val, by omega⟩ d k) (commV d k) (accB (sOff c d t k) (sOff_inb c d t k)) K
/-- A wait for the arrival of an all-gather hop. -/
def arecv (c : Dev nD) (t : Fin 3) (d : Fin 2) (k : Fin 8) (K : PG F) : PG F :=
  waitP (recvS ⟨3 + t.val, by omega⟩ d k) (accB (sOff c d t k) (sOff_inb c d t k)) (accB (sOff c d t k) (sOff_inb c d t k)) K
/-- A wait for the departure of an all-gather hop. -/
def adone (c : Dev nD) (t : Fin 3) (d : Fin 2) (k : Fin 8) (K : PG F) : PG F :=
  waitP (sendS ⟨3 + t.val, by omega⟩ d k) (accB (hOff c d t k) (hOff_inb c d t k)) (accB (hOff c d t k) (hOff_inb c d t k)) K
/-- Start writing out a half chunk. -/
def fstart (c : Dev nD) (d : Fin 2) (h : Fin 4) (K : PG F) : PG F :=
  copyP (accH (fOff c d h) (fOff_inb c d h)) (outH (fOff c d h) (fOff_inb c d h)) (flushS d h) ⟨Or.inl rfl, trivial⟩ K
/-- Wait for a half chunk written out. -/
def fwait (c : Dev nD) (d : Fin 2) (h : Fin 4) (K : PG F) : PG F :=
  waitP (flushS d h) (accH (fOff c d h) (fOff_inb c d h)) (outH (fOff c d h) (fOff_inb c d h)) K

/-- A reduce-scatter step that passes the sum on. -/
def rstep (c : Dev nD) (t : Fin 2) (d : Fin 2) (k : Fin 8) (K : PG F) : PG F :=
  rrecv c ⟨t.val, by omega⟩ d k <| addP d k (aOff c d ⟨t.val, by omega⟩ k) (aOff_inb c d ⟨t.val, by omega⟩ k) <|
  sigP (prv d c) (creditS d k) <| rdone c ⟨t.val, by omega⟩ d k <| swaitP (creditS d k) 1 <|
  rsend c ⟨t.val + 1, by omega⟩ d k K
/-- The last reduce-scatter step, with the activation and the first all-gather transfer. -/
def lstep (c : Dev nD) (d : Fin 2) (k : Fin 8) (K : PG F) : PG F :=
  rrecv c 2 d k <| addP d k (aOff c d 2 k) (aOff_inb c d 2 k) <| geluP (aOff c d 2 k) (aOff_inb c d 2 k) <| asend c 0 d k K
/-- An all-gather step that passes the block on. -/
def astep (c : Dev nD) (t : Fin 2) (d : Fin 2) (k : Fin 8) (K : PG F) : PG F :=
  arecv c ⟨t.val, by omega⟩ d k <| asend c ⟨t.val + 1, by omega⟩ d k K

/-- The lanes in program order: sub-blocks outside, directions inside. -/
def lanes : List (Fin 2 × Fin 8) :=
  [(0,0),(1,0),(0,1),(1,1),(0,2),(1,2),(0,3),(1,3),(0,4),(1,4),(0,5),(1,5),(0,6),(1,6),(0,7),(1,7)]
/-- The lanes before the last two. -/
def lanes14 : List (Fin 2 × Fin 8) :=
  [(0,0),(1,0),(0,1),(1,1),(0,2),(1,2),(0,3),(1,3),(0,4),(1,4),(0,5),(1,5),(0,6),(1,6)]

/-- A list of steps, one after the other. -/
def run {ι : Type} (step : ι → PG F → PG F) : List ι → PG F → PG F
  | [], K => K
  | i :: l, K => step i (run step l K)

/-- A sweep over the lanes, the last lane of each direction followed by the write-out of the half chunk it completes. -/
def sweep (c : Dev nD) (h : Fin 4) (step : Fin 2 × Fin 8 → PG F → PG F) (K : PG F) : PG F :=
  run step lanes14 <| step (0, 7) <| fstart c 0 h <| step (1, 7) <| fstart c 1 h K

/-- The product of row slab `i`. -/
def slab (c : Dev nD) (w : Memref sig .tc .vmem S1024x2048 .f32) (i : Fin 16) (K : PG F) : PG F :=
  xwait c i <| gemmP w ⟨i.val % 2, Nat.mod_lt _ (by decide)⟩ (gOff c i) (gOff_inb c i) K
/-- The transfers of the first hop that row slab `i` makes ready. -/
def slabSends (c : Dev nD) (i : Fin 4) (K : PG F) : PG F :=
  rsend c 0 0 ⟨2 * i.val, by omega⟩ <| rsend c 0 1 ⟨2 * i.val, by omega⟩ <| rsend c 0 0 ⟨2 * i.val + 1, by omega⟩ <| rsend c 0 1 ⟨2 * i.val + 1, by omega⟩ K

/-- Row slabs 1 to 3: the next slab's copy started, the slab multiplied, its blocks sent. -/
def slabA (c : Dev nD) (w : Memref sig .tc .vmem S1024x2048 .f32) (i : Fin 4) (K : PG F) : PG F :=
  xstart c ⟨i.val + 1, by omega⟩ <| slab c w ⟨i.val, by omega⟩ <| slabSends c i K
/-- Row slabs 4 to 14. -/
def slabB (c : Dev nD) (w : Memref sig .tc .vmem S1024x2048 .f32) (i : Fin 15) (K : PG F) : PG F :=
  xstart c ⟨i.val + 1, by omega⟩ <| slab c w ⟨i.val, by omega⟩ K

/-- The products, with the first hop's transfers. -/
def gemmAll (c : Dev nD) (w : Memref sig .tc .vmem S1024x2048 .f32) (K : PG F) : PG F :=
  xstart c 0 <| xstart c 1 <| slab c w 0 <| slabSends c 0 <| run (slabA c w) [1, 2, 3] <|
  run (slabB c w) [4, 5, 6, 7, 8, 9, 10, 11, 12, 13, 14] <| slab c w 15 K

/-- The closing waits. -/
def drain (c : Dev nD) (K : PG F) : PG F :=
  run (fun l => rdone c 2 l.1 l.2) lanes <|
  run (fun h K => run (fun l => adone c h l.1 l.2) lanes K) [0, 1, 2] <|
  run (fun h K => fwait c 0 h <| fwait c 1 h K) [0, 1, 2, 3] K

/-- A device's whole body. -/
def prog (c : Dev nD) (w : Memref sig .tc .vmem S1024x2048 .f32) : PG F :=
  sigP (prv 0 c) barS <| sigP (prv 1 c) barS <| swaitP barS 2 <|
  gemmAll c w <|
  run (fun l => rstep c 0 l.1 l.2) lanes <| run (fun l => rstep c 1 l.1 l.2) lanes <|
  sweep c 0 (fun l => lstep c l.1 l.2) <|
  sweep c 1 (fun l => astep c 0 l.1 l.2) <| sweep c 2 (fun l => astep c 1 l.1 l.2) <|
  sweep c 3 (fun l => arecv c 2 l.1 l.2) <|
  drain c (.ret ⟨⟩)

set_option maxRecDepth 100000 in
/-- The printed body is the chain of steps. -/
theorem body_eq (t : Fin cfg0.N) : (bodyAt0 t : PG F) = .op .deviceId fun c => prog c (st0_0 t) := by
  chain_rfl

end Cert.KernelIdeal.RS

end
-- ==== Proof.Geom.lean ====
/- Where the steps of the kernel body work: the ring's devices, the offsets in closed form, the element sets of the
   views, and the contents of the buffers as functions of the devices' operands. -/
module

public import proofs.«01_k».proof.Proof.Prog
public import Idealize.ShloMosaic.Lib.ValueLayout

@[expose] public section

noncomputable section

namespace Cert.KernelIdeal.RS

open Idealize.ShloMosaic Idealize.ShloMosaic.TcCoe
open Idealize.SL Idealize.SL.Sem
open Cert.KernelIdeal Cert.KernelIdeal.Gen
open Idealize.ShloMosaic.ValueIdx

variable {F : FTy → Type} [FloatOps F]

/-! ### The ring -/

theorem prv_nxt : ∀ (d : Fin 2) (c : Dev nD), prv d (nxt d c) = c := by decide
theorem nxt_prv : ∀ (d : Fin 2) (c : Dev nD), nxt d (prv d c) = c := by decide

/-- Both neighbours, as permutations of the devices. -/
def turn (d : Fin 2) : Dev nD ≃ Dev nD := ⟨nxt d, prv d, prv_nxt d, nxt_prv d⟩

/-- The device `n` places upstream. -/
def back (d : Fin 2) : ℕ → Dev nD → Dev nD
  | 0, c => c
  | n + 1, c => prv d (back d n c)

theorem back_nxt (d : Fin 2) (n : ℕ) (c : Dev nD) : back d (n + 1) (nxt d c) = back d n c := by
  induction n with
  | zero => exact prv_nxt d c
  | succ n ih => exact congrArg (prv d) ih

theorem back_three : ∀ (d : Fin 2) (c : Dev nD), back d 3 c = nxt d c := by decide
theorem back_four : ∀ (d : Fin 2) (c : Dev nD), back d 4 c = c := by decide

/-! ### Offsets in closed form -/

/-- The row slab of `x` the kernel takes `i`-th. -/
def rs (c : Dev nD) (i : Fin 16) : ℕ := xOff c i 0 / 256

theorem rs_lt : ∀ (c : Dev nD) (i : Fin 16), rs c i < 16 := by decide +kernel
theorem rs_inj : ∀ (c : Dev nD) (i j : Fin 16), rs c i = rs c j → i = j := by decide +kernel
theorem rs_surj : ∀ (c : Dev nD) (j : Fin 16), ∃ i, rs c i = j.val := by decide +kernel
/-- The first four slabs are the device's own chunk. -/
theorem rs_own : ∀ (c : Dev nD) (i : Fin 16), i.val < 4 → rs c i = 4 * c.val + i.val := by decide +kernel
theorem rs_other : ∀ (c : Dev nD) (i : Fin 16), 4 ≤ i.val → rs c i / 4 ≠ c.val := by decide +kernel
theorem xOff_eq : ∀ (c : Dev nD) (i : Fin 16), xOff c i = ![256 * rs c i, 0] := by decide +kernel
theorem gOff_eq : ∀ (c : Dev nD) (i : Fin 16), gOff c i = ![256 * rs c i, 0] := by decide +kernel
theorem sOff_eq : ∀ (c : Dev nD) (d : Fin 2) (s : Fin 3) (k : Fin 8),
    sOff c d s k = ![1024 * (back d s.val c).val + 128 * k.val, 1024 * d.val] := by decide +kernel
theorem aOff_eq : ∀ (c : Dev nD) (d : Fin 2) (s : Fin 3) (k : Fin 8),
    aOff c d s k = ![1024 * (back d (s.val + 1) c).val + 128 * k.val, 1024 * d.val] := by decide +kernel
theorem hOff_eq : ∀ (c : Dev nD) (d : Fin 2) (h : Fin 3) (k : Fin 8),
    hOff c d h k = ![1024 * (back d (h.val + 3) c).val + 128 * k.val, 1024 * d.val] := by decide +kernel
theorem fOff_eq : ∀ (c : Dev nD) (d : Fin 2) (h : Fin 4),
    fOff c d h = ![1024 * (back d (h.val + 3) c).val, 1024 * d.val] := by decide +kernel

/-! ### Element sets -/

/-- Row sub-block `k` of chunk `X`, in the columns of direction `d`. -/
def blk (X : Dev nD) (d : Fin 2) (k : Fin 8) : Finset S4096x2048.Idx :=
  Finset.univ.filter fun i => (i 0).val / 128 = 8 * X.val + k.val ∧ (i 1).val / 1024 = d.val
/-- Chunk `X` in the columns of direction `d`. -/
def half (X : Dev nD) (d : Fin 2) : Finset S4096x2048.Idx :=
  Finset.univ.filter fun i => (i 0).val / 1024 = X.val ∧ (i 1).val / 1024 = d.val
/-- Row slab `j` of the accumulator. -/
def aslab (j : ℕ) : Finset S4096x2048.Idx := Finset.univ.filter fun i => (i 0).val / 256 = j
/-- Row slab `j` of `x`. -/
def xslab (j : ℕ) : Finset S4096x1024.Idx := Finset.univ.filter fun i => (i 0).val / 256 = j
/-- A slot of the copy buffer. -/
def bslot (b : Fin 2) : Finset S2x256x1024.Idx := Finset.univ.filter fun i => (i 0).val = b.val
/-- A block of the landing buffer. -/
def cblk (d : Fin 2) (k : Fin 8) : Finset S2x1024x1024.Idx :=
  Finset.univ.filter fun i => (i 0).val = d.val ∧ (i 1).val / 128 = k.val

theorem mem_blk {X : Dev nD} {d : Fin 2} {k : Fin 8} {i : S4096x2048.Idx} :
    i ∈ blk X d k ↔ (i 0).val / 128 = 8 * X.val + k.val ∧ (i 1).val / 1024 = d.val := by simp [blk]
theorem mem_half {X : Dev nD} {d : Fin 2} {i : S4096x2048.Idx} :
    i ∈ half X d ↔ (i 0).val / 1024 = X.val ∧ (i 1).val / 1024 = d.val := by simp [half]
theorem mem_aslab {j : ℕ} {i : S4096x2048.Idx} : i ∈ aslab j ↔ (i 0).val / 256 = j := by simp [aslab]
theorem mem_xslab {j : ℕ} {i : S4096x1024.Idx} : i ∈ xslab j ↔ (i 0).val / 256 = j := by simp [xslab]
theorem mem_bslot {b : Fin 2} {i : S2x256x1024.Idx} : i ∈ bslot b ↔ (i 0).val = b.val := by simp [bslot]
theorem mem_cblk {d : Fin 2} {k : Fin 8} {i : S2x1024x1024.Idx} :
    i ∈ cblk d k ↔ (i 0).val = d.val ∧ (i 1).val / 128 = k.val := by simp [cblk]

theorem lt0 (i : S4096x2048.Idx) : (i 0).val < 4096 := (i 0).isLt
theorem lt1 (i : S4096x2048.Idx) : (i 1).val < 2048 := (i 1).isLt

/-- The elements of a rectangle of two axes. -/
theorem mem_unit2 {n m : ℕ} {off size : Fin 2 → ℕ} {h} {i : (⟨2, ![n, m]⟩ : Shape).Idx} :
    i ∈ (Rect.unit (s := ⟨2, ![n, m]⟩) off size h).set
      ↔ (off 0 ≤ (i 0).val ∧ (i 0).val < off 0 + size 0) ∧ (off 1 ≤ (i 1).val ∧ (i 1).val < off 1 + size 1) := by
  rw [Rect.mem_set_unit]
  constructor
  · intro g; exact ⟨g 0, g 1⟩
  · rintro ⟨g0, g1⟩ a
    match a with
    | ⟨0, _⟩ => exact g0
    | ⟨1, _⟩ => exact g1

/-- The elements of a rectangle of three axes. -/
theorem mem_unit3 {l n m : ℕ} {off size : Fin 3 → ℕ} {h} {i : (⟨3, ![l, n, m]⟩ : Shape).Idx} :
    i ∈ (Rect.unit (s := ⟨3, ![l, n, m]⟩) off size h).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  constructor
  · intro g; exact ⟨g 0, g 1, g 2⟩
  · rintro ⟨g0, g1, g2⟩ a
    match a with
    | ⟨0, _⟩ => exact g0
    | ⟨1, _⟩ => exact g1
    | ⟨2, _⟩ => exact g2

theorem rect_blk {off : Fin 2 → ℕ} {X : Dev nD} {d : Fin 2} {k : Fin 8}
    (e : off = ![1024 * X.val + 128 * k.val, 1024 * d.val]) (h) :
    (Rect.unit (s := S4096x2048) off S128x1024.size h).set = blk X d k := by
  subst e; ext i
  rw [mem_blk, mem_unit2]
  have h0 := lt0 i; have h1 := lt1 i; have := d.isLt; have := k.isLt
  show ((1024 * X.val + 128 * k.val ≤ _ ∧ _ < 1024 * X.val + 128 * k.val + 128) ∧ (1024 * d.val ≤ _ ∧ _ < 1024 * d.val + 1024)) ↔ _
  omega

theorem rect_half {off : Fin 2 → ℕ} {X : Dev nD} {d : Fin 2} (e : off = ![1024 * X.val, 1024 * d.val]) (h) :
    (Rect.unit (s := S4096x2048) off S1024x1024.size h).set = half X d := by
  subst e; ext i
  rw [mem_half, mem_unit2]
  show ((1024 * X.val ≤ _ ∧ _ < 1024 * X.val + 1024) ∧ (1024 * d.val ≤ _ ∧ _ < 1024 * d.val + 1024)) ↔ _
  omega

theorem rect_aslab {off : Fin 2 → ℕ} {j : ℕ} (e : off = ![256 * j, 0]) (h) :
    (Rect.unit (s := S4096x2048) off S256x2048.size h).set = aslab j := by
  subst e; ext i
  rw [mem_aslab, mem_unit2]
  have h1 := lt1 i
  show ((256 * j ≤ _ ∧ _ < 256 * j + 256) ∧ (0 ≤ _ ∧ _ < 0 + 2048)) ↔ _
  omega

theorem rect_xslab {off : Fin 2 → ℕ} {j : ℕ} (e : off = ![256 * j, 0]) (h) :
    (Rect.unit (s := S4096x1024) off S256x1024.size h).set = xslab j := by
  subst e; ext i
  rw [mem_xslab, mem_unit2]
  have h1 : (i 1).val < 1024 := (i 1).isLt
  show ((256 * j ≤ _ ∧ _ < 256 * j + 256) ∧ (0 ≤ _ ∧ _ < 0 + 1024)) ↔ _
  omega

theorem rect_bslot (b : Fin 2) (h) :
    (Rect.unit (s := S2x256x1024) ![b.val, 0, 0] S1x256x1024.size h).set = bslot b := by
  ext i
  rw [mem_bslot, mem_unit3]
  have h1 : (i 1).val < 256 := (i 1).isLt
  have h2 : (i 2).val < 1024 := (i 2).isLt
  show ((b.val ≤ _ ∧ _ < b.val + 1) ∧ (0 ≤ _ ∧ _ < 0 + 256) ∧ (0 ≤ _ ∧ _ < 0 + 1024)) ↔ _
  omega

theorem rect_cblk (d : Fin 2) (k : Fin 8) (h) :
    (Rect.unit (s := S2x1024x1024) ![d.val, 128 * k.val, 0] S1x128x1024.size h).set = cblk d k := by
  ext i
  rw [mem_cblk, mem_unit3]
  have h1 : (i 1).val < 1024 := (i 1).isLt
  have h2 : (i 2).val < 1024 := (i 2).isLt
  show ((d.val ≤ _ ∧ _ < d.val + 1) ∧ (128 * k.val ≤ _ ∧ _ < 128 * k.val + 128) ∧ (0 ≤ _ ∧ _ < 0 + 1024)) ↔ _
  omega

theorem accB_set {off : Fin 2 → ℕ} {X : Dev nD} {d : Fin 2} {k : Fin 8}
    (e : off = ![1024 * X.val + 128 * k.val, 1024 * d.val]) (h) : (accB off h).view.set = blk X d k :=
  (View.set_slice_whole _ _).trans (rect_blk e h)
theorem accH_set {off : Fin 2 → ℕ} {X : Dev nD} {d : Fin 2} (e : off = ![1024 * X.val, 1024 * d.val]) (h) :
    (accH off h).view.set = half X d := (View.set_slice_whole _ _).trans (rect_half e h)
theorem outH_set {off : Fin 2 → ℕ} {X : Dev nD} {d : Fin 2} (e : off = ![1024 * X.val, 1024 * d.val]) (h) :
    (outH off h).view.set = half X d := (View.set_slice_whole _ _).trans (rect_half e h)
theorem xV_set (c : Dev nD) (i : Fin 16) : (xV c i).view.set = xslab (rs c i) :=
  (View.set_slice_whole _ _).trans (rect_xslab (xOff_eq c i) _)
theorem bufV_set (b : Fin 2) : (bufV b).view.set = bslot b :=
  (View.set_reshape _ _).trans ((View.set_slice_whole _ _).trans (rect_bslot b _))
theorem commV_set (d : Fin 2) (k : Fin 8) : (commV d k).view.set = cblk d k :=
  (View.set_reshape _ _).trans ((View.set_slice_whole _ _).trans (rect_cblk d k _))

/-! ### Where the views put their elements -/

theorem ext2 {n m : ℕ} {i j : (⟨2, ![n, m]⟩ : Shape).Idx} (h0 : (i 0).val = (j 0).val) (h1 : (i 1).val = (j 1).val) : i = j :=
  funext fun a => match a with
    | ⟨0, _⟩ => Fin.ext h0
    | ⟨1, _⟩ => Fin.ext h1
theorem ext3 {l n m : ℕ} {i j : (⟨3, ![l, n, m]⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

/-- A unit rectangle moves each coordinate by its corner's. -/
theorem unit_val {s : Shape} {off size : Fin s.rank → ℕ} {h} (x : (Rect.unit (s := s) off size h).shape.Idx) (a : Fin s.rank) :
    ((Rect.unit (s := s) off size h).emb x a).val = off a + (x a).val := by
  rw [Rect.emb_apply]; show off a + 1 * (x a).val = _; rw [Nat.one_mul]

/-- The squeezed index with its unit axis put back. -/
theorem unsqueeze {n m : ℕ} (h : (⟨2, ![n, m]⟩ : Shape).numel = (⟨3, ![1, n, m]⟩ : Shape).numel) (x : (⟨2, ![n, m]⟩ : Shape).Idx) :
    Shape.reshapeEquiv h x = ix3 (⟨0, Nat.one_pos⟩ : Fin 1) (x 0) (x 1) :=
  (congrArg (Shape.reshapeEquiv h) (eq_ix2 x)).trans (reshapeEquiv_ix2_1ab h (x 0) (x 1))

theorem bufV_emb (b : Fin 2) (x : S256x1024.Idx) : (bufV b).view.emb x = (ix3 b (x 0) (x 1) : S2x256x1024.Idx) := by
  refine (congrArg (Rect.unit (s := S2x256x1024) ![b.val, 0, 0] S1x256x1024.size (buf_inb b)).emb (unsqueeze _ x)).trans ?_
  refine ext3 ((unit_val _ _).trans ?_) ((unit_val _ _).trans ?_) ((unit_val _ _).trans ?_)
  · show b.val + 0 = b.val; omega
  · show 0 + _ = _; rw [Nat.zero_add]
  · show 0 + _ = _; rw [Nat.zero_add]

theorem sub_lt (k : Fin 8) (r : Fin 128) : 128 * k.val + r.val < 1024 := by omega

theorem commV_emb (d : Fin 2) (k : Fin 8) (x : S128x1024.Idx) :
    (commV d k).view.emb x = (ix3 d ⟨128 * k.val + (x 0).val, sub_lt k (x 0)⟩ (x 1) : S2x1024x1024.Idx) := by
  refine (congrArg (Rect.unit (s := S2x1024x1024) ![d.val, 128 * k.val, 0] S1x128x1024.size (comm_inb d k)).emb (unsqueeze _ x)).trans ?_
  refine ext3 ((unit_val _ _).trans ?_) ((unit_val _ _).trans ?_) ((unit_val _ _).trans ?_)
  · show d.val + 0 = d.val; omega
  · rfl
  · show 0 + _ = _; rw [Nat.zero_add]

/-- Contents written over a whole view are any contents that read so through it. -/
theorem write_agrees {sp : Space} {s : Shape} {e : EltTy} {Val : EltTy → Type} (v : View sig .tc sp s e) (f g : v.ty.Contents Val)
    (w : s.Idx → Val e) (h : ∀ x, g (v.emb x) = _root_.cast (congrArg Val v.elt_eq.symm) (w x)) :
    ∀ i ∈ v.set, v.write Val f w Finset.univ i = g i := by
  intro i hi
  obtain ⟨x, -, rfl⟩ := Finset.mem_map.mp hi
  rw [View.write_emb_of_mem _ _ (Finset.mem_univ x), h x]

/-! ### Contents -/

/-- Contents of the accumulator and of the result. -/
abbrev AccT (F : FTy → Type) : Type := S4096x2048.Idx → Elt F .f32
/-- Contents of `x`. -/
abbrev XT (F : FTy → Type) : Type := S4096x1024.Idx → Elt F .f32
/-- Contents of `w`. -/
abbrev WT (F : FTy → Type) : Type := S1024x2048.Idx → Elt F .f32
/-- Contents of the landing buffer. -/
abbrev CommT (F : FTy → Type) : Type := S2x1024x1024.Idx → Elt F .f32
/-- Contents of the copy buffer. -/
abbrev BufT (F : FTy → Type) : Type := S2x256x1024.Idx → Elt F .f32

omit [FloatOps F] in
/-- Row slab `j` of `x` as the kernel's matrix product takes it. -/
def xrows (x : XT F) (j : ℕ) : Vec F S1x256x1024 .f32 := fun y =>
  x (ix2 ⟨(256 * j + (y 1).val) % 4096, Nat.mod_lt _ (by decide)⟩ (y 2))
/-- A device's product, slab by slab. -/
def part (x : XT F) (w : WT F) : AccT F := fun i =>
  k0_pay1 (xrows x ((i 0).val / 256)) w (ix2 ⟨(i 0).val % 256, Nat.mod_lt _ (by decide)⟩ (i 1))
omit [FloatOps F] in
/-- The copy buffer holding row slab `j` in either slot. -/
def bufF (x : XT F) (j : ℕ) : BufT F := fun i =>
  x (ix2 ⟨(256 * j + (i 1).val) % 4096, Nat.mod_lt _ (by decide)⟩ (i 2))
omit [FloatOps F] in
/-- The landing buffer holding chunk `X` of `v`. -/
def commF (X : Dev nD) (v : AccT F) : CommT F := fun i =>
  v (ix2 ⟨(1024 * X.val + (i 1).val) % 4096, Nat.mod_lt _ (by decide)⟩ ⟨(1024 * (i 0).val + (i 2).val) % 2048, Nat.mod_lt _ (by decide)⟩)

/-- The sum of the products of the devices `c`, `back d 1 c`, … , `back d n c`, from the far end. -/
def V (P : Dev nD → AccT F) (d : Fin 2) : Dev nD → ℕ → AccT F
  | c, 0 => P c
  | c, n + 1 => fun i => FloatOps.addf (P c i) (V P d (prv d c) n i)

/-- The activation of one element, as the kernel computes it. -/
def gelu1 (y : F .f32) : F .f32 :=
  FloatOps.mulf (FloatOps.mulf (Scalar.ofBits .f32 0x3F000000#32) y)
    (FloatOps.addf (Scalar.ofBits .f32 0x3F800000#32)
      (FloatOps.tanh (FloatOps.mulf (Scalar.ofBits .f32 0x3F4C422A#32)
        (FloatOps.addf y (FloatOps.mulf (FloatOps.mulf (FloatOps.mulf (Scalar.ofBits .f32 0x3D372713#32) y) y) y)))))

/-- The result: the activation of the whole sum, in the order the element's chunk and direction add it. -/
def outF (P : Dev nD → AccT F) : AccT F := fun i =>
  let d : Fin 2 := ⟨(i 1).val / 1024, by have := lt1 i; omega⟩
  let X : Dev nD := ⟨(i 0).val / 1024, by have := lt0 i; show _ < 4; omega⟩
  gelu1 (V P d (prv d X) 3 i)

theorem outF_blk (P : Dev nD → AccT F) {X : Dev nD} {d : Fin 2} {k : Fin 8} {i : S4096x2048.Idx} (h : i ∈ blk X d k) :
    outF P i = gelu1 (V P d (prv d X) 3 i) := by
  rw [mem_blk] at h
  have hk := k.isLt
  have hd : (⟨(i 1).val / 1024, by have := lt1 i; omega⟩ : Fin 2) = d := Fin.ext h.2
  have hX : (⟨(i 0).val / 1024, by have := lt0 i; show _ < 4; omega⟩ : Dev nD) = X := Fin.ext (by show _ / 1024 = _; omega)
  unfold outF; simp only [hd, hX]

/-! ### What the steps leave -/

/-- A row slab copied into a slot. -/
theorem landed_buf (c : Dev nD) (i : Fin 16) (b : Fin 2) (f : BufT F) (x : XT F) :
    ∀ z ∈ bslot b, (bufV b).view.write (Elt F) f ((xV c i).view.read (Elt F) x) Finset.univ z = bufF x (rs c i) z := by
  rw [← bufV_set b]
  refine write_agrees (Val := Elt F) (bufV b).view f (bufF x (rs c i)) _ fun z => ?_
  rw [bufV_emb]
  show x _ = x ((Rect.unit (s := S4096x1024) (xOff c i) S256x1024.size (xOff_inb c i)).emb z)
  refine congrArg x (ext2 (.trans ?_ (unit_val _ _).symm) (.trans ?_ (unit_val _ _).symm))
  · have := rs_lt c i
    have hz : (z 0).val < 256 := (z 0).isLt
    have e0 : xOff c i 0 = 256 * rs c i := congrFun (xOff_eq c i) 0
    show (256 * rs c i + (z 0).val) % 4096 = xOff c i 0 + (z 0).val
    omega
  · have e1 : xOff c i 1 = 0 := congrFun (xOff_eq c i) 1
    show (z 1).val = xOff c i 1 + (z 1).val
    omega

/-- A block sent into a landing buffer. -/
theorem landed_comm {off : Fin 2 → ℕ} {X : Dev nD} {d : Fin 2} {k : Fin 8}
    (e : off = ![1024 * X.val + 128 * k.val, 1024 * d.val]) (h) (f : CommT F) (v : AccT F) :
    ∀ z ∈ cblk d k, (commV d k).view.write (Elt F) f ((accB off h).view.read (Elt F) v) Finset.univ z = commF X v z := by
  subst e
  rw [← commV_set d k]
  refine write_agrees (Val := Elt F) (commV d k).view f (commF X v) _ fun z => ?_
  rw [commV_emb]
  show v _ = v ((Rect.unit (s := S4096x2048) _ S128x1024.size h).emb z)
  have hX : X.val < 4 := X.isLt
  have hz : (z 0).val < 128 := (z 0).isLt
  have hz1 : (z 1).val < 1024 := (z 1).isLt
  refine congrArg v (ext2 (.trans ?_ (unit_val _ _).symm) (.trans ?_ (unit_val _ _).symm))
  · show (1024 * X.val + (128 * k.val + (z 0).val)) % 4096 = (1024 * X.val + 128 * k.val) + _
    rw [Nat.mod_eq_of_lt (by omega)]; omega
  · show (1024 * d.val + (z 1).val) % 2048 = 1024 * d.val + _
    rw [Nat.mod_eq_of_lt (by omega)]

omit [FloatOps F] in
/-- A block sent to its own place on another device. -/
theorem landed_acc {off : Fin 2 → ℕ} (h) (f v : AccT F) :
    ∀ z ∈ (accB off h).view.set, (accB off h).view.write (Elt F) f ((accB off h).view.read (Elt F) v) Finset.univ z = v z :=
  write_agrees _ _ _ _ fun _ => rfl

omit [FloatOps F] in
/-- A half chunk written out. -/
theorem landed_out {off : Fin 2 → ℕ} (h) (f v : AccT F) :
    ∀ z ∈ (outH off h).view.set, (outH off h).view.write (Elt F) f ((accH off h).view.read (Elt F) v) Finset.univ z = v z :=
  write_agrees _ _ _ _ fun _ => rfl

/-- A row slab multiplied into the accumulator. -/
theorem stored_gemm {off : Fin 2 → ℕ} {j : ℕ} (hj : j < 16) (e : off = ![256 * j, 0]) (h) (b : Fin 2) (x : XT F) (w : WT F) (f : AccT F) :
    ∀ z ∈ aslab j, (accM.access (Rect.unit (s := S4096x2048) off S256x2048.size h)).write (Elt F) f
        (k0_pay1 (bufM.view.readAt (Elt F) (Rect.unit (s := S2x256x1024) ![b.val, 0, 0] S1x256x1024.size (buf_inb b)).toLoadRect (bufF x j)) w)
        Finset.univ z = part x w z := by
  have hv : bufM.view.readAt (Elt F) (Rect.unit (s := S2x256x1024) ![b.val, 0, 0] S1x256x1024.size (buf_inb b)).toLoadRect (bufF x j)
      = xrows x j := by
    funext y
    show x _ = x _
    refine congrArg x (ext2 ?_ ?_)
    · show (256 * j + ((Rect.unit (s := S2x256x1024) ![b.val, 0, 0] S1x256x1024.size (buf_inb b)).emb y 1).val) % 4096 = (256 * j + (y 1).val) % 4096
      exact congrArg (fun n => (256 * j + n) % 4096) ((unit_val _ _).trans (Nat.zero_add _))
    · show ((Rect.unit (s := S2x256x1024) ![b.val, 0, 0] S1x256x1024.size (buf_inb b)).emb y 2).val = (y 2).val
      exact (unit_val _ _).trans (Nat.zero_add _)
  rw [hv, ← rect_aslab e h, ← View.set_slice_whole cc0_scratch8 (Rect.unit (s := S4096x2048) off S256x2048.size h)]
  refine write_agrees (Val := Elt F) (accM.access (Rect.unit (s := S4096x2048) off S256x2048.size h)) f (part x w) _ fun z => ?_
  subst e
  have hz : (z 0).val < 256 := (z 0).isLt
  have e0 : ((Rect.unit (s := S4096x2048) ![256 * j, 0] S256x2048.size h).emb z 0).val = 256 * j + (z 0).val := unit_val z 0
  have e1 : ((Rect.unit (s := S4096x2048) ![256 * j, 0] S256x2048.size h).emb z 1).val = (z 1).val :=
    (unit_val z 1).trans (Nat.zero_add _)
  show part x w ((Rect.unit (s := S4096x2048) ![256 * j, 0] S256x2048.size h).emb z) = k0_pay1 (xrows x j) w z
  refine (congrArg (fun n => k0_pay1 (xrows x n) w _) (show _ / 256 = j by omega)).trans ?_
  refine congrArg (k0_pay1 (xrows x j) w) (ext2 ?_ e1)
  refine (congrArg (· % 256) e0).trans ?_
  show (256 * j + (z 0).val) % 256 = (z 0).val
  omega

/-- A landed block added into the accumulator's. -/
theorem stored_add {off : Fin 2 → ℕ} {X : Dev nD} {d : Fin 2} {k : Fin 8}
    (e : off = ![1024 * X.val + 128 * k.val, 1024 * d.val]) (h) (g u : AccT F) :
    ∀ z ∈ blk X d k, (accM.access (Rect.unit (s := S4096x2048) off S128x1024.size h)).write (Elt F) g
        (k0_pay21 (accM.view.readAt (Elt F) (Rect.unit (s := S4096x2048) off S128x1024.size h).toLoadRect g)
          (commM.view.readAt (Elt F) (Rect.unit (s := S2x1024x1024) ![d.val, 128 * k.val, 0] S1x128x1024.size (comm_inb d k)).toLoadRect (commF X u)))
        Finset.univ z = FloatOps.addf (g z) (u z) := by
  rw [← rect_blk e h, ← View.set_slice_whole cc0_scratch8 (Rect.unit (s := S4096x2048) off S128x1024.size h)]
  refine write_agrees (Val := Elt F) (accM.access (Rect.unit (s := S4096x2048) off S128x1024.size h)) g (fun z => FloatOps.addf (g z) (u z) : AccT F) _ fun z => ?_
  subst e
  have hX : X.val < 4 := X.isLt
  have hz : (z 0).val < 128 := (z 0).isLt
  have hz1 : (z 1).val < 1024 := (z 1).isLt
  have e0 : ((Rect.unit (s := S4096x2048) ![1024 * X.val + 128 * k.val, 1024 * d.val] S128x1024.size h).emb z 0).val = 1024 * X.val + 128 * k.val + (z 0).val := unit_val z 0
  have e1 : ((Rect.unit (s := S4096x2048) ![1024 * X.val + 128 * k.val, 1024 * d.val] S128x1024.size h).emb z 1).val = 1024 * d.val + (z 1).val := unit_val z 1
  show FloatOps.addf (g _) (u _) = k0_pay21 _ _ z
  unfold k0_pay21
  simp only [shapeCast_self]
  show FloatOps.addf (g _) (u _) = FloatOps.addf (g _) (shapeCast S128x1024 _ shapeCasts_S1x128x1024_S128x1024 z)
  refine congrArg (FloatOps.addf _) ?_
  refine .trans ?_ ((congrArg _ (eq_ix2 z)).trans (shapeCast_1ab_ab_apply _ _ _ _)).symm
  refine congrArg u (ext2 ?_ ?_)
  · refine e0.trans ?_
    show _ = (1024 * X.val + (128 * k.val + 1 * (z 0).val)) % 4096
    omega
  · refine e1.trans ?_
    have hd := d.isLt
    show _ = (1024 * (d.val + 1 * 0) + (0 + 1 * (z 1).val)) % 2048
    omega

/-- The activation applied to the accumulator's block. -/
theorem stored_gelu {off : Fin 2 → ℕ} (h) (g : AccT F) :
    ∀ z ∈ (Rect.unit (s := S4096x2048) off S128x1024.size h).set, (accM.access (Rect.unit (s := S4096x2048) off S128x1024.size h)).write (Elt F) g
        (k0_pay57 (accM.view.readAt (Elt F) (Rect.unit (s := S4096x2048) off S128x1024.size h).toLoadRect g)) Finset.univ z = gelu1 (g z) := by
  rw [← View.set_slice_whole cc0_scratch8 (Rect.unit (s := S4096x2048) off S128x1024.size h)]
  refine write_agrees (Val := Elt F) (accM.access (Rect.unit (s := S4096x2048) off S128x1024.size h)) g (fun z => gelu1 (g z) : AccT F) _ fun z => ?_
  show gelu1 (g _) = k0_pay57 _ z
  unfold k0_pay57
  simp only [shapeCast_self]
  rfl

end Cert.KernelIdeal.RS

end
-- ==== Proof.Proto.lean ====
/- The protocol of the kernel: its semaphore cells, what their rounds hand over, what every device owes and in which
   order it pays. -/
module

public import proofs.«01_k».proof.Proof.Geom
public import Idealize.ShloMosaic.Lib.Pipeline.Launch
public import Idealize.ShloMosaic.Lib.Pipeline.Kit
public import Idealize.ShloMosaic.Lib.Pipeline.TalkSites
public import Idealize.ShloMosaic.Lib.Tactic

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)
open Cert.KernelIdeal Cert.KernelIdeal.Gen

variable {F : FTy → Type} [FloatOps F]

/-- The ghost algebra: the staging cells' rounds and the kernel's own. -/
abbrev UU : Type := UR sig nD τ × URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

/-! ### Cells -/

/-- A lane: a direction and a row sub-block. -/
abbrev Lane : Type := Fin 2 × Fin 8
/-- The kernel's own cells: the copy buffer's two slots; per lane the credit (0), the reduce-scatter's departures (1) and
    arrivals (2), the all-gather's departures (3 to 5) and arrivals (6 to 8); the write-outs. -/
abbrev Ko : Type := Fin 2 ⊕ (Fin 9 × Lane) ⊕ (Fin 2 × Fin 4)

instance : DecidableEq (Option Ko) := fun a b => match a, b with
  | none, none => .isTrue rfl
  | none, some _ => .isFalse nofun
  | some _, none => .isFalse nofun
  | some a, some b => decidable_of_iff (a = b) (Option.some_inj).symm

/-- A lane's semaphores. -/
def laneSem (j : Fin 9) (l : Lane) : SemLoc sig :=
  match j with
  | 0 => .reg (creditS l.1 l.2)
  | 1 => .dma (sendS 0 l.1 l.2)
  | 2 => .dma (recvS 0 l.1 l.2)
  | 3 => .dma (sendS 3 l.1 l.2)
  | 4 => .dma (sendS 4 l.1 l.2)
  | 5 => .dma (sendS 5 l.1 l.2)
  | 6 => .dma (recvS 3 l.1 l.2)
  | 7 => .dma (recvS 4 l.1 l.2)
  | 8 => .dma (recvS 5 l.1 l.2)

/-- The semaphore of an own cell. -/
def osem : Ko → SemLoc sig
  | .inl b => .dma (copyS b)
  | .inr (.inl jl) => laneSem jl.1 jl.2
  | .inr (.inr dh) => .dma (flushS dh.1 dh.2)
/-- The semaphore of a cell; `none` is the runtime's barrier. -/
def ksem : Option Ko → SemLoc sig
  | none => .reg barS
  | some k => osem k

/-- Numbers that tell the semaphores apart. -/
def semNo : SemLoc sig → ℕ
  | .reg s => s.val
  | .dma s => 1000 + s.val
/-- The cells' numbers. -/
def kNo : Option Ko → ℕ
  | none => 16
  | some (.inl b) => 1001 + b.val
  | some (.inr (.inl (j, l))) =>
    if j.val = 0 then 8 * l.1.val + l.2.val
    else if j.val = 1 then 1003 + (8 * l.1.val + l.2.val) else if j.val = 2 then 1019 + (8 * l.1.val + l.2.val)
    else if j.val < 6 then 1035 + (24 * l.1.val + 8 * (j.val - 3) + l.2.val) else 1083 + (24 * l.1.val + 8 * (j.val - 6) + l.2.val)
  | some (.inr (.inr (d, h))) => 1131 + (4 * d.val + h.val)

theorem semNo_ksem : ∀ k, semNo (ksem k) = kNo k := by decide +kernel
theorem kNo_inj : Function.Injective kNo := by
  rintro (_ | b | ⟨j, d, k⟩ | ⟨d, h⟩) (_ | b' | ⟨j', d', k'⟩ | ⟨d', h'⟩) e <;> simp only [kNo] at e
  all_goals first
    | rfl
    | (exfalso; split_ifs at e <;> omega)
    | (exfalso; omega)
    | (have : b = b' := Fin.ext (by omega); subst this; rfl)
    | (have h1 : d = d' := Fin.ext (by omega)
       have h2 : h = h' := Fin.ext (by omega)
       subst h1 h2; rfl)
    | (have hj := j.isLt; have hj' := j'.isLt; have hd := d.isLt; have hd' := d'.isLt; have hk := k.isLt; have hk' := k'.isLt
       have h0 : j.val = j'.val ∧ d.val = d'.val ∧ k.val = k'.val := by split_ifs at e <;> omega
       have h1 : j = j' := Fin.ext h0.1
       have h2 : d = d' := Fin.ext h0.2.1
       have h3 : k = k' := Fin.ext h0.2.2
       subst h1 h2 h3; rfl)
theorem ksem_inj : Function.Injective ksem := fun a b h => kNo_inj (by rw [← semNo_ksem, ← semNo_ksem, h])

/-- The cell a semaphore belongs to. -/
def kindOf (sm : SemLoc sig) : Option (Option Ko) := Function.partialInv ksem sm
theorem kindOf_ksem (k : Option Ko) : kindOf (ksem k) = some k := Function.partialInv_left ksem_inj k

/-- Device `c`'s cell `k`. -/
abbrev kcell (c : Dev nD) (k : Option Ko) : GSem nD τ sig := ((c : Thread nD τ), ksem k)

abbrev kBar : Option Ko := none
abbrev kCopy (b : Fin 2) : Option Ko := some (.inl b)
abbrev kLane (j : Fin 9) (l : Lane) : Option Ko := some (.inr (.inl (j, l)))
abbrev kFlush (d : Fin 2) (h : Fin 4) : Option Ko := some (.inr (.inr (d, h)))
/-- The cell the departures of hop `t` (0 to 2: reduce-scatter, 3 to 5: all-gather) count in. -/
abbrev jSend (t : Fin 6) : Fin 9 := ![1, 1, 1, 3, 4, 5] t
/-- The cell the arrivals of hop `t` count in. -/
abbrev jRecv (t : Fin 6) : Fin 9 := ![2, 2, 2, 6, 7, 8] t
/-- The round of a hop in its cells. -/
abbrev rnd (t : Fin 6) : ℕ := ![0, 1, 2, 0, 0, 0] t

theorem ksem_send : ∀ (t : Fin 6) (l : Lane), SemLoc.dma (sendS t l.1 l.2) = ksem (kLane (jSend t) l) := by decide +kernel
theorem ksem_recv : ∀ (t : Fin 6) (l : Lane), SemLoc.dma (recvS t l.1 l.2) = ksem (kLane (jRecv t) l) := by decide +kernel
theorem ksem_credit (l : Lane) : SemLoc.reg (creditS l.1 l.2) = ksem (kLane 0 l) := rfl
theorem ksem_copy (b : Fin 2) : SemLoc.dma (copyS b) = ksem (kCopy b) := rfl
theorem ksem_flush (d : Fin 2) (h : Fin 4) : SemLoc.dma (flushS d h) = ksem (kFlush d h) := rfl
theorem ksem_bar : SemLoc.reg barS = ksem kBar := rfl

/-! ### Amounts -/

/-- The credit of a row slab, of a block, of a half chunk. -/
def nSlab : ℕ := (bufV 0).view.dmaCredit
def nBlk : ℕ := (commV 0 0).view.dmaCredit
def nHalf : ℕ := (outH ![0, 0] (by decide)).view.dmaCredit

theorem credit_buf (b : Fin 2) : (bufV b).view.dmaCredit = nSlab := rfl
theorem credit_comm (d : Fin 2) (k : Fin 8) : (commV d k).view.dmaCredit = nBlk := rfl
theorem credit_acc (off : Fin 2 → ℕ) (h) : (accB off h).view.dmaCredit = nBlk := rfl
theorem credit_out (off : Fin 2 → ℕ) (h) : (outH off h).view.dmaCredit = nHalf := rfl

theorem nSlab_pos : 0 < nSlab := by decide +kernel
theorem nBlk_pos : 0 < nBlk := by decide +kernel
theorem nHalf_pos : 0 < nHalf := by decide +kernel

/-! ### Resources -/

/-- Elements of the accumulator, of the result, of `x`, of the copy buffer, of the landing buffer. -/
def accP (c : Dev nD) (I : Finset S4096x2048.Idx) (q : PosShare TreeShare) (f : AccT F) : sProp 𝕄 :=
  ((c : Thread nD τ).loc cc0_scratch8) ↦[I]{q} f
@[inherit_doc accP] def outP (c : Dev nD) (I : Finset S4096x2048.Idx) (f : AccT F) : sProp 𝕄 :=
  ((c : Thread nD τ).loc main_v1) ↦[I]{fullShare} f
@[inherit_doc accP] def xP (c : Dev nD) (I : Finset S4096x1024.Idx) (f : XT F) : sProp 𝕄 :=
  ((c : Thread nD τ).loc main_arg0) ↦[I]{fullShare} f
@[inherit_doc accP] def bufP (c : Dev nD) (I : Finset S2x256x1024.Idx) (f : BufT F) : sProp 𝕄 :=
  ((c : Thread nD τ).loc cc0_scratch0) ↦[I]{fullShare} f
@[inherit_doc accP] def commP (c : Dev nD) (I : Finset S2x1024x1024.Idx) (f : CommT F) : sProp 𝕄 :=
  ((c : Thread nD τ).loc cc0_scratch1) ↦[I]{fullShare} f

instance (c : Dev nD) (I) (q) (f : AccT F) : BI.Storable (upEmb : UEmb _ 𝕄) (accP c I q f) := by unfold accP; infer_instance
instance (c : Dev nD) (I) (f : AccT F) : BI.Storable (upEmb : UEmb _ 𝕄) (outP c I f) := by unfold outP; infer_instance
instance (c : Dev nD) (I) (f : XT F) : BI.Storable (upEmb : UEmb _ 𝕄) (xP c I f) := by unfold xP; infer_instance
instance (c : Dev nD) (I) (f : BufT F) : BI.Storable (upEmb : UEmb _ 𝕄) (bufP c I f) := by unfold bufP; infer_instance
instance (c : Dev nD) (I) (f : CommT F) : BI.Storable (upEmb : UEmb _ 𝕄) (commP c I f) := by unfold commP; infer_instance

/-- A block of the accumulator at some contents. -/
def blkAny (X : Dev nD) (l : Lane) (e : Dev nD) : sProp 𝕄 := iprop(∃ f : AccT F, accP e (blk X l.1 l.2) fullShare f)
/-- A block of the landing buffer at some contents. -/
def commAny (l : Lane) (e : Dev nD) : sProp 𝕄 := iprop(∃ f : CommT F, commP e (cblk l.1 l.2) f)

instance (X : Dev nD) (l : Lane) (e : Dev nD) : BI.Storable (upEmb : UEmb _ 𝕄) (blkAny (F := F) X l e) := by unfold blkAny; infer_instance
instance (l : Lane) (e : Dev nD) : BI.Storable (upEmb : UEmb _ 𝕄) (commAny (F := F) l e) := by unfold commAny; infer_instance

/-- The devices whose accumulator blocks travel with the arrival of hop `t` at `c`: first those the block has visited,
    then, as it goes round filling them, those still to be filled. -/
def others (d : Fin 2) (t : ℕ) (c : Dev nD) : List (Dev nD) :=
  match t with
  | 0 => [back d 1 c]
  | 1 => [back d 2 c, back d 1 c]
  | 2 => [back d 3 c, back d 2 c, back d 1 c]
  | 3 => [back d 3 c, back d 2 c]
  | 4 => [back d 3 c]
  | _ => []

theorem others_first : ∀ (d : Fin 2) (c : Dev nD), others d 0 (nxt d c) = [c] := by decide
theorem others_rs : ∀ (d : Fin 2) (t : Fin 2) (c : Dev nD), others d (t.val + 1) (nxt d c) = others d t.val c ++ [c] := by decide
theorem others_ag : ∀ (d : Fin 2) (h : Fin 3) (c : Dev nD), others d (2 + h.val) c = nxt d c :: others d (3 + h.val) (nxt d c) := by decide

/-- A family of assertions over a list. -/
def sepL {ι : Type} (Φ : ι → sProp 𝕄) : List ι → sProp 𝕄
  | [] => iprop(emp)
  | i :: l => iprop(Φ i ∗ sepL Φ l)

instance sepL_storable {ι : Type} (Φ : ι → sProp 𝕄) [∀ i, BI.Storable (upEmb : UEmb _ 𝕄) (Φ i)] (l : List ι) :
    BI.Storable (upEmb : UEmb _ 𝕄) (sepL Φ l) := by
  induction l with
  | nil => unfold sepL; infer_instance
  | cons i l ih => unfold sepL; infer_instance

section Pays
variable (xa : Dev nD → XT F) (wa : Dev nD → WT F)

/-- The devices' products. -/
def prods (c : Dev nD) : AccT F := part (xa c) (wa c)
/-- The result's contents, the same on every device. -/
def outAll : AccT F := outF (prods xa wa)

/-- What a neighbour's barrier signal hands over: the landing blocks of its direction on that neighbour. -/
def barPay (c : Dev nD) (d : Fin 2) : sProp 𝕄 := bigSep Finset.univ fun k : Fin 8 => commAny (F := F) (d, k) (nxt d c)
/-- A copied row slab. -/
def copyPay (c : Dev nD) (b : Fin 2) (r : ℕ) : sProp 𝕄 :=
  let i : Fin 16 := ⟨(2 * r + b.val) % 16, Nat.mod_lt _ (by decide)⟩
  iprop(bufP c (bslot b) (bufF (xa c) (rs c i)) ∗ xP c (xslab (rs c i)) (xa c))
/-- A credit: the neighbour's landing block is free again, its arrivals one round further. -/
def creditPay (c : Dev nD) (l : Lane) (r : ℕ) : sProp 𝕄 :=
  iprop(commAny (F := F) l (nxt l.1 c) ∗ reached ER (kcell (nxt l.1 c) (kLane 2 l)) (r + 1))
/-- A hop's arrival. -/
def recvPay (c : Dev nD) (l : Lane) (t : ℕ) : sProp 𝕄 :=
  iprop((if t < 3 then commP c (cblk l.1 l.2) (commF (back l.1 (t + 1) c) (V (prods xa wa) l.1 (prv l.1 c) t))
      else accP c (blk (back l.1 (t + 1) c) l.1 l.2) fullShare (outAll xa wa))
    ∗ sepL (blkAny (F := F) (back l.1 (t + 1) c) l) (others l.1 t c)
    ∗ (if t = 1 then reached ER (kcell (prv l.1 c) (kLane 0 l)) 1 else iprop(emp)))
/-- An all-gather departure: the share of the block lent to it. -/
def gonePay (c : Dev nD) (l : Lane) (h : ℕ) : sProp 𝕄 :=
  accP c (blk (back l.1 (h + 3) c) l.1 l.2) fullShare.left (outAll xa wa)
/-- A half chunk written out, and the share of the accumulator lent to it. -/
def flushPay (c : Dev nD) (d : Fin 2) (h : ℕ) : sProp 𝕄 :=
  iprop(outP c (half (back d (h + 3) c) d) (outAll xa wa) ∗ accP c (half (back d (h + 3) c) d) fullShare.right (outAll xa wa))

/-- What the rounds of a lane's cells hand over. -/
def lanePay (c : Dev nD) (j : Fin 9) (l : Lane) (r : ℕ) : sProp 𝕄 :=
  match j with
  | 0 => creditPay c l r
  | 1 => iprop(emp)
  | 2 => recvPay xa wa c l r
  | 3 => gonePay xa wa c l 0
  | 4 => gonePay xa wa c l 1
  | 5 => gonePay xa wa c l 2
  | 6 => recvPay xa wa c l 3
  | 7 => recvPay xa wa c l 4
  | 8 => recvPay xa wa c l 5
/-- What a round of a cell hands over. -/
def payK (c : Dev nD) (k : Option Ko) (r : ℕ) (δ : Fin 2) : sProp 𝕄 :=
  match k with
  | none => barPay c δ
  | some (.inl b) => copyPay xa c b r
  | some (.inr (.inl jl)) => lanePay xa wa c jl.1 jl.2 r
  | some (.inr (.inr dh)) => flushPay xa wa c dh.1 dh.2.val

instance (c : Dev nD) (d : Fin 2) : BI.Storable (upEmb : UEmb _ 𝕄) (barPay (F := F) c d) := by unfold barPay; infer_instance
instance (c : Dev nD) (b : Fin 2) (r : ℕ) : BI.Storable (upEmb : UEmb _ 𝕄) (copyPay xa c b r) := by unfold copyPay; infer_instance
instance (c : Dev nD) (l : Lane) (r : ℕ) : BI.Storable (upEmb : UEmb _ 𝕄) (creditPay (F := F) c l r) := by unfold creditPay; infer_instance
instance (c : Dev nD) (l : Lane) (r : ℕ) : BI.Storable (upEmb : UEmb _ 𝕄) (recvPay xa wa c l r) := by
  unfold recvPay; (repeat' split) <;> infer_instance
instance (c : Dev nD) (l : Lane) (r : ℕ) : BI.Storable (upEmb : UEmb _ 𝕄) (gonePay xa wa c l r) := by unfold gonePay; infer_instance
instance (c : Dev nD) (d : Fin 2) (r : ℕ) : BI.Storable (upEmb : UEmb _ 𝕄) (flushPay xa wa c d r) := by unfold flushPay; infer_instance
instance (c : Dev nD) (j : Fin 9) (l : Lane) (r : ℕ) : BI.Storable (upEmb : UEmb _ 𝕄) (lanePay xa wa c j l r) := by
  unfold lanePay; split <;> infer_instance
instance (c : Dev nD) (k : Option Ko) (r : ℕ) (δ : Fin 2) : BI.Storable (upEmb : UEmb _ 𝕄) (payK xa wa c k r δ) := by
  unfold payK; split <;> infer_instance

end Pays

/-! ### The schedule -/

/-- How many rounds a cell has. -/
def rounds : Option Ko → ℕ
  | none => 1
  | some (.inl _) => 8
  | some (.inr (.inl jl)) => ![2, 3, 3, 1, 1, 1, 1, 1, 1] jl.1
  | some (.inr (.inr _)) => 1
/-- The duties of a round: the barrier has one per neighbour, every other cell one. -/
def dutiesK (k : Option Ko) (r : ℕ) : Finset (Fin 2) :=
  if r < rounds k then (match k with | none => Finset.univ | some _ => {0}) else ∅
/-- The units of a duty. -/
def amountK : Option Ko → ℕ
  | none => 1
  | some (.inl _) => nSlab
  | some (.inr (.inl jl)) => if jl.1 = 0 then 1 else nBlk
  | some (.inr (.inr _)) => nHalf

theorem amountK_pos (k : Option Ko) : 0 < amountK k := by
  unfold amountK
  split
  · exact Nat.one_pos
  · exact nSlab_pos
  · split
    · exact Nat.one_pos
    · exact nBlk_pos
  · exact nHalf_pos

/-- The units of a duty at any cell. -/
def amountG (g : GSem nD τ sig) : ℕ := match kindOf g.2 with | none => 1 | some k => amountK k
theorem amountG_pos (g : GSem nD τ sig) : 0 < amountG g := by
  unfold amountG; split
  · exact Nat.one_pos
  · exact amountK_pos _

section Sched
variable (xa : Dev nD → XT F) (wa : Dev nD → WT F)

/-- The rounds of every cell. -/
def Rd : Rounds.Schedule (GSem nD τ sig) (Fin 2) 𝕄 where
  duties g r := if g.1.2 = .tc then (match kindOf g.2 with | none => ∅ | some k => dutiesK k r) else ∅
  amount g _ _ := amountG g
  payload g r δ := match kindOf g.2 with | none => iprop(emp) | some k => payK xa wa g.1.1 k r δ
  unitless _ := False
  amount_pos g _ _ _ := amountG_pos g

instance Rd_storable (g : GSem nD τ sig) (r : ℕ) (δ : Fin 2) : BI.Storable (upEmb : UEmb _ 𝕄) ((Rd xa wa).payload g r δ) := by
  show BI.Storable (upEmb : UEmb _ 𝕄) (match kindOf g.2 with | none => iprop(emp) | some k => payK xa wa g.1.1 k r δ)
  split <;> infer_instance

theorem duties_eq (c : Dev nD) (k : Option Ko) (r : ℕ) : (Rd xa wa).duties (kcell c k) r = dutiesK k r := by
  dsimp only [Rd, kcell]; rw [if_pos rfl, kindOf_ksem]
theorem amount_eq (c : Dev nD) (k : Option Ko) (r : ℕ) (δ : Fin 2) : (Rd xa wa).amount (kcell c k) r δ = amountK k := by
  dsimp only [Rd, kcell, amountG]; rw [kindOf_ksem]
theorem payload_eq (c : Dev nD) (k : Option Ko) (r : ℕ) (δ : Fin 2) : (Rd xa wa).payload (kcell c k) r δ = payK xa wa c k r δ := by
  dsimp only [Rd, kcell]; rw [kindOf_ksem]
theorem duties_done (c : Dev nD) (k : Option Ko) : ∀ r, rounds k ≤ r → (Rd xa wa).duties (kcell c k) r = ∅ := fun r h => by
  rw [duties_eq]; exact if_neg (Nat.not_lt.mpr h)
theorem mem_duties (c : Dev nD) (k : Ko) {r : ℕ} (h : r < rounds (some k)) : (0 : Fin 2) ∈ (Rd xa wa).duties (kcell c (some k)) r := by
  rw [duties_eq]; unfold dutiesK; rw [if_pos h]; exact Finset.mem_singleton_self _
theorem expect_one (c : Dev nD) (k : Ko) {r : ℕ} (h : r < rounds (some k)) :
    (Rd xa wa).expect (kcell c (some k)) r = amountK (some k) := by
  unfold Schedule.expect Schedule.amountOf
  rw [duties_eq]; unfold dutiesK; rw [if_pos h]
  show (∑ d ∈ {(0 : Fin 2)}, _) = _
  rw [Finset.sum_singleton, amount_eq]
theorem rest_one (c : Dev nD) (k : Ko) {r : ℕ} (h : r < rounds (some k)) :
    bigSep ((Rd xa wa).duties (kcell c (some k)) r \ ∅) (fun δ => (Rd xa wa).payload (kcell c (some k)) r δ) = payK xa wa c (some k) r 0 := by
  rw [duties_eq, Finset.sdiff_empty]; unfold dutiesK; rw [if_pos h]
  show bigSep {(0 : Fin 2)} _ = _
  rw [bigSep_singleton, payload_eq]
theorem expect_bar (c : Dev nD) : (Rd xa wa).expect (kcell c none) 0 = 2 := by
  unfold Schedule.expect Schedule.amountOf
  rw [duties_eq]; unfold dutiesK
  show (∑ d ∈ (Finset.univ : Finset (Fin 2)), _) = _
  rw [Fin.sum_univ_two, amount_eq, amount_eq]; rfl
theorem rest_bar (c : Dev nD) :
    bigSep ((Rd xa wa).duties (kcell c none) 0 \ ∅) (fun δ => (Rd xa wa).payload (kcell c none) 0 δ)
      = iprop(barPay (F := F) c 0 ∗ barPay c 1) := by
  rw [duties_eq, Finset.sdiff_empty]; unfold dutiesK
  show bigSep (Finset.univ : Finset (Fin 2)) _ = _
  rw [bigSep_univ_two, payload_eq, payload_eq]; rfl

end Sched

/-! ### Levels and what is owed -/

/-- The level of round `i` of a cell: an arrival of hop `t` in the lane `(d, k)` at twice `16 t + 2 k + d` and two more, the
    credit after it one above, the barrier below them all, everything local at zero. -/
def lvK : Option Ko → ℕ → ℕ
  | none, _ => 1
  | some (.inl _), _ => 0
  | some (.inr (.inl (j, l))), i =>
    if j.val = 0 then 2 * (16 * i + 2 * l.2.val + l.1.val) + 3
    else if j.val = 2 then 2 * (16 * i + 2 * l.2.val + l.1.val) + 2
    else if 6 ≤ j.val then 2 * (16 * (j.val - 3) + 2 * l.2.val + l.1.val) + 2 else 0
  | some (.inr (.inr _)), _ => 0
def lv (g : GSem nD τ sig) (i : ℕ) : ℕ := match kindOf g.2 with | none => 0 | some k => lvK k i
def L (g : GSem nD τ sig) : Finset ℕ := if g.1.2 = .tc then Finset.range 8 else ∅

theorem L_of_ne (g : GSem nD τ sig) (h : g.1.2 ≠ .tc) : L g = ∅ := if_neg h
theorem L_tc (c : Dev nD) (sm : SemLoc sig) : L ((c : Thread nD τ), sm) = Finset.range 8 := if_pos rfl
theorem lv_eq (c : Dev nD) (k : Option Ko) (i : ℕ) : lv (kcell c k) i = lvK k i := by dsimp only [lv, kcell]; rw [kindOf_ksem]

/-- A payment to another device. -/
inductive PK where
  /-- The barrier signal to the upstream neighbour of a direction. -/
  | bar (d : Fin 2)
  /-- The arrival of a hop at the downstream neighbour. -/
  | hop (t : Fin 6) (l : Lane)
  /-- A credit to the upstream neighbour. -/
  | cred (s : Fin 2) (l : Lane)
  deriving DecidableEq

/-- Its level. -/
def PK.lvl : PK → ℕ
  | .bar _ => 1
  | .hop t l => 2 * (16 * t.val + 2 * l.2.val + l.1.val) + 2
  | .cred s l => 2 * (16 * s.val + 2 * l.2.val + l.1.val) + 3
/-- Its cell, round and amount when device `c` pays it. -/
def PK.pay (c : Dev nD) : PK → Pay nD τ sig
  | .bar d => (kcell (prv d c) kBar, 0, 1)
  | .hop t l => (kcell (nxt l.1 c) (kLane (jRecv t) l), rnd t, nBlk)
  | .cred s l => (kcell (prv l.1 c) (kLane 0 l), s.val, 1)

theorem lv_pay (c : Dev nD) (e : PK) : lv (e.pay c).1 (e.pay c).2.1 = e.lvl := by
  cases e with
  | bar d => exact lv_eq _ _ _
  | hop t l =>
    refine (lv_eq _ _ _).trans ?_
    show lvK (kLane (jRecv t) l) (rnd t) = _
    fin_cases t <;> rfl
  | cred s l => exact lv_eq _ _ _
theorem pay_tc (c : Dev nD) (e : PK) : (e.pay c).1.1.2 = .tc := by cases e <;> rfl
theorem pay_mem (c : Dev nD) (e : PK) : (e.pay c).2.1 ∈ L (e.pay c).1 := by
  unfold L; rw [if_pos (pay_tc c e)]
  cases e with
  | bar d => exact Finset.mem_range.mpr (by show 0 < 8; decide)
  | hop t l => exact Finset.mem_range.mpr (by show rnd t < 8; revert t; decide)
  | cred s l => exact Finset.mem_range.mpr (by show s.val < 8; omega)

/-- What a device owes. -/
abbrev tally (c : Dev nD) (l : List PK) : CellTallies nD τ sig ℕ := tallyL (l.map (PK.pay c))

theorem tally_cons (c : Dev nD) (e : PK) (l : List PK) :
    tally c (e :: l) = tally c l + tallyAt (e.pay c).1 (e.pay c).2.1 (e.pay c).2.2 := add_comm _ _

/-- A wait at or below level `b` while what is owed is above. -/
theorem mayWait (c : Dev nD) (sm : SemLoc sig) (ι : ℕ) (hι : ι < 8) (l : List PK) (b : ℕ) (hb : lv ((c : Thread nD τ), sm) ι ≤ b)
    (hl : ∀ e ∈ l, b < e.lvl) : (levAts L lv : sProp 𝕄) ⊢ MayWait (c : Thread nD τ) sm ι (tally c l) := by
  have key : ∀ (g : GSem nD τ sig) (i : ℕ), 0 < tally c l g i → ∃ e ∈ l, g = (e.pay c).1 ∧ i = (e.pay c).2.1 := fun g i h => by
    obtain ⟨x, hx, h1, h2⟩ := TalkSites.tallyL_pos h
    obtain ⟨e, he, rfl⟩ := List.mem_map.mp hx
    exact ⟨e, he, h1, h2⟩
  refine MayOwe.of_cut (L := L) (lev := lv) b (fun p hp => ?_) (fun g i h => ?_) (fun p hp => ?_) (fun g i h => ?_)
  · rw [Finset.mem_singleton.mp hp, L_tc]; exact Finset.mem_range.mpr hι
  · obtain ⟨e, he, rfl, rfl⟩ := key g i h; exact pay_mem c e
  · rw [Finset.mem_singleton.mp hp]; exact hb
  · obtain ⟨e, he, rfl, rfl⟩ := key g i h; rw [lv_pay]; exact hl e he

/-- All a device pays, in program order. -/
def todo : List PK :=
  .bar 0 :: .bar 1 :: (lanes.map (PK.hop 0) ++ (lanes.flatMap (fun l => [.cred 0 l, .hop 1 l]) ++ (lanes.flatMap (fun l => [.cred 1 l, .hop 2 l])
    ++ (lanes.map (PK.hop 3) ++ (lanes.map (PK.hop 4) ++ lanes.map (PK.hop 5))))))

end Cert.KernelIdeal.RS

end
-- ==== Proof.Steps.lean ====
/- One rule per step of the body, at a symbolic device, lane and hop: what the step takes and what it leaves. -/
module

public import proofs.«01_k».proof.Proof.Proto
public import Idealize.ShloMosaic.Lib.Pipeline.Frame

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

local notation "𝕄" => MT nD τ sig ℕ (Elt F) ℕ UU ℕ

abbrev 𝒱₀ : Variants := Variants.none

/-- The weakest precondition of a device's program. -/
abbrev WP (c : Dev nD) (p : PG F) (Q : PUnit → sProp 𝕄) : sProp 𝕄 :=
  wp frame (wpE (defs₀ (F := F)) 𝒱₀ (c : Thread nD τ) none) Set.univ p Q

/-- A lane's cell of kind `j`. -/
abbrev oLane (j : Fin 9) (l : Lane) : Ko := .inr (.inl (j, l))
abbrev oCopy (b : Fin 2) : Ko := .inl b
abbrev oFlush (d : Fin 2) (h : Fin 4) : Ko := .inr (.inr (d, h))

/-- A device stands at round `r` of its cell `k`. -/
abbrev At (c : Dev nD) (k : Option Ko) (r : ℕ) : sProp 𝕄 := atPos ER (kcell c k) r ∅ 0
/-- The credit of round `r` of a device's own cell. -/
abbrev Cr (c : Dev nD) (k : Ko) (r : ℕ) : sProp 𝕄 := cred (tallyAt (kcell c (some k)) r (amountK (some k)))
/-- The right to complete round `r` of cell `k` of device `e`. -/
abbrev Tok (e : Dev nD) (k : Ko) (r : ℕ) : sProp 𝕄 := dutyTok ER (kcell e (some k)) r 0
/-- Round `r` of cell `k` of device `e` is reached. -/
abbrev Rch (e : Dev nD) (k : Option Ko) (r : ℕ) : sProp 𝕄 := reached ER (kcell e k) r
/-- A device owes the payments of a list. -/
def Owe (c : Dev nD) (l : List PK) : sProp 𝕄 := iprop(∃ W : Waits sig ℕ, owes (c : Thread nD τ) (tally c l) W)

section Ctx
variable (xa : Dev nD → XT F) (wa : Dev nD → WT F) (K : Dev nD × Option Ko → ℕ)

/-- What every device may use throughout: every cell's invariant, that every cell's first round is reached, the levels. -/
def Ctx : sProp 𝕄 :=
  iprop((bigSep Finset.univ fun ck : Dev nD × Option Ko => cellInv ER (Rd xa wa) (K ck) (kcell ck.1 ck.2))
    ∗ (bigSep Finset.univ fun ck : Dev nD × Option Ko => Rch (F := F) ck.1 ck.2 0) ∗ levAts L lv)

instance Ctx_persistent : BI.Persistent (Ctx xa wa K) := by unfold Ctx; infer_instance

theorem Ctx_inv (c : Dev nD) (k : Option Ko) : Ctx xa wa K ⊢ cellInv ER (Rd xa wa) (K (c, k)) (kcell c k) := by
  unfold Ctx
  iintro ⟨#H, -, -⟩
  iapply (show (bigSep Finset.univ fun ck : Dev nD × Option Ko => cellInv ER (Rd xa wa) (K ck) (kcell ck.1 ck.2))
      ⊢ cellInv ER (Rd xa wa) (K (c, k)) (kcell c k) from
    bigSep_elim (Φ := fun ck : Dev nD × Option Ko => cellInv ER (Rd xa wa) (K ck) (kcell ck.1 ck.2)) (Finset.mem_univ (c, k)))
  iexact H
theorem Ctx_rch (c : Dev nD) (k : Option Ko) : Ctx xa wa K ⊢ Rch c k 0 := by
  unfold Ctx
  iintro ⟨-, #H, -⟩
  iapply (show (bigSep Finset.univ fun ck : Dev nD × Option Ko => Rch (F := F) ck.1 ck.2 0) ⊢ Rch c k 0 from
    bigSep_elim (Φ := fun ck : Dev nD × Option Ko => Rch (F := F) ck.1 ck.2 0) (Finset.mem_univ (c, k)))
  iexact H
theorem Ctx_lev : Ctx xa wa K ⊢ levAts L lv := by
  unfold Ctx
  iintro ⟨-, -, #H⟩
  iexact H

/-! ### Waits -/

/-- A wait for the whole of round `r` of an own cell. -/
theorem wait_wp (c : Dev nD) (k : Ko) {sm : SemLoc sig} (hs : sm = ksem (some k)) (r : ℕ) (hr : r < rounds (some k)) (h8 : r < 8) {n : ℕ}
    (hn : n = amountK (some k)) {w : TpuEff nD τ sig (Elt F) Λ₀ (c : Thread nD τ).2 PUnit}
    (hw : ∀ Q : PUnit → sProp 𝕄, wpE (defs₀ (F := F)) 𝒱₀ (c : Thread nD τ) none Set.univ w Q = waitSpec (c : Thread nD τ) Set.univ sm n Q)
    (l : List PK) (hl : ∀ e ∈ l, lvK (some k) r < e.lvl) {f : PUnit → PG F} {Q : PUnit → sProp 𝕄} :
    iprop(Ctx xa wa K ∗ Cr c k r ∗ Owe c l ∗ At c (some k) r)
      ⊢ iprop(((Owe c l ∗ At c (some k) (r + 1) ∗ Rch c (some k) (r + 1) ∗ payK xa wa c (some k) r 0) -∗ WP c (f ⟨⟩) Q)
        -∗ WP c (.op w f) Q) := by
  subst hs hn
  unfold Owe
  iintro ⟨#HC, Hcr, ⟨%W, HO⟩, Hat⟩ Hk
  iapply (Rounds.wp_wait_rest_token 𝒱₀ ER (Rd xa wa) (c : Thread nD τ) none (κ := K (c, some k)) hw (Set.mem_univ _) r
      (O := tally c l) (W := W) (R := r) (m := 0) (T := ∅) ((Nat.zero_add _).trans (expect_one xa wa c k hr).symm)) $$ [Hcr HO Hat]
  · isplitr; · iapply (Ctx_inv xa wa K c (some k)); iexact HC
    isplitl [Hcr]; · iexact Hcr
    isplitl [HO]; · iexact HO
    isplitr
    · iapply (mayWait c (ksem (some k)) r h8 l (lvK (some k) r) (le_of_eq (lv_eq c (some k) r)) hl)
      iapply (Ctx_lev xa wa K); iexact HC
    iexact Hat
  iintro ⟨HO, Hat, Hr, Hpay⟩
  ihave Hp := (Entails.of_eq (rest_one xa wa c k hr)) $$ Hpay
  iapply Hk
  isplitl [HO]; · iexists _; iexact HO
  isplitl [Hat]; · iexact Hat
  isplitl [Hr]; · iexact Hr
  iexact Hp

/-- A wait for a copy's or a transfer's round. -/
theorem waitP_wp (c : Dev nD) (k : Ko) {sem : DmaSem sig} (hs : SemLoc.dma sem = ksem (some k)) (r : ℕ) (hr : r < rounds (some k)) (h8 : r < 8)
    {sp sp' : Space} {s : Shape} {src : Memref sig .tc sp s .f32} {dst : Memref sig .tc sp' s .f32} (hn : dst.view.dmaCredit = amountK (some k))
    (l : List PK) (hl : ∀ e ∈ l, lvK (some k) r < e.lvl) {p : PG F} {Q : PUnit → sProp 𝕄} :
    iprop(Ctx xa wa K ∗ Cr c k r ∗ Owe c l ∗ At c (some k) r)
      ⊢ iprop(((Owe c l ∗ At c (some k) (r + 1) ∗ Rch c (some k) (r + 1) ∗ payK xa wa c (some k) r 0) -∗ WP c p Q)
        -∗ WP c (waitP sem src dst p) Q) :=
  wait_wp xa wa K c k hs r hr h8 hn (wpE_waitDma2_eq 𝒱₀ (c : Thread nD τ) none Set.univ) l hl (f := fun _ => p)

/-- The wait for a credit. -/
theorem creditwait_wp (c : Dev nD) (lane : Lane) (r : ℕ) (hr : r < 2)
    (l : List PK) (hl : ∀ e ∈ l, lvK (kLane 0 lane) r < e.lvl) {p : PG F} {Q : PUnit → sProp 𝕄} :
    iprop(Ctx xa wa K ∗ Cr c (oLane 0 lane) r ∗ Owe c l ∗ At c (kLane 0 lane) r)
      ⊢ iprop(((Owe c l ∗ At c (kLane 0 lane) (r + 1) ∗ Rch c (kLane 0 lane) (r + 1) ∗ creditPay c lane r) -∗ WP c p Q)
        -∗ WP c (swaitP (creditS lane.1 lane.2) 1 p) Q) :=
  wait_wp xa wa K c (oLane 0 lane) (sm := .reg (creditS lane.1 lane.2)) rfl r hr (by omega) (n := 1) rfl
    (w := .semWait (creditS lane.1 lane.2) (1 : ℕ)) (wpE_semWait_eq 𝒱₀ (c : Thread nD τ) none Set.univ) l hl (f := fun _ => p)

/-- The wait for both neighbours at the barrier. -/
theorem barwait_wp (c : Dev nD) (l : List PK) (hl : ∀ e ∈ l, 1 < e.lvl) {p : PG F} {Q : PUnit → sProp 𝕄} :
    iprop(Ctx xa wa K ∗ cred (tallyAt (kcell c kBar) 0 2) ∗ Owe c l ∗ At c kBar 0)
      ⊢ iprop(((Owe c l ∗ At c kBar 1 ∗ barPay c 0 ∗ barPay c 1) -∗ WP c p Q) -∗ WP c (swaitP barS 2 p) Q) := by
  unfold Owe swaitP
  iintro ⟨#HC, Hcr, ⟨%W, HO⟩, Hat⟩ Hk
  iapply (Rounds.wp_wait_rest_token 𝒱₀ ER (Rd xa wa) (c : Thread nD τ) none (κ := K (c, kBar)) (sm := ksem kBar)
      (wpE_semWait_eq 𝒱₀ (c : Thread nD τ) none Set.univ) (Set.mem_univ _) 0
      (O := tally c l) (W := W) (R := 0) (m := 0) (T := ∅) ((Nat.zero_add _).trans (expect_bar xa wa c).symm)) $$ [Hcr HO Hat]
  · isplitr; · iapply (Ctx_inv xa wa K c kBar); iexact HC
    isplitl [Hcr]; · iexact Hcr
    isplitl [HO]; · iexact HO
    isplitr
    · iapply (mayWait c (ksem kBar) 0 (by decide) l 1 (le_of_eq (lv_eq c kBar 0)) hl)
      iapply (Ctx_lev xa wa K); iexact HC
    iexact Hat
  iintro ⟨HO, Hat, -, Hpay⟩
  ihave Hp := (Entails.of_eq (rest_bar xa wa c)) $$ Hpay
  iapply Hk
  isplitl [HO]; · iexists _; iexact HO
  isplitl [Hat]; · iexact Hat
  iexact Hp

/-! ### Signals -/

/-- The barrier signal of direction `d`. -/
theorem barsig_wp (c : Dev nD) (d : Fin 2) (l : List PK) {p : PG F} {Q : PUnit → sProp 𝕄} :
    iprop(Ctx xa wa K ∗ Owe c (.bar d :: l) ∗ dutyTok ER (kcell (prv d c) kBar) 0 d ∗ (bigSep Finset.univ fun k : Fin 8 => commAny (F := F) (d, k) c))
      ⊢ iprop((Owe c l -∗ WP c p Q) -∗ WP c (sigP (prv d c) barS p) Q) := by
  have hp : (bigSep Finset.univ fun k : Fin 8 => commAny (F := F) (d, k) c) ⊢ (Rd xa wa).payload (((prv d c : Dev nD) : Thread nD τ), SemLoc.reg barS) 0 d := by
    refine .trans ?_ (Entails.of_eq (payload_eq xa wa (prv d c) kBar 0 d).symm)
    show _ ⊢ barPay (prv d c) d
    unfold barPay; rw [nxt_prv]
  unfold Owe sigP
  iintro ⟨#HC, ⟨%W, HO⟩, Ht, Hm⟩ Hk
  iapply (Rounds.wp_signal 𝒱₀ ER (Rd xa wa) (c : Thread nD τ) none (dst := (prv d c : Thread nD τ)) (κ := K (prv d c, kBar)) (sem := barS) (r := 0)
      (d := d) (by rw [show (((prv d c : Dev nD) : Thread nD τ), SemLoc.reg barS) = kcell (prv d c) kBar from rfl, duties_eq]; exact Finset.mem_univ _)
      (amount_eq xa wa (prv d c) kBar 0 d) 0 (tally c l) (tally_cons c (.bar d) l) (W := W)) $$ [HO Ht Hm]
  · isplitr; · iapply (Ctx_inv xa wa K (prv d c) kBar); iexact HC
    isplitl [HO]; · iexact HO
    isplitl [Ht]; · iexact Ht
    isplitl [Hm]
    · iapply hp; iexact Hm
    iapply (Ctx_rch xa wa K (prv d c) kBar); iexact HC
  iintro HO
  iapply Hk
  iexists W; iexact HO

/-- A credit to the upstream neighbour. -/
theorem credit_wp (c : Dev nD) (lane : Lane) (s : Fin 2) (l : List PK) {p : PG F} {Q : PUnit → sProp 𝕄} :
    iprop(Ctx xa wa K ∗ Owe c (.cred s lane :: l) ∗ Tok (prv lane.1 c) (oLane 0 lane) s.val ∗ commAny lane c
        ∗ Rch c (kLane 2 lane) (s.val + 1) ∗ Rch (prv lane.1 c) (kLane 0 lane) s.val)
      ⊢ iprop((Owe c l -∗ WP c p Q) -∗ WP c (sigP (prv lane.1 c) (creditS lane.1 lane.2) p) Q) := by
  have hp : iprop(commAny lane c ∗ Rch c (kLane 2 lane) (s.val + 1))
      ⊢ (Rd xa wa).payload (((prv lane.1 c : Dev nD) : Thread nD τ), SemLoc.reg (creditS lane.1 lane.2)) s.val 0 := by
    refine .trans ?_ (Entails.of_eq (payload_eq xa wa (prv lane.1 c) (kLane 0 lane) s.val 0).symm)
    show _ ⊢ creditPay (prv lane.1 c) lane s.val
    unfold creditPay; rw [nxt_prv]
  unfold Owe sigP
  iintro ⟨#HC, ⟨%W, HO⟩, Ht, Hm, Hr, Hr'⟩ Hk
  iapply (Rounds.wp_signal 𝒱₀ ER (Rd xa wa) (c : Thread nD τ) none (dst := (prv lane.1 c : Thread nD τ)) (κ := K (prv lane.1 c, kLane 0 lane))
      (sem := creditS lane.1 lane.2) (r := s.val) (d := 0) (mem_duties xa wa (prv lane.1 c) (oLane 0 lane) s.isLt)
      (amount_eq xa wa (prv lane.1 c) (kLane 0 lane) s.val 0) s.val (tally c l) (tally_cons c (.cred s lane) l) (W := W)) $$ [HO Ht Hm Hr Hr']
  · isplitr; · iapply (Ctx_inv xa wa K (prv lane.1 c) (kLane 0 lane)); iexact HC
    isplitl [HO]; · iexact HO
    isplitl [Ht]; · iexact Ht
    isplitl [Hm Hr]
    · iapply hp
      isplitl [Hm]; · iexact Hm
      iexact Hr
    iexact Hr'
  iintro HO
  iapply Hk
  iexists W; iexact HO

/-! ### Transfers and copies -/

theorem sepL_append {ι : Type} (Φ : ι → sProp 𝕄) (l₁ l₂ : List ι) : iprop(sepL Φ l₁ ∗ sepL Φ l₂) ⊢ sepL Φ (l₁ ++ l₂) := by
  induction l₁ with
  | nil => iintro ⟨-, H⟩; iexact H
  | cons i l₁ ih =>
    show iprop((Φ i ∗ sepL Φ l₁) ∗ sepL Φ l₂) ⊢ iprop(Φ i ∗ sepL Φ (l₁ ++ l₂))
    iintro ⟨⟨H1, H2⟩, H3⟩
    isplitl [H1]; · iexact H1
    iapply ih
    isplitl [H2]; · iexact H2
    iexact H3

/-- A transfer to the downstream neighbour, its source lent to the arrival or to the departure. -/
theorem sendRaw_wp (c : Dev nD) (t : Fin 6) (lane : Lane) {src dst : Memref sig .tc .vmem S128x1024 .f32} (hN : dst.view.dmaCredit = nBlk)
    (q : PosShare TreeShare) (fs : Buf (Elt F) (src.view.loc (c : Thread nD τ))) (fd : Buf (Elt F) (dst.view.loc (nxt lane.1 c : Thread nD τ)))
    (R : sProp 𝕄) (l : List PK)
    (hpay : ((iprop(((src.view.loc (c : Thread nD τ)) ↦[src.view.set]{q} fs)) ⊢ payK xa wa c (kLane (jSend t) lane) (rnd t) 0)
          ∧ (iprop((dst.view.loc (nxt lane.1 c : Thread nD τ) ↦[dst.view.set]{fullShare} (dst.view.write (Elt F) fd (src.view.read (Elt F) fs) Finset.univ)) ∗ R)
            ⊢ payK xa wa (nxt lane.1 c) (kLane (jRecv t) lane) (rnd t) 0))
        ∨ (((emp : sProp 𝕄) ⊢ payK xa wa c (kLane (jSend t) lane) (rnd t) 0)
          ∧ (iprop(((dst.view.loc (nxt lane.1 c : Thread nD τ) ↦[dst.view.set]{fullShare} (dst.view.write (Elt F) fd (src.view.read (Elt F) fs) Finset.univ)) ∗ R)
              ∗ ((src.view.loc (c : Thread nD τ)) ↦[src.view.set]{q} fs))
            ⊢ payK xa wa (nxt lane.1 c) (kLane (jRecv t) lane) (rnd t) 0)))
    {p : PG F} {Q : PUnit → sProp 𝕄} :
    iprop(Ctx xa wa K ∗ ((src.view.loc (c : Thread nD τ)) ↦[src.view.set]{q} fs)
        ∗ ((dst.view.loc (nxt lane.1 c : Thread nD τ) ↦[dst.view.set]{fullShare} fd) ∗ R)
        ∗ Owe c (.hop t lane :: l) ∗ Tok c (oLane (jSend t) lane) (rnd t) ∗ Rch c (kLane (jSend t) lane) (rnd t)
        ∗ Tok (nxt lane.1 c) (oLane (jRecv t) lane) (rnd t) ∗ Rch (nxt lane.1 c) (kLane (jRecv t) lane) (rnd t))
      ⊢ iprop(((Cr c (oLane (jSend t) lane) (rnd t) ∗ Owe c l) -∗ WP c p Q)
        -∗ WP c (sendP (nxt lane.1 c) src dst (sendS t lane.1 lane.2) (recvS t lane.1 lane.2) p) Q) := by
  have hsS := ksem_send t lane
  have hsR := ksem_recv t lane
  have hcS : kcell c (kLane (jSend t) lane) = ((c : Thread nD τ), SemLoc.dma (sendS t lane.1 lane.2)) := by rw [hsS]
  have hcR : kcell (nxt lane.1 c) (kLane (jRecv t) lane) = ((nxt lane.1 c : Thread nD τ), SemLoc.dma (recvS t lane.1 lane.2)) := by rw [hsR]
  have hrS : rnd t < rounds (kLane (jSend t) lane) := (show ∀ t : Fin 6, rnd t < ![2, 3, 3, 1, 1, 1, 1, 1, 1] (jSend t) by decide) t
  have hrR : rnd t < rounds (kLane (jRecv t) lane) := (show ∀ t : Fin 6, rnd t < ![2, 3, 3, 1, 1, 1, 1, 1, 1] (jRecv t) by decide) t
  have haS : amountK (kLane (jSend t) lane) = nBlk := by fin_cases t <;> rfl
  have haR : amountK (kLane (jRecv t) lane) = nBlk := by fin_cases t <;> rfl
  have hd₁ := mem_duties xa wa c (oLane (jSend t) lane) hrS
  have hd₂ := mem_duties xa wa (nxt lane.1 c) (oLane (jRecv t) lane) hrR
  have hk₁ := (amount_eq xa wa c (kLane (jSend t) lane) (rnd t) 0).trans haS
  have hk₂ := (amount_eq xa wa (nxt lane.1 c) (kLane (jRecv t) lane) (rnd t) 0).trans haR
  have hi₁ := Ctx_inv xa wa K c (kLane (jSend t) lane)
  have hi₂ := Ctx_inv xa wa K (nxt lane.1 c) (kLane (jRecv t) lane)
  have hO := tally_cons c (.hop t lane) l
  simp only [← payload_eq xa wa] at hpay
  rw [show ((PK.hop t lane).pay c) = (kcell (nxt lane.1 c) (kLane (jRecv t) lane), rnd t, nBlk) from rfl] at hO
  unfold Owe sendP Cr Tok Rch
  rw [haS]
  rw [hcS] at hd₁ hk₁ hi₁ hpay ⊢
  rw [hcR] at hd₂ hk₂ hi₂ hpay hO ⊢
  iintro ⟨#HC, Hsrc, Hdst, ⟨%W, HO⟩, HtS, HrS, HtR, HrR⟩ Hk
  rcases hpay with ⟨hp₁, hp₂⟩ | ⟨hp₁, hp₂⟩
  · iapply (Rounds.wp_send_pointsTo_with 𝒱₀ ER (Rd xa wa) (c : Thread nD τ) none (κ₁ := K (c, kLane (jSend t) lane)) (κ₂ := K (nxt lane.1 c, kLane (jRecv t) lane))
      (r₁ := rnd t) (r₂ := rnd t) (d₁ := 0) (d₂ := 0) (fd := fd) hd₁ hd₂ (rnd t) (rnd t) nBlk hN hk₁ hk₂ (tally c l) hO (W := W) hp₁ hp₂) $$ [Hsrc Hdst HO HtS HrS HtR HrR]
    · isplitr; · iapply hi₁; iexact HC
      isplitr; · iapply hi₂; iexact HC
      isplitl [Hsrc]; · iexact Hsrc
      isplitl [Hdst]; · iexact Hdst
      isplitl [HO]; · iexact HO
      isplitl [HtS]; · iexact HtS
      isplitl [HrS]; · iexact HrS
      isplitl [HtR]; · iexact HtR
      iexact HrR
    iintro ⟨Hc, HO⟩
    iapply Hk
    isplitl [Hc]; · iexact Hc
    iexists W; iexact HO
  · iapply (Rounds.wp_send_landing_pointsTo_with 𝒱₀ ER (Rd xa wa) (c : Thread nD τ) none (κ₁ := K (c, kLane (jSend t) lane)) (κ₂ := K (nxt lane.1 c, kLane (jRecv t) lane))
      (r₁ := rnd t) (r₂ := rnd t) (d₁ := 0) (d₂ := 0) (fd := fd) hd₁ hd₂ (rnd t) (rnd t) nBlk hN hk₁ hk₂ (tally c l) hO (W := W) hp₁ hp₂) $$ [Hsrc Hdst HO HtS HrS HtR HrR]
    · isplitr; · iapply hi₁; iexact HC
      isplitr; · iapply hi₂; iexact HC
      isplitl [Hsrc]; · iexact Hsrc
      isplitl [Hdst]; · iexact Hdst
      isplitl [HO]; · iexact HO
      isplitl [HtS]; · iexact HtS
      isplitl [HrS]; · iexact HrS
      isplitl [HtR]; · iexact HtR
      iexact HrR
    iintro ⟨Hc, HO⟩
    iapply Hk
    isplitl [Hc]; · iexact Hc
    iexists W; iexact HO

/-! The resources seen through the views of the program. -/

theorem accP_view (c : Dev nD) {off : Fin 2 → ℕ} {X : Dev nD} {d : Fin 2} {k : Fin 8} (e : off = ![1024 * X.val + 128 * k.val, 1024 * d.val]) (h)
    (q : PosShare TreeShare) (f : AccT F) :
    (accP c (blk X d k) q f : sProp 𝕄) = (((accB off h).view.loc (c : Thread nD τ)) ↦[(accB off h).view.set]{q} f) := by
  unfold accP; rw [accB_set e h]; rfl
theorem accP_viewH (c : Dev nD) {off : Fin 2 → ℕ} {X : Dev nD} {d : Fin 2} (e : off = ![1024 * X.val, 1024 * d.val]) (h)
    (q : PosShare TreeShare) (f : AccT F) :
    (accP c (half X d) q f : sProp 𝕄) = (((accH off h).view.loc (c : Thread nD τ)) ↦[(accH off h).view.set]{q} f) := by
  unfold accP; rw [accH_set e h]; rfl
theorem outP_view (c : Dev nD) {off : Fin 2 → ℕ} {X : Dev nD} {d : Fin 2} (e : off = ![1024 * X.val, 1024 * d.val]) (h) (f : AccT F) :
    (outP c (half X d) f : sProp 𝕄) = (((outH off h).view.loc (c : Thread nD τ)) ↦[(outH off h).view.set]{fullShare} f) := by
  unfold outP; rw [outH_set e h]; rfl
theorem commP_view (c : Dev nD) (d : Fin 2) (k : Fin 8) (f : CommT F) :
    (commP c (cblk d k) f : sProp 𝕄) = (((commV d k).view.loc (c : Thread nD τ)) ↦[(commV d k).view.set]{fullShare} f) := by
  unfold commP; rw [commV_set]; rfl
theorem xP_view (c : Dev nD) (i : Fin 16) (f : XT F) :
    (xP c (xslab (rs c i)) f : sProp 𝕄) = (((xV c i).view.loc (c : Thread nD τ)) ↦[(xV c i).view.set]{fullShare} f) := by
  unfold xP; rw [xV_set]; rfl
theorem bufP_view (c : Dev nD) (b : Fin 2) (f : BufT F) :
    (bufP c (bslot b) f : sProp 𝕄) = (((bufV b).view.loc (c : Thread nD τ)) ↦[(bufV b).view.set]{fullShare} f) := by
  unfold bufP; rw [bufV_set]; rfl

theorem accP_congr (c : Dev nD) (I : Finset S4096x2048.Idx) (q : PosShare TreeShare) {f g : AccT F} (h : ∀ i ∈ I, f i = g i) :
    (accP c I q f : sProp 𝕄) = accP c I q g := pointsTo_congr h
theorem outP_congr (c : Dev nD) (I : Finset S4096x2048.Idx) {f g : AccT F} (h : ∀ i ∈ I, f i = g i) :
    (outP c I f : sProp 𝕄) = outP c I g := pointsTo_congr h
theorem commP_congr (c : Dev nD) (I : Finset S2x1024x1024.Idx) {f g : CommT F} (h : ∀ i ∈ I, f i = g i) :
    (commP c I f : sProp 𝕄) = commP c I g := pointsTo_congr h
theorem bufP_congr (c : Dev nD) (I : Finset S2x256x1024.Idx) {f g : BufT F} (h : ∀ i ∈ I, f i = g i) :
    (bufP c I f : sProp 𝕄) = bufP c I g := pointsTo_congr h

theorem jSend_rs : ∀ (t : Fin 3) (h : t.val < 6), jSend ⟨t.val, h⟩ = 1 := by decide
theorem jRecv_rs : ∀ (t : Fin 3) (h : t.val < 6), jRecv ⟨t.val, h⟩ = 2 := by decide
theorem rnd_rs : ∀ (t : Fin 3) (h : t.val < 6), rnd ⟨t.val, h⟩ = t.val := by decide
theorem jSend_ag : ∀ (h : Fin 3) (h6 : 3 + h.val < 6) (h9 : 3 + h.val < 9), jSend ⟨3 + h.val, h6⟩ = ⟨3 + h.val, h9⟩ := by decide
theorem jRecv_ag : ∀ (h : Fin 3) (h6 : 3 + h.val < 6) (h9 : 6 + h.val < 9), jRecv ⟨3 + h.val, h6⟩ = ⟨6 + h.val, h9⟩ := by decide
theorem rnd_ag : ∀ (h : Fin 3) (h6 : 3 + h.val < 6), rnd ⟨3 + h.val, h6⟩ = 0 := by decide

/-- A reduce-scatter hop's transfer. -/
theorem rsend_wp (c : Dev nD) (t : Fin 3) (lane : Lane) (pre : List (Dev nD)) (hpre : others lane.1 t.val (nxt lane.1 c) = pre ++ [c])
    (l : List PK) {p : PG F} {Q : PUnit → sProp 𝕄} :
    iprop(Ctx xa wa K ∗ accP c (blk (back lane.1 t.val c) lane.1 lane.2) fullShare (V (prods xa wa) lane.1 c t.val)
        ∗ commAny lane (nxt lane.1 c) ∗ sepL (blkAny (F := F) (back lane.1 t.val c) lane) pre
        ∗ (if t.val = 1 then Rch c (kLane 0 lane) 1 else iprop(emp))
        ∗ Owe c (.hop ⟨t.val, by omega⟩ lane :: l) ∗ Tok c (oLane 1 lane) t.val ∗ Rch c (kLane 1 lane) t.val
        ∗ Tok (nxt lane.1 c) (oLane 2 lane) t.val ∗ Rch (nxt lane.1 c) (kLane 2 lane) t.val)
      ⊢ iprop(((Cr c (oLane 1 lane) t.val ∗ Owe c l) -∗ WP c p Q) -∗ WP c (rsend c t lane.1 lane.2 p) Q) := by
  have h6 : t.val < 6 := by omega
  have e := sOff_eq c lane.1 t lane.2
  have hraw := fun (fd : CommT F) => sendRaw_wp xa wa K c ⟨t.val, h6⟩ lane
    (src := accB (sOff c lane.1 t lane.2) (sOff_inb c lane.1 t lane.2)) (dst := commV lane.1 lane.2) rfl fullShare
    (V (prods xa wa) lane.1 c t.val) fd
    iprop(sepL (blkAny (F := F) (back lane.1 t.val c) lane) pre ∗ (if t.val = 1 then Rch c (kLane 0 lane) 1 else iprop(emp))) l (p := p) (Q := Q)
  rw [jSend_rs, jRecv_rs, rnd_rs] at hraw
  have hp : ∀ fd : CommT F, ((emp : sProp 𝕄) ⊢ payK xa wa c (kLane 1 lane) t.val 0)
      ∧ (iprop(((((commV lane.1 lane.2).view.loc (nxt lane.1 c : Thread nD τ)) ↦[(commV lane.1 lane.2).view.set]{fullShare}
            ((commV lane.1 lane.2).view.write (Elt F) fd ((accB (sOff c lane.1 t lane.2) (sOff_inb c lane.1 t lane.2)).view.read (Elt F) (V (prods xa wa) lane.1 c t.val)) Finset.univ))
            ∗ (sepL (blkAny (F := F) (back lane.1 t.val c) lane) pre ∗ (if t.val = 1 then Rch c (kLane 0 lane) 1 else iprop(emp))))
          ∗ (((accB (sOff c lane.1 t lane.2) (sOff_inb c lane.1 t lane.2)).view.loc (c : Thread nD τ)) ↦[(accB (sOff c lane.1 t lane.2) (sOff_inb c lane.1 t lane.2)).view.set]{fullShare} (V (prods xa wa) lane.1 c t.val)))
        ⊢ payK xa wa (nxt lane.1 c) (kLane 2 lane) t.val 0) := fun fd => by
    refine ⟨Entails.of_eq rfl, ?_⟩
    show _ ⊢ recvPay xa wa (nxt lane.1 c) lane t.val
    refine (BIClass.sep_mono (sep_mono_left (Entails.of_eq ((commP_view (nxt lane.1 c) lane.1 lane.2 _).symm.trans
      (commP_congr (nxt lane.1 c) (cblk lane.1 lane.2) (landed_comm e _ fd _))))) (Entails.of_eq (accP_view c e _ _ _).symm)).trans ?_
    unfold recvPay
    rw [back_nxt, prv_nxt, if_pos t.isLt, hpre]
    iintro ⟨⟨Hc, Hpre, Hr⟩, Ha⟩
    isplitl [Hc]; · iexact Hc
    isplitl [Hpre Ha]
    · iapply sepL_append
      isplitl [Hpre]; · iexact Hpre
      unfold sepL sepL blkAny
      isplitl [Ha]; · iexists _; iexact Ha
      iempintro
    iexact Hr
  unfold rsend commAny
  rw [accP_view c e (sOff_inb c lane.1 t lane.2)]
  iintro ⟨#HC, Ha, ⟨%fd, Hm⟩, Hpre, Hr, HO, Ht, Hr1, Ht', Hr2⟩ Hk
  ihave Hm := (Entails.of_eq (commP_view (nxt lane.1 c) lane.1 lane.2 fd)) $$ Hm
  iapply (hraw fd (Or.inr (hp fd))) $$ [Ha Hm Hpre Hr HO Ht Hr1 Ht' Hr2]
  · isplitr; · iexact HC
    isplitl [Ha]; · iexact Ha
    isplitl [Hm Hpre Hr]
    · isplitl [Hm]; · iexact Hm
      isplitl [Hpre]; · iexact Hpre
      iexact Hr
    isplitl [HO]; · iexact HO
    isplitl [Ht]; · iexact Ht
    isplitl [Hr1]; · iexact Hr1
    isplitl [Ht']; · iexact Ht'
    iexact Hr2
  iexact Hk

/-- An all-gather hop's transfer. -/
theorem asend_wp (c : Dev nD) (h : Fin 3) (lane : Lane) (l : List PK) {p : PG F} {Q : PUnit → sProp 𝕄} :
    iprop(Ctx xa wa K ∗ accP c (blk (back lane.1 (h.val + 3) c) lane.1 lane.2) fullShare.left (outAll xa wa)
        ∗ sepL (blkAny (F := F) (back lane.1 (h.val + 3) c) lane) (others lane.1 (2 + h.val) c)
        ∗ Owe c (.hop ⟨3 + h.val, by omega⟩ lane :: l) ∗ Tok c (oLane ⟨3 + h.val, by omega⟩ lane) 0
        ∗ Tok (nxt lane.1 c) (oLane ⟨6 + h.val, by omega⟩ lane) 0)
      ⊢ iprop(((Cr c (oLane ⟨3 + h.val, by omega⟩ lane) 0 ∗ Owe c l) -∗ WP c p Q) -∗ WP c (asend c h lane.1 lane.2 p) Q) := by
  have h6 : 3 + h.val < 6 := by omega
  have h9 : 3 + h.val < 9 := by omega
  have h9' : 6 + h.val < 9 := by omega
  have e := hOff_eq c lane.1 h lane.2
  have hraw := fun (fd : AccT F) => sendRaw_wp xa wa K c ⟨3 + h.val, h6⟩ lane
    (src := accB (hOff c lane.1 h lane.2) (hOff_inb c lane.1 h lane.2)) (dst := accB (hOff c lane.1 h lane.2) (hOff_inb c lane.1 h lane.2)) rfl fullShare.left
    (outAll xa wa) fd
    (sepL (blkAny (F := F) (back lane.1 (h.val + 3) c) lane) (others lane.1 (3 + h.val) (nxt lane.1 c))) l (p := p) (Q := Q)
  rw [jSend_ag h h6 (by omega), jRecv_ag h h6 (by omega), rnd_ag] at hraw
  have hgone : payK xa wa c (kLane ⟨3 + h.val, by omega⟩ lane) 0 0 = gonePay xa wa c lane h.val := by fin_cases h <;> rfl
  have hrecv : payK xa wa (nxt lane.1 c) (kLane ⟨6 + h.val, by omega⟩ lane) 0 0 = recvPay xa wa (nxt lane.1 c) lane (3 + h.val) := by fin_cases h <;> rfl
  rw [hgone, hrecv] at hraw
  have hp : ∀ fd : AccT F, ((((accB (hOff c lane.1 h lane.2) (hOff_inb c lane.1 h lane.2)).view.loc (c : Thread nD τ)) ↦[(accB (hOff c lane.1 h lane.2) (hOff_inb c lane.1 h lane.2)).view.set]{fullShare.left} (outAll xa wa))
          ⊢ (gonePay xa wa c lane h.val : sProp 𝕄))
      ∧ (iprop((((accB (hOff c lane.1 h lane.2) (hOff_inb c lane.1 h lane.2)).view.loc (nxt lane.1 c : Thread nD τ)) ↦[(accB (hOff c lane.1 h lane.2) (hOff_inb c lane.1 h lane.2)).view.set]{fullShare}
            ((accB (hOff c lane.1 h lane.2) (hOff_inb c lane.1 h lane.2)).view.write (Elt F) fd ((accB (hOff c lane.1 h lane.2) (hOff_inb c lane.1 h lane.2)).view.read (Elt F) (outAll xa wa)) Finset.univ))
            ∗ sepL (blkAny (F := F) (back lane.1 (h.val + 3) c) lane) (others lane.1 (3 + h.val) (nxt lane.1 c)))
        ⊢ recvPay xa wa (nxt lane.1 c) lane (3 + h.val)) := fun fd => by
    have hset := accB_set e (hOff_inb c lane.1 h lane.2)
    have hl := landed_acc (hOff_inb c lane.1 h lane.2) fd (outAll xa wa)
    rw [hset] at hl
    constructor
    · exact Entails.of_eq (accP_view c e _ _ _).symm
    · refine (sep_mono_left (Entails.of_eq ((accP_view (nxt lane.1 c) e _ _ _).symm.trans (accP_congr (nxt lane.1 c) _ fullShare hl)))).trans ?_
      unfold recvPay
      rw [back_nxt, if_neg (by omega), if_neg (by omega), Nat.add_comm 3 h.val]
      iintro ⟨Ha, Hb⟩
      isplitl [Ha]; · iexact Ha
      isplitl [Hb]; · iexact Hb
      iempintro
  unfold asend
  rw [accP_view c e (hOff_inb c lane.1 h lane.2), others_ag]
  have hb : sepL (blkAny (F := F) (back lane.1 (h.val + 3) c) lane) (nxt lane.1 c :: others lane.1 (3 + h.val) (nxt lane.1 c))
    = iprop((∃ f : AccT F, accP (nxt lane.1 c) (blk (back lane.1 (h.val + 3) c) lane.1 lane.2) fullShare f)
      ∗ sepL (blkAny (F := F) (back lane.1 (h.val + 3) c) lane) (others lane.1 (3 + h.val) (nxt lane.1 c))) := rfl
  rw [hb]
  iintro ⟨#HC, Ha, ⟨⟨%fd, Hm⟩, Hpre⟩, HO, Ht, Ht'⟩ Hk
  ihave Hm := (Entails.of_eq (accP_view (nxt lane.1 c) e (hOff_inb c lane.1 h lane.2) fullShare fd)) $$ Hm
  iapply (hraw fd (Or.inl (hp fd))) $$ [Ha Hm Hpre HO Ht Ht']
  · isplitr; · iexact HC
    isplitl [Ha]; · iexact Ha
    isplitl [Hm Hpre]
    · isplitl [Hm]; · iexact Hm
      iexact Hpre
    isplitl [HO]; · iexact HO
    isplitl [Ht]; · iexact Ht
    isplitr; · iapply (Ctx_rch xa wa K c (kLane ⟨3 + h.val, h9⟩ lane)); iexact HC
    isplitl [Ht']; · iexact Ht'
    iapply (Ctx_rch xa wa K (nxt lane.1 c) (kLane ⟨6 + h.val, h9'⟩ lane)); iexact HC
  iexact Hk

/-- A local copy. -/
theorem copyRaw_wp (c : Dev nD) (k : Ko) {sem : DmaSem sig} (hs : SemLoc.dma sem = ksem (some k)) (r : ℕ) (hr : r < rounds (some k))
    {sp sp' : Space} {s : Shape} {src : Memref sig .tc sp s .f32} {dst : Memref sig .tc sp' s .f32} {h : DmaTarget.Typed (nD := nD) (τ := τ) (p := .tc) sp (.dma sem) (.here dst)}
    (hn : dst.view.dmaCredit = amountK (some k)) (q : PosShare TreeShare)
    (fs : Buf (Elt F) (src.view.loc (c : Thread nD τ))) (fd : Buf (Elt F) (dst.view.loc (c : Thread nD τ)))
    (hpay : iprop(((dst.view.loc (c : Thread nD τ)) ↦[dst.view.set]{fullShare} (dst.view.write (Elt F) fd (src.view.read (Elt F) fs) Finset.univ))
        ∗ ((src.view.loc (c : Thread nD τ)) ↦[src.view.set]{q} fs)) ⊢ payK xa wa c (some k) r 0)
    {p : PG F} {Q : PUnit → sProp 𝕄} :
    iprop(Ctx xa wa K ∗ ((src.view.loc (c : Thread nD τ)) ↦[src.view.set]{q} fs) ∗ ((dst.view.loc (c : Thread nD τ)) ↦[dst.view.set]{fullShare} fd)
        ∗ Tok c k r ∗ Rch c (some k) r)
      ⊢ iprop((Cr c k r -∗ WP c p Q) -∗ WP c (copyP src dst sem h p) Q) := by
  have hc : kcell c (some k) = ((c : Thread nD τ), SemLoc.dma sem) := by rw [hs]
  have hd := mem_duties xa wa c k hr
  have hk := amount_eq xa wa c (some k) r 0
  have hi := Ctx_inv xa wa K c (some k)
  rw [← payload_eq xa wa] at hpay
  unfold copyP Cr Tok Rch
  rw [hc] at hd hk hi hpay ⊢
  iintro ⟨#HC, Hs, Hd, Ht, Hr⟩ Hk
  iapply (Rounds.wp_copy_pointsTo 𝒱₀ ER (Rd xa wa) (c : Thread nD τ) none (κ := K (c, some k)) (r := r) (d := 0) hd r (amountK (some k)) hn hk hpay) $$ [Hs Hd Ht Hr]
  · isplitr; · iapply hi; iexact HC
    isplitl [Hs]; · iexact Hs
    isplitl [Hd]; · iexact Hd
    isplitl [Ht]; · iexact Ht
    iexact Hr
  iexact Hk

theorem copy_round (i : Fin 16) : (⟨(2 * (i.val / 2) + i.val % 2) % 16, Nat.mod_lt _ (by decide)⟩ : Fin 16) = i :=
  Fin.ext (by have := i.isLt; show (2 * (i.val / 2) + i.val % 2) % 16 = i.val; omega)

theorem copyPay_eq (c : Dev nD) (i : Fin 16) (b : Fin 2) (hb : b.val = i.val % 2) :
    (copyPay xa c b (i.val / 2) : sProp 𝕄) = iprop(bufP c (bslot b) (bufF (xa c) (rs c i)) ∗ xP c (xslab (rs c i)) (xa c)) := by
  unfold copyPay
  simp only [hb, copy_round]

/-- The slot of row slab `i`. -/
abbrev slotOf (i : Fin 16) : Fin 2 := ⟨i.val % 2, Nat.mod_lt _ (by decide)⟩

/-- The copy of row slab `i` starts. -/
theorem xstart_wp (c : Dev nD) (i : Fin 16) {p : PG F} {Q : PUnit → sProp 𝕄} :
    iprop(Ctx xa wa K ∗ xP c (xslab (rs c i)) (xa c) ∗ (∃ f : BufT F, bufP c (bslot (slotOf i)) f) ∗ Tok c (oCopy (slotOf i)) (i.val / 2)
        ∗ Rch c (kCopy (slotOf i)) (i.val / 2))
      ⊢ iprop((Cr c (oCopy (slotOf i)) (i.val / 2) -∗ WP c p Q) -∗ WP c (xstart c i p) Q) := by
  have hp : ∀ fd : BufT F, iprop((((bufV (slotOf i)).view.loc (c : Thread nD τ)) ↦[(bufV (slotOf i)).view.set]{fullShare}
          ((bufV (slotOf i)).view.write (Elt F) fd ((xV c i).view.read (Elt F) (xa c)) Finset.univ))
        ∗ (((xV c i).view.loc (c : Thread nD τ)) ↦[(xV c i).view.set]{fullShare} (xa c)))
      ⊢ payK xa wa c (kCopy (slotOf i)) (i.val / 2) 0 := fun fd => by
    refine (BIClass.sep_mono (Entails.of_eq ((bufP_view c (slotOf i) _).symm.trans (bufP_congr c _ (landed_buf c i _ fd (xa c)))))
      (Entails.of_eq (xP_view c i _).symm)).trans ?_
    show _ ⊢ copyPay xa c (slotOf i) (i.val / 2)
    rw [copyPay_eq xa c i (slotOf i) rfl]
  have hr : i.val / 2 < rounds (kCopy (slotOf i)) := by have := i.isLt; show i.val / 2 < 8; omega
  unfold xstart
  rw [xP_view]
  iintro ⟨#HC, Hx, ⟨%fd, Hb⟩, Ht, Hr⟩ Hk
  ihave Hb := (Entails.of_eq (bufP_view c (slotOf i) fd)) $$ Hb
  iapply (copyRaw_wp xa wa K c (oCopy (slotOf i)) (sem := copyS (slotOf i)) (ksem_copy _) (i.val / 2) hr (src := xV c i) (dst := bufV (slotOf i))
    (credit_buf (slotOf i)) fullShare (xa c) fd (hp fd)) $$ [Hx Hb Ht Hr]
  · isplitr; · iexact HC
    isplitl [Hx]; · iexact Hx
    isplitl [Hb]; · iexact Hb
    isplitl [Ht]; · iexact Ht
    iexact Hr
  iexact Hk

/-- The write-out of a half chunk starts. -/
theorem fstart_wp (c : Dev nD) (d : Fin 2) (h : Fin 4) {p : PG F} {Q : PUnit → sProp 𝕄} :
    iprop(Ctx xa wa K ∗ accP c (half (back d (h.val + 3) c) d) fullShare.right (outAll xa wa)
        ∗ (∃ f : AccT F, outP c (half (back d (h.val + 3) c) d) f) ∗ Tok c (oFlush d h) 0)
      ⊢ iprop((Cr c (oFlush d h) 0 -∗ WP c p Q) -∗ WP c (fstart c d h p) Q) := by
  have e := fOff_eq c d h
  have hp : ∀ fd : AccT F, iprop((((outH (fOff c d h) (fOff_inb c d h)).view.loc (c : Thread nD τ)) ↦[(outH (fOff c d h) (fOff_inb c d h)).view.set]{fullShare}
          ((outH (fOff c d h) (fOff_inb c d h)).view.write (Elt F) fd ((accH (fOff c d h) (fOff_inb c d h)).view.read (Elt F) (outAll xa wa)) Finset.univ))
        ∗ (((accH (fOff c d h) (fOff_inb c d h)).view.loc (c : Thread nD τ)) ↦[(accH (fOff c d h) (fOff_inb c d h)).view.set]{fullShare.right} (outAll xa wa)))
      ⊢ payK xa wa c (kFlush d h) 0 0 := fun fd => by
    have hl := landed_out (fOff_inb c d h) fd (outAll xa wa)
    rw [outH_set e (fOff_inb c d h)] at hl
    refine (BIClass.sep_mono (Entails.of_eq ((outP_view c e _ _).symm.trans (outP_congr c _ hl))) (Entails.of_eq (accP_viewH c e _ _ _).symm)).trans ?_
    show _ ⊢ flushPay xa wa c d h.val
    unfold flushPay
    exact Entails.refl _
  unfold fstart
  rw [accP_viewH c e (fOff_inb c d h)]
  iintro ⟨#HC, Ha, ⟨%fd, Ho⟩, Ht⟩ Hk
  ihave Ho := (Entails.of_eq (outP_view c e (fOff_inb c d h) fd)) $$ Ho
  iapply (copyRaw_wp xa wa K c (oFlush d h) (sem := flushS d h) (ksem_flush d h) 0 Nat.one_pos (src := accH (fOff c d h) (fOff_inb c d h))
    (dst := outH (fOff c d h) (fOff_inb c d h)) (credit_out _ _) fullShare.right (outAll xa wa) fd (hp fd)) $$ [Ha Ho Ht]
  · isplitr; · iexact HC
    isplitl [Ha]; · iexact Ha
    isplitl [Ho]; · iexact Ho
    isplitl [Ht]; · iexact Ht
    iapply (Ctx_rch xa wa K c (kFlush d h)); iexact HC
  iexact Hk

end Ctx

/-! ### Compute steps -/

/-- The device's rows of `w`, staged. -/
def wP (c : Dev nD) (f : WT F) : sProp 𝕄 := ((c : Thread nD τ).loc cc0_stg0_0) ↦{fullShare} f

omit [FloatOps F] in
theorem readW (w : WT F) : (Memref.whole cc0_stg0_0).view.readAt (Elt F) (Rect.unit (s := S1024x2048) ![0, 0] S1024x2048.size w_inb).toLoadRect w = w :=
  Memref.readAt_unit_zero (Elt F) cc0_stg0_0 (off := ![0, 0]) (by funext a; fin_cases a <;> rfl) _ w

theorem on_acc (r : Rect S4096x2048) : accM.view.setOn r.set = r.set := (View.set_slice _ r).symm.trans (View.set_slice_whole cc0_scratch8 r)
theorem on_buf (r : Rect S2x256x1024) : bufM.view.setOn r.set = r.set := (View.set_slice _ r).symm.trans (View.set_slice_whole cc0_scratch0 r)
theorem on_comm (r : Rect S2x1024x1024) : commM.view.setOn r.set = r.set := (View.set_slice _ r).symm.trans (View.set_slice_whole cc0_scratch1 r)
theorem st_acc (r : Rect S4096x2048) : (accM.access r).setOn Finset.univ = r.set := View.set_slice_whole cc0_scratch8 r

/-- A row slab's product. -/
theorem gemm_wp (c : Dev nD) (i : Fin 16) (b : Fin 2) (x : XT F) (w : WT F) {p : PG F} {Q : PUnit → sProp 𝕄} :
    iprop(bufP c (bslot b) (bufF x (rs c i)) ∗ wP c w ∗ (∃ f : AccT F, accP c (aslab (rs c i)) fullShare f))
      ⊢ iprop(((bufP c (bslot b) (bufF x (rs c i)) ∗ wP c w ∗ accP c (aslab (rs c i)) fullShare (part x w)) -∗ WP c p Q)
        -∗ WP c (gemmP (Memref.whole cc0_stg0_0) b (gOff c i) (gOff_inb c i) p) Q) := by
  have e := rect_aslab (gOff_eq c i) (gOff_inb c i)
  unfold gemmP bufP wP accP
  iintro ⟨Hb, Hw, ⟨%f, Ha⟩⟩ Hk
  iapply (wp_load 𝒱₀ (c : Thread nD τ) none Set.univ (m := bufM) (S := bslot b) (le_of_eq ((on_buf _).trans (rect_bslot b (buf_inb b))))) $$ Hb; iintro Hb
  iapply (wp_load 𝒱₀ (c : Thread nD τ) none Set.univ (m := Memref.whole cc0_stg0_0) (Finset.subset_univ _)) $$ Hw; iintro Hw
  iapply (wp_load 𝒱₀ (c : Thread nD τ) none Set.univ (m := accM) (S := aslab (rs c i)) (le_of_eq ((on_acc _).trans e))) $$ Ha; iintro Ha
  rw [readW]
  iapply (wp_store 𝒱₀ (c : Thread nD τ) none Set.univ (m := accM) (r := Rect.unit (s := S4096x2048) (gOff c i) S256x2048.size (gOff_inb c i)) (S := aslab (rs c i)) (Mk := Finset.univ) (le_of_eq ((st_acc _).trans e))) $$ Ha; iintro Ha
  iapply Hk
  isplitl [Hb]; · iexact Hb
  isplitl [Hw]; · iexact Hw
  iapply (Entails.of_eq (pointsTo_congr (stored_gemm (rs_lt c i) (gOff_eq c i) (gOff_inb c i) b x w f)))
  iexact Ha

/-- The landed block added in. -/
theorem add_wp (c : Dev nD) (X : Dev nD) (d : Fin 2) (k : Fin 8) {off : Fin 2 → ℕ} (e : off = ![1024 * X.val + 128 * k.val, 1024 * d.val]) (h)
    (g u : AccT F) {p : PG F} {Q : PUnit → sProp 𝕄} :
    iprop(accP c (blk X d k) fullShare g ∗ commP c (cblk d k) (commF X u))
      ⊢ iprop(((accP c (blk X d k) fullShare (fun z => FloatOps.addf (g z) (u z)) ∗ commP c (cblk d k) (commF X u)) -∗ WP c p Q)
        -∗ WP c (addP d k off h p) Q) := by
  have e' := rect_blk e h
  unfold addP accP commP
  iintro ⟨Ha, Hm⟩ Hk
  iapply (wp_load 𝒱₀ (c : Thread nD τ) none Set.univ (m := accM) (S := blk X d k) (le_of_eq ((on_acc _).trans e'))) $$ Ha; iintro Ha
  iapply (wp_load 𝒱₀ (c : Thread nD τ) none Set.univ (m := commM) (S := cblk d k) (le_of_eq ((on_comm _).trans (rect_cblk d k (comm_inb d k))))) $$ Hm; iintro Hm
  iapply (wp_load 𝒱₀ (c : Thread nD τ) none Set.univ (m := accM) (S := blk X d k) (le_of_eq ((on_acc _).trans e'))) $$ Ha; iintro Ha
  iapply (wp_store 𝒱₀ (c : Thread nD τ) none Set.univ (m := accM) (r := Rect.unit (s := S4096x2048) off S128x1024.size h) (S := blk X d k) (Mk := Finset.univ) (le_of_eq ((st_acc _).trans e'))) $$ Ha; iintro Ha
  iapply Hk
  isplitl [Ha]
  · iapply (Entails.of_eq (pointsTo_congr (stored_add e h g u))); iexact Ha
  iexact Hm

/-- The activation. -/
theorem gelu_wp (c : Dev nD) (X : Dev nD) (d : Fin 2) (k : Fin 8) {off : Fin 2 → ℕ} (e : off = ![1024 * X.val + 128 * k.val, 1024 * d.val]) (h)
    (g : AccT F) {p : PG F} {Q : PUnit → sProp 𝕄} :
    accP c (blk X d k) fullShare g
      ⊢ iprop((accP c (blk X d k) fullShare (fun z => gelu1 (g z)) -∗ WP c p Q) -∗ WP c (geluP off h p) Q) := by
  have e' := rect_blk e h
  have hg := stored_gelu h g
  rw [e'] at hg
  unfold geluP accP
  iintro Ha Hk
  iapply (wp_load 𝒱₀ (c : Thread nD τ) none Set.univ (m := accM) (S := blk X d k) (le_of_eq ((on_acc _).trans e'))) $$ Ha; iintro Ha
  iapply (wp_load 𝒱₀ (c : Thread nD τ) none Set.univ (m := accM) (S := blk X d k) (le_of_eq ((on_acc _).trans e'))) $$ Ha; iintro Ha
  iapply (wp_store 𝒱₀ (c : Thread nD τ) none Set.univ (m := accM) (r := Rect.unit (s := S4096x2048) off S128x1024.size h) (S := blk X d k) (Mk := Finset.univ) (le_of_eq ((st_acc _).trans e'))) $$ Ha; iintro Ha
  iapply Hk
  iapply (Entails.of_eq (pointsTo_congr hg)); iexact Ha

end Cert.KernelIdeal.RS

end
-- ==== Proof.Sep.lean ====
/- Assertions over lists, a run of steps over a list, and the cuts of the buffers into blocks. -/
module

public import proofs.«01_k».proof.Proof.Steps

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ### Assertions over lists -/

section Lists
variable {ι κ : Type}

/-- Over a list without repetitions: over the set of its members. -/
theorem sepL_eq (Φ : ι → sProp 𝕄) (l : List ι) (s : Finset ι) (hn : l.Nodup) (hs : ∀ i, i ∈ s ↔ i ∈ l) : sepL Φ l = bigSep s Φ := by
  classical
  induction l generalizing s with
  | nil =>
    have : s = ∅ := Finset.eq_empty_of_forall_notMem fun i h => by simpa using (hs i).mp h
    subst this; rfl
  | cons i l ih =>
    have hi : i ∉ l := (List.nodup_cons.mp hn).1
    have hs' : s = insert i (s.erase i) := (Finset.insert_erase ((hs i).mpr (List.mem_cons_self))).symm
    rw [hs', bigSep_insert (Finset.notMem_erase i s), ← ih (s.erase i) (List.nodup_cons.mp hn).2 fun j => ?_]
    · rfl
    · rw [Finset.mem_erase, hs, List.mem_cons]
      constructor
      · rintro ⟨h, h' | h'⟩
        · exact absurd h' h
        · exact h'
      · exact fun h => ⟨fun e => hi (e ▸ h), Or.inr h⟩

theorem sepL_mono {Φ Ψ : ι → sProp 𝕄} (h : ∀ i, Φ i ⊢ Ψ i) (l : List ι) : sepL Φ l ⊢ sepL Ψ l := by
  induction l with
  | nil => exact Entails.refl _
  | cons i l ih =>
    show iprop(Φ i ∗ sepL Φ l) ⊢ iprop(Ψ i ∗ sepL Ψ l)
    exact BIClass.sep_mono (h i) ih

theorem sepL_append' (Φ : ι → sProp 𝕄) (l₁ l₂ : List ι) : sepL Φ (l₁ ++ l₂) ⊢ iprop(sepL Φ l₁ ∗ sepL Φ l₂) := by
  induction l₁ with
  | nil => iintro H; isplitr; · iempintro
           iexact H
  | cons i l₁ ih =>
    show iprop(Φ i ∗ sepL Φ (l₁ ++ l₂)) ⊢ iprop((Φ i ∗ sepL Φ l₁) ∗ sepL Φ l₂)
    iintro ⟨H1, H2⟩
    ihave H := ih $$ H2
    icases H with ⟨H2, H3⟩
    isplitl [H1 H2]
    · isplitl [H1]; · iexact H1
      iexact H2
    iexact H3

theorem sepL_sep (Φ Ψ : ι → sProp 𝕄) (l : List ι) : iprop(sepL Φ l ∗ sepL Ψ l) ⊢ sepL (fun i => iprop(Φ i ∗ Ψ i)) l := by
  induction l with
  | nil => iintro ⟨H, -⟩; iexact H
  | cons i l ih =>
    show iprop((Φ i ∗ sepL Φ l) ∗ (Ψ i ∗ sepL Ψ l)) ⊢ iprop((Φ i ∗ Ψ i) ∗ sepL (fun i => iprop(Φ i ∗ Ψ i)) l)
    iintro ⟨⟨H1, H2⟩, H3, H4⟩
    isplitl [H1 H3]
    · isplitl [H1]; · iexact H1
      iexact H3
    iapply ih
    isplitl [H2]; · iexact H2
    iexact H4

theorem sepL_unsep (Φ Ψ : ι → sProp 𝕄) (l : List ι) : sepL (fun i => iprop(Φ i ∗ Ψ i)) l ⊢ iprop(sepL Φ l ∗ sepL Ψ l) := by
  induction l with
  | nil => iintro -; isplitr <;> iempintro
  | cons i l ih =>
    show iprop((Φ i ∗ Ψ i) ∗ sepL (fun i => iprop(Φ i ∗ Ψ i)) l) ⊢ iprop((Φ i ∗ sepL Φ l) ∗ (Ψ i ∗ sepL Ψ l))
    iintro ⟨⟨H1, H2⟩, H⟩
    ihave H := ih $$ H
    icases H with ⟨H3, H4⟩
    isplitl [H1 H3]
    · isplitl [H1]; · iexact H1
      iexact H3
    isplitl [H2]; · iexact H2
    iexact H4

theorem sepL_perm (Φ : ι → sProp 𝕄) {l₁ l₂ : List ι} (h : l₁.Perm l₂) : sepL Φ l₁ ⊢ sepL Φ l₂ := by
  induction h with
  | nil => exact Entails.refl _
  | cons i _ ih =>
    show iprop(Φ i ∗ sepL Φ _) ⊢ iprop(Φ i ∗ sepL Φ _)
    exact BIClass.sep_mono (Entails.refl _) ih
  | swap i j l =>
    show iprop(Φ j ∗ Φ i ∗ sepL Φ l) ⊢ iprop(Φ i ∗ Φ j ∗ sepL Φ l)
    iintro ⟨H1, H2, H3⟩
    isplitl [H2]; · iexact H2
    isplitl [H1]; · iexact H1
    iexact H3
  | trans _ _ ih₁ ih₂ => exact ih₁.trans ih₂

theorem sepL_map (f : ι → κ) (Φ : κ → sProp 𝕄) (l : List ι) : sepL Φ (l.map f) = sepL (fun i => Φ (f i)) l := by
  induction l with
  | nil => rfl
  | cons i l ih => show iprop(Φ (f i) ∗ sepL Φ (l.map f)) = iprop(Φ (f i) ∗ sepL (fun i => Φ (f i)) l); rw [ih]

theorem sepL_flatMap (f : ι → List κ) (Φ : κ → sProp 𝕄) (l : List ι) : sepL Φ (l.flatMap f) ⊢ sepL (fun i => sepL Φ (f i)) l := by
  induction l with
  | nil => exact Entails.refl _
  | cons i l ih =>
    show sepL Φ (f i ++ l.flatMap f) ⊢ iprop(sepL Φ (f i) ∗ sepL (fun i => sepL Φ (f i)) l)
    exact (sepL_append' Φ _ _).trans (BIClass.sep_mono (Entails.refl _) ih)

theorem sepL_flatten (f : ι → List κ) (Φ : κ → sProp 𝕄) (l : List ι) : sepL (fun i => sepL Φ (f i)) l ⊢ sepL Φ (l.flatMap f) := by
  induction l with
  | nil => exact Entails.refl _
  | cons i l ih =>
    show iprop(sepL Φ (f i) ∗ sepL (fun i => sepL Φ (f i)) l) ⊢ sepL Φ (f i ++ l.flatMap f)
    exact (BIClass.sep_mono (Entails.refl _) ih).trans (sepL_append Φ _ _)

/-- Over the lanes in program order: over all lanes. -/
theorem sepL_lanes (Φ : Lane → sProp 𝕄) : sepL Φ lanes = bigSep Finset.univ Φ :=
  sepL_eq Φ lanes Finset.univ (by decide) (by decide)

theorem sepL_one (Φ : ι → sProp 𝕄) (i : ι) : sepL Φ [i] ⊢ Φ i := by
  show iprop(Φ i ∗ emp) ⊢ Φ i
  iintro ⟨H, -⟩; iexact H
theorem sepL_two (Φ : ι → sProp 𝕄) (i j : ι) : sepL Φ [i, j] ⊢ iprop(Φ i ∗ Φ j) := by
  show iprop(Φ i ∗ Φ j ∗ emp) ⊢ _
  iintro ⟨H, H', -⟩
  isplitl [H]; · iexact H
  iexact H'
theorem sepL_three (Φ : ι → sProp 𝕄) (i j k : ι) : sepL Φ [i, j, k] ⊣⊢ iprop(Φ i ∗ Φ j ∗ Φ k) := by
  constructor
  · show iprop(Φ i ∗ Φ j ∗ Φ k ∗ emp) ⊢ _
    iintro ⟨H1, H2, H3, -⟩
    isplitl [H1]; · iexact H1
    isplitl [H2]; · iexact H2
    iexact H3
  · show _ ⊢ iprop(Φ i ∗ Φ j ∗ Φ k ∗ emp)
    iintro ⟨H1, H2, H3⟩
    isplitl [H1]; · iexact H1
    isplitl [H2]; · iexact H2
    isplitl [H3]; · iexact H3
    iempintro
theorem sepL_four (Φ : ι → sProp 𝕄) (i j k m : ι) : sepL Φ [i, j, k, m] ⊣⊢ iprop(Φ i ∗ Φ j ∗ Φ k ∗ Φ m) := by
  constructor
  · show iprop(Φ i ∗ Φ j ∗ Φ k ∗ Φ m ∗ emp) ⊢ _
    iintro ⟨H1, H2, H3, H4, -⟩
    isplitl [H1]; · iexact H1
    isplitl [H2]; · iexact H2
    isplitl [H3]; · iexact H3
    iexact H4
  · show _ ⊢ iprop(Φ i ∗ Φ j ∗ Φ k ∗ Φ m ∗ emp)
    iintro ⟨H1, H2, H3, H4⟩
    isplitl [H1]; · iexact H1
    isplitl [H2]; · iexact H2
    isplitl [H3]; · iexact H3
    isplitl [H4]; · iexact H4
    iempintro
theorem sepL_single (Φ : ι → sProp 𝕄) (i : ι) : Φ i ⊢ sepL Φ [i] := by
  show Φ i ⊢ iprop(Φ i ∗ emp)
  iintro H
  isplitl [H]; · iexact H
  iempintro
theorem sepL_pair (Φ : ι → sProp 𝕄) (i j : ι) : iprop(Φ i ∗ Φ j) ⊢ sepL Φ [i, j] := by
  show iprop(Φ i ∗ Φ j) ⊢ iprop(Φ i ∗ Φ j ∗ emp)
  iintro ⟨H, H'⟩
  isplitl [H]; · iexact H
  isplitl [H']; · iexact H'
  iempintro

end Lists

/-! ### A run of steps -/

/-- A condition on every member of a list and what follows it. -/
def okAll {ι : Type} (ok : ι → List ι → Prop) : List ι → Prop
  | [] => True
  | i :: l => ok i l ∧ okAll ok l

instance okAll_dec {ι : Type} (ok : ι → List ι → Prop) [∀ i l, Decidable (ok i l)] : ∀ l, Decidable (okAll ok l)
  | [] => .isTrue trivial
  | i :: l => @instDecidableAnd _ _ _ (okAll_dec ok l)

/-- Steps that each turn their own `A i` into `B i`, carrying along a state indexed by what is left. -/
theorem run_wp {ι : Type} (c : Dev nD) (P : sProp 𝕄) [BI.Persistent P] (step : ι → PG F → PG F) (S : List ι → sProp 𝕄) (A B : ι → sProp 𝕄)
    (ok : ι → List ι → Prop)
    (hstep : ∀ i rest (p : PG F) (Q : PUnit → sProp 𝕄), ok i rest →
      (iprop(P ∗ S (i :: rest) ∗ A i) ⊢ iprop(((S rest ∗ B i) -∗ WP c p Q) -∗ WP c (step i p) Q)))
    (ls : List ι) (hls : okAll ok ls) {p : PG F} {Q : PUnit → sProp 𝕄} :
    iprop(P ∗ S ls ∗ sepL A ls) ⊢ iprop(((S [] ∗ sepL B ls) -∗ WP c p Q) -∗ WP c (run step ls p) Q) := by
  induction ls with
  | nil =>
    show iprop(P ∗ S [] ∗ emp) ⊢ iprop(((S [] ∗ emp) -∗ WP c p Q) -∗ WP c p Q)
    iintro ⟨-, H, -⟩ Hk
    iapply Hk
    isplitl [H]; · iexact H
    iempintro
  | cons i l ih =>
    show iprop(P ∗ S (i :: l) ∗ (A i ∗ sepL A l)) ⊢ iprop(((S [] ∗ (B i ∗ sepL B l)) -∗ WP c p Q) -∗ WP c (step i (run step l p)) Q)
    iintro ⟨#HP, HS, HA, HAs⟩ Hk
    iapply (hstep i l (run step l p) Q hls.1) $$ [HS HA]
    · isplitr; · iexact HP
      isplitl [HS]; · iexact HS
      iexact HA
    iintro ⟨HS, HB⟩
    iapply (ih hls.2) $$ [HS HAs]
    · isplitr; · iexact HP
      isplitl [HS]; · iexact HS
      iexact HAs
    iintro ⟨HS, HBs⟩
    iapply Hk
    isplitl [HS]; · iexact HS
    isplitl [HB]; · iexact HB
    iexact HBs

/-! ### Cuts -/

/-- Elements cut into the disjoint parts that a list names. -/
theorem pts_cut {ι : Type} (ℓ : Loc nD τ sig) (q : PosShare TreeShare) (f : Buf (Elt F) ℓ) (I : Finset (Idx ℓ)) (K : ι → Finset (Idx ℓ))
    (l : List ι) (hn : l.Nodup) (hI : ∀ z, z ∈ I ↔ ∃ i ∈ l, z ∈ K i) (hd : ∀ i ∈ l, ∀ j ∈ l, i ≠ j → Disjoint (K i) (K j)) :
    (ℓ ↦[I]{q} f : sProp 𝕄) = sepL (fun i => (ℓ ↦[K i]{q} f : sProp 𝕄)) l := by
  classical
  rw [sepL_eq _ l l.toFinset hn fun i => List.mem_toFinset,
    ← pointsTo_biUnion l.toFinset K fun i hi j hj => hd i (List.mem_toFinset.mp hi) j (List.mem_toFinset.mp hj)]
  refine congrArg (fun J => (ℓ ↦[J]{q} f : sProp 𝕄)) (Finset.ext fun z => ?_)
  rw [hI, Finset.mem_biUnion]
  exact ⟨fun ⟨i, h, h'⟩ => ⟨i, List.mem_toFinset.mpr h, h'⟩, fun ⟨i, h, h'⟩ => ⟨i, List.mem_toFinset.mp h, h'⟩⟩

/-- Elements of the accumulator cut into disjoint parts. -/
theorem accP_cut {ι : Type} (c : Dev nD) (q : PosShare TreeShare) (f : AccT F) (I : Finset S4096x2048.Idx) (K : ι → Finset S4096x2048.Idx)
    (l : List ι) (hn : l.Nodup) (hI : ∀ z, z ∈ I ↔ ∃ i ∈ l, z ∈ K i) (hd : ∀ i ∈ l, ∀ j ∈ l, i ≠ j → Disjoint (K i) (K j)) :
    (accP c I q f : sProp 𝕄) = sepL (fun i => accP c (K i) q f) l :=
  pts_cut ((c : Thread nD τ).loc cc0_scratch8) q f I K l hn hI hd

/-- Parts at contents of their own are the whole at some contents. -/
theorem pts_join {ι : Type} (ℓ : Loc nD τ sig) (f₀ : Buf (Elt F) ℓ) (I : Finset (Idx ℓ)) (K : ι → Finset (Idx ℓ))
    (l : List ι) (hn : l.Nodup) (hI : ∀ z, z ∈ I ↔ ∃ i ∈ l, z ∈ K i) (hd : ∀ i ∈ l, ∀ j ∈ l, i ≠ j → Disjoint (K i) (K j)) :
    sepL (fun i => iprop(∃ f : Buf (Elt F) ℓ, (ℓ ↦[K i]{fullShare} f : sProp 𝕄))) l ⊢ (iprop(∃ f : Buf (Elt F) ℓ, (ℓ ↦[I]{fullShare} f)) : sProp 𝕄) := by
  classical
  induction l generalizing I with
  | nil =>
    have : I = ∅ := Finset.eq_empty_of_forall_notMem fun z h => by simpa using (hI z).mp h
    subst this
    iintro -
    iexists f₀
    rw [pointsTo_empty]; iempintro
  | cons i l ih =>
    have hi : i ∉ l := (List.nodup_cons.mp hn).1
    have ih' := ih (I \ K i) (List.nodup_cons.mp hn).2 (fun z => by
      rw [Finset.mem_sdiff, hI]
      constructor
      · rintro ⟨⟨j, hj, hz⟩, hz'⟩
        rcases List.mem_cons.mp hj with rfl | hj
        · exact absurd hz hz'
        · exact ⟨j, hj, hz⟩
      · rintro ⟨j, hj, hz⟩
        exact ⟨⟨j, List.mem_cons_of_mem _ hj, hz⟩, fun h => (Finset.disjoint_left.mp (hd i List.mem_cons_self j (List.mem_cons_of_mem _ hj) (fun e => hi (e ▸ hj))) h) hz⟩)
      (fun j hj k hk => hd j (List.mem_cons_of_mem _ hj) k (List.mem_cons_of_mem _ hk))
    have hsub : K i ⊆ I := fun z hz => (hI z).mpr ⟨i, List.mem_cons_self, hz⟩
    show iprop((∃ f : Buf (Elt F) ℓ, (ℓ ↦[K i]{fullShare} f)) ∗ sepL _ l) ⊢ _
    iintro ⟨⟨%f, Hf⟩, Hl⟩
    ihave Hg := ih' $$ Hl
    icases Hg with ⟨%g, Hg⟩
    iexists (fun z => if z ∈ K i then f z else g z)
    have e1 : (ℓ ↦[K i]{fullShare} f : sProp 𝕄) = ℓ ↦[K i]{fullShare} (fun z => if z ∈ K i then f z else g z) :=
      pointsTo_congr fun z hz => (if_pos hz).symm
    have e2 : (ℓ ↦[I \ K i]{fullShare} g : sProp 𝕄) = ℓ ↦[I \ K i]{fullShare} (fun z => if z ∈ K i then f z else g z) :=
      pointsTo_congr fun z hz => (if_neg (Finset.mem_sdiff.mp hz).2).symm
    ihave Hf := (Entails.of_eq e1) $$ Hf
    ihave Hg := (Entails.of_eq e2) $$ Hg
    have hj := (pointsTo_union (Ix := ℕ) (Val := Elt F) (Name := ℕ) (U := UU) (Lvl := ℕ) (ℓ := ℓ) (q := fullShare) (f := fun z => if z ∈ K i then f z else g z)
      (Finset.disjoint_sdiff (s := K i) (t := I))).2
    rw [Finset.union_sdiff_of_subset hsub] at hj
    iapply hj
    isplitl [Hf]; · iexact Hf
    iexact Hg

/-- The lanes of the two sub-blocks in the row slab `i` of a device's own chunk. -/
def lanes4 (i : Fin 4) : List Lane :=
  [(0, ⟨2 * i.val, by omega⟩), (1, ⟨2 * i.val, by omega⟩), (0, ⟨2 * i.val + 1, by omega⟩), (1, ⟨2 * i.val + 1, by omega⟩)]
/-- The lanes of one direction. -/
def lanesOf (d : Fin 2) : List Lane := (List.finRange 8).map fun k => (d, k)
/-- The row slabs. -/
def slabs : List (Fin 16) := [0, 1, 2, 3, 4, 5, 6, 7, 8, 9, 10, 11, 12, 13, 14, 15]
/-- The row slabs of the other devices' chunks. -/
def slabs12 : List (Fin 16) := [4, 5, 6, 7, 8, 9, 10, 11, 12, 13, 14, 15]

theorem lanes_perm : lanes.Perm (lanesOf 0 ++ lanesOf 1) := by decide
theorem lanes14_perm : (lanes14 ++ [(0, 7)]).Perm (lanesOf 0 ++ (List.finRange 7).map fun k : Fin 7 => ((1 : Fin 2), k.castSucc)) := by decide
theorem lanes14_last : ((List.finRange 7).map fun k : Fin 7 => ((1 : Fin 2), k.castSucc)) ++ [(1, 7)] = lanesOf 1 := by decide
theorem lanes_flat : [0, 1, 2, 3].flatMap lanes4 = lanes := by decide

section Disjoint
theorem blk_disjoint {X Y : Dev nD} {l m : Lane} (h : ¬ (X = Y ∧ l = m)) : Disjoint (blk X l.1 l.2) (blk Y m.1 m.2) := by
  rw [Finset.disjoint_left]
  intro z h1 h2
  rw [mem_blk] at h1 h2
  obtain ⟨a, b⟩ := l
  obtain ⟨a', b'⟩ := m
  have := b.isLt; have := b'.isLt
  dsimp only at h1 h2
  apply h
  have e1 : X = Y := Fin.ext (by omega)
  subst e1
  exact ⟨rfl, Prod.ext (Fin.ext (h1.2.symm.trans h2.2)) (Fin.ext (by show b.val = b'.val; omega))⟩
theorem half_disjoint {X Y : Dev nD} {d e : Fin 2} (h : ¬ (X = Y ∧ d = e)) : Disjoint (half X d) (half Y e) := by
  rw [Finset.disjoint_left]
  intro z h1 h2
  rw [mem_half] at h1 h2
  exact h ⟨Fin.ext (by omega), Fin.ext (by omega)⟩
theorem aslab_disjoint {i j : ℕ} (h : i ≠ j) : Disjoint (aslab i) (aslab j) := by
  rw [Finset.disjoint_left]; intro z h1 h2; rw [mem_aslab] at h1 h2; omega
theorem xslab_disjoint {i j : ℕ} (h : i ≠ j) : Disjoint (xslab i) (xslab j) := by
  rw [Finset.disjoint_left]; intro z h1 h2; rw [mem_xslab] at h1 h2; omega
theorem bslot_disjoint {i j : Fin 2} (h : i ≠ j) : Disjoint (bslot i) (bslot j) := by
  rw [Finset.disjoint_left]; intro z h1 h2; rw [mem_bslot] at h1 h2; exact h (Fin.ext (by omega))
theorem cblk_disjoint {l m : Lane} (h : l ≠ m) : Disjoint (cblk l.1 l.2) (cblk m.1 m.2) := by
  rw [Finset.disjoint_left]; intro z h1 h2; rw [mem_cblk] at h1 h2
  exact h (Prod.ext (Fin.ext (by omega)) (Fin.ext (by omega)))

end Disjoint

end Cert.KernelIdeal.RS

end
-- ==== Proof.Lane.lean ====
/- What a lane carries from step to step: the reduce-scatter and all-gather steps, and the closing waits. -/
module

public import proofs.«01_k».proof.Proof.Sep

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- Every payment of a list is above a level. -/
def above (b : ℕ) (l : List PK) : Prop := ∀ e ∈ l, b < e.lvl
instance (b : ℕ) (l : List PK) : Decidable (above b l) := by unfold above; infer_instance

theorem above_zero (l : List PK) : above 0 l := fun e _ => by cases e <;> exact Nat.succ_pos _
theorem above_nil (b : ℕ) : above b [] := fun e h => absurd h List.not_mem_nil
theorem above_tail {b : ℕ} {e : PK} {l : List PK} (h : above b (e :: l)) : above b l := fun x hx => h x (List.mem_cons_of_mem _ hx)

theorem hs_recv (t : Fin 3) (h : t.val < 6) (l : Lane) : SemLoc.dma (recvS ⟨t.val, h⟩ l.1 l.2) = ksem (kLane 2 l) := by
  rw [ksem_recv, jRecv_rs]
theorem hs_send (t : Fin 3) (h : t.val < 6) (l : Lane) : SemLoc.dma (sendS ⟨t.val, h⟩ l.1 l.2) = ksem (kLane 1 l) := by
  rw [ksem_send, jSend_rs]
theorem hs_recv' (t : Fin 3) (h6 : 3 + t.val < 6) (h9 : 6 + t.val < 9) (l : Lane) :
    SemLoc.dma (recvS ⟨3 + t.val, h6⟩ l.1 l.2) = ksem (kLane ⟨6 + t.val, h9⟩ l) := by
  rw [ksem_recv, jRecv_ag t h6 h9]
theorem hs_send' (t : Fin 3) (h6 : 3 + t.val < 6) (h9 : 3 + t.val < 9) (l : Lane) :
    SemLoc.dma (sendS ⟨3 + t.val, h6⟩ l.1 l.2) = ksem (kLane ⟨3 + t.val, h9⟩ l) := by
  rw [ksem_send, jSend_ag t h6 h9]
theorem lv_gone (t : Fin 3) (h9 : 3 + t.val < 9) (l : Lane) : lvK (kLane ⟨3 + t.val, h9⟩ l) 0 = 0 := by
  have := t.isLt
  show (if 3 + t.val = 0 then _ else if 3 + t.val = 2 then _ else if 6 ≤ 3 + t.val then _ else 0) = 0
  rw [if_neg (by omega), if_neg (by omega), if_neg (by omega)]
theorem rounds_ag : ∀ (j : Fin 9) (l : Lane), 3 ≤ j.val → 0 < rounds (kLane j l) := by
  intro j l h; show 0 < ![2, 3, 3, 1, 1, 1, 1, 1, 1] j; revert h; revert j; decide
theorem amount_lane (j : Fin 9) (l : Lane) (h : j ≠ 0) : amountK (kLane j l) = nBlk := if_neg h

/-- The accumulator's elements, whole and in two shares. -/
theorem accP_share (c : Dev nD) (I : Finset S4096x2048.Idx) (f : AccT F) :
    (accP c I fullShare f : sProp 𝕄) ⊣⊢ iprop(accP c I fullShare.left f ∗ accP c I fullShare.right f) :=
  pointsTo_share (PosShare.mem_left_op_right fullShare)

section Steps
variable (xa : Dev nD → XT F) (wa : Dev nD → WT F) (K : Dev nD × Option Ko → ℕ)

/-! ### The waits of a lane -/

theorem rrecv_wp (c : Dev nD) (t : Fin 3) (lane : Lane) (l : List PK) (hl : above (lvK (kLane 2 lane) t.val) l) {p : PG F} {Q : PUnit → sProp 𝕄} :
    iprop(Ctx xa wa K ∗ Cr c (oLane 2 lane) t.val ∗ Owe c l ∗ At c (kLane 2 lane) t.val)
      ⊢ iprop(((Owe c l ∗ At c (kLane 2 lane) (t.val + 1) ∗ Rch c (kLane 2 lane) (t.val + 1) ∗ recvPay xa wa c lane t.val) -∗ WP c p Q)
        -∗ WP c (rrecv c t lane.1 lane.2 p) Q) :=
  waitP_wp xa wa K c (oLane 2 lane) (hs_recv t (by omega) lane) t.val t.isLt (by omega)
    (src := accB (sOff c lane.1 t lane.2) (sOff_inb c lane.1 t lane.2)) (dst := commV lane.1 lane.2) rfl l hl

theorem rdone_wp (c : Dev nD) (t : Fin 3) (lane : Lane) (l : List PK) {p : PG F} {Q : PUnit → sProp 𝕄} :
    iprop(Ctx xa wa K ∗ Cr c (oLane 1 lane) t.val ∗ Owe c l ∗ At c (kLane 1 lane) t.val)
      ⊢ iprop(((Owe c l ∗ At c (kLane 1 lane) (t.val + 1) ∗ Rch c (kLane 1 lane) (t.val + 1) ∗ emp) -∗ WP c p Q)
        -∗ WP c (rdone c t lane.1 lane.2 p) Q) :=
  waitP_wp xa wa K c (oLane 1 lane) (hs_send t (by omega) lane) t.val t.isLt (by omega)
    (src := commV lane.1 lane.2) (dst := accB (sOff c lane.1 t lane.2) (sOff_inb c lane.1 t lane.2)) rfl l (above_zero l)

/-- A block of the result arrives. -/
theorem arecv_wp (c : Dev nD) (t : Fin 3) (h9 : 6 + t.val < 9) (lane : Lane) (l : List PK) (hl : above (lvK (kLane ⟨6 + t.val, h9⟩ lane) 0) l)
    {p : PG F} {Q : PUnit → sProp 𝕄} :
    iprop(Ctx xa wa K ∗ Cr c (oLane ⟨6 + t.val, h9⟩ lane) 0 ∗ Owe c l ∗ At c (kLane ⟨6 + t.val, h9⟩ lane) 0)
      ⊢ iprop(((Owe c l ∗ At c (kLane ⟨6 + t.val, h9⟩ lane) 1 ∗ accP c (blk (back lane.1 (t.val + 4) c) lane.1 lane.2) fullShare (outAll xa wa)
          ∗ sepL (blkAny (F := F) (back lane.1 (t.val + 4) c) lane) (others lane.1 (3 + t.val) c)) -∗ WP c p Q)
        -∗ WP c (arecv c t lane.1 lane.2 p) Q) := by
  have hw := waitP_wp xa wa K c (oLane ⟨6 + t.val, h9⟩ lane) (hs_recv' t (by omega) h9 lane) 0 (rounds_ag _ lane (by show 3 ≤ 6 + t.val; omega)) (by omega)
    (src := accB (sOff c lane.1 t lane.2) (sOff_inb c lane.1 t lane.2)) (dst := accB (sOff c lane.1 t lane.2) (sOff_inb c lane.1 t lane.2))
    (amount_lane ⟨6 + t.val, h9⟩ lane (fun e => by have := congrArg Fin.val e; simp at this)).symm l hl (p := p) (Q := Q)
  have hp : payK xa wa c (kLane ⟨6 + t.val, h9⟩ lane) 0 0 = recvPay xa wa c lane (3 + t.val) := by fin_cases t <;> rfl
  rw [hp] at hw
  unfold recvPay at hw
  rw [if_neg (by omega), if_neg (by omega), show 3 + t.val + 1 = t.val + 4 by omega] at hw
  unfold arecv
  iintro H Hk
  iapply hw $$ H
  iintro ⟨HO, Hat, -, Ha, Hs, -⟩
  iapply Hk
  isplitl [HO]; · iexact HO
  isplitl [Hat]; · iexact Hat
  isplitl [Ha]; · iexact Ha
  iexact Hs

/-- A lent share of the result comes back. -/
theorem adone_wp (c : Dev nD) (t : Fin 3) (h9 : 3 + t.val < 9) (lane : Lane) (l : List PK) {p : PG F} {Q : PUnit → sProp 𝕄} :
    iprop(Ctx xa wa K ∗ Cr c (oLane ⟨3 + t.val, h9⟩ lane) 0 ∗ Owe c l ∗ At c (kLane ⟨3 + t.val, h9⟩ lane) 0)
      ⊢ iprop(((Owe c l ∗ At c (kLane ⟨3 + t.val, h9⟩ lane) 1 ∗ gonePay xa wa c lane t.val) -∗ WP c p Q)
        -∗ WP c (adone c t lane.1 lane.2 p) Q) := by
  have hw := waitP_wp xa wa K c (oLane ⟨3 + t.val, h9⟩ lane) (hs_send' t (by omega) h9 lane) 0 (rounds_ag _ lane (by show 3 ≤ 3 + t.val; omega)) (by omega)
    (src := accB (hOff c lane.1 t lane.2) (hOff_inb c lane.1 t lane.2)) (dst := accB (hOff c lane.1 t lane.2) (hOff_inb c lane.1 t lane.2))
    (amount_lane ⟨3 + t.val, h9⟩ lane (fun e => by have := congrArg Fin.val e; simp at this)).symm l
    (by rw [lv_gone t h9 lane]; exact above_zero l) (p := p) (Q := Q)
  have hp : payK xa wa c (kLane ⟨3 + t.val, h9⟩ lane) 0 0 = gonePay xa wa c lane t.val := by fin_cases t <;> rfl
  rw [hp] at hw
  unfold adone
  iintro H Hk
  iapply hw $$ H
  iintro ⟨HO, Hat, -, Ha⟩
  iapply Hk
  isplitl [HO]; · iexact HO
  isplitl [Hat]; · iexact Hat
  iexact Ha

/-- A half chunk has been written out. -/
theorem fwait_wp (c : Dev nD) (d : Fin 2) (h : Fin 4) (l : List PK) {p : PG F} {Q : PUnit → sProp 𝕄} :
    iprop(Ctx xa wa K ∗ Cr c (oFlush d h) 0 ∗ Owe c l ∗ At c (kFlush d h) 0)
      ⊢ iprop(((Owe c l ∗ At c (kFlush d h) 1 ∗ flushPay xa wa c d h.val) -∗ WP c p Q) -∗ WP c (fwait c d h p) Q) := by
  have hp : payK xa wa c (kFlush d h) 0 0 = flushPay xa wa c d h.val := rfl
  have hw := waitP_wp xa wa K c (oFlush d h) (sem := flushS d h) rfl 0 (by show 0 < 1; decide) (by omega)
    (src := accH (fOff c d h) (fOff_inb c d h)) (dst := outH (fOff c d h) (fOff_inb c d h)) rfl l (above_zero l) (p := p) (Q := Q)
  rw [hp] at hw
  unfold fwait
  iintro H Hk
  iapply hw $$ H
  iintro ⟨HO, Hat, -, Ha⟩
  iapply Hk
  isplitl [HO]; · iexact HO
  isplitl [Hat]; · iexact Hat
  iexact Ha

/-! ### The steps of a lane -/

/-- A reduce-scatter arrival, with what it tells of the upstream neighbour's credits. -/
theorem recvPay_rs (c : Dev nD) (lane : Lane) (t : Fin 2) :
    iprop(Ctx xa wa K ∗ recvPay xa wa c lane t.val)
      ⊢ iprop(commP c (cblk lane.1 lane.2) (commF (back lane.1 (t.val + 1) c) (V (prods xa wa) lane.1 (prv lane.1 c) t.val))
        ∗ sepL (blkAny (F := F) (back lane.1 (t.val + 1) c) lane) (others lane.1 t.val c) ∗ Rch (prv lane.1 c) (kLane 0 lane) t.val) := by
  have t2 := t.isLt
  unfold recvPay
  rw [if_pos (show t.val < 3 by omega)]
  have hr : iprop(Ctx xa wa K ∗ (if t.val = 1 then Rch (prv lane.1 c) (kLane 0 lane) 1 else iprop(emp)))
      ⊢ Rch (F := F) (prv lane.1 c) (kLane 0 lane) t.val := by
    by_cases h : t.val = 1
    · rw [if_pos h, h]; exact sep_elim_right
    · rw [show t.val = 0 by omega]; exact sep_elim_left.trans (Ctx_rch xa wa K (prv lane.1 c) (kLane 0 lane))
  iintro ⟨#HC, Hm, Hpre, Hr⟩
  isplitl [Hm]; · iexact Hm
  isplitl [Hpre]; · iexact Hpre
  iapply hr
  isplitr; · iexact HC
  iexact Hr
/-- The last reduce-scatter arrival. -/
theorem recvPay_rs2 (c : Dev nD) (lane : Lane) :
    recvPay xa wa c lane 2
      ⊢ iprop(commP c (cblk lane.1 lane.2) (commF (back lane.1 3 c) (V (prods xa wa) lane.1 (prv lane.1 c) 2))
        ∗ sepL (blkAny (F := F) (back lane.1 3 c) lane) (others lane.1 2 c)) := by
  unfold recvPay
  rw [if_pos (show 2 < 3 by omega)]
  iintro ⟨Hm, Hpre, -⟩
  isplitl [Hm]; · iexact Hm
  iexact Hpre
/-- A credit taken, as the next transfer passes the news on. -/
theorem news (c : Dev nD) (lane : Lane) (t : Fin 2) :
    Rch (F := F) c (kLane 0 lane) (t.val + 1) ⊢ (if t.val + 1 = 1 then Rch c (kLane 0 lane) 1 else iprop(emp)) := by
  by_cases h : t.val + 1 = 1
  · rw [if_pos h, h]
  · rw [if_neg h]; iintro -; iempintro
theorem addV (c : Dev nD) (d : Fin 2) (n : ℕ) :
    (fun z => FloatOps.addf (prods xa wa c z) (V (prods xa wa) d (prv d c) n z)) = V (prods xa wa) d c (n + 1) := rfl

/-- What a lane holds with `t` hops of the reduce-scatter behind it, the last still departing. -/
def carry (c : Dev nD) (t : ℕ) (l : Lane) : sProp 𝕄 :=
  iprop(Cr c (oLane 1 l) t ∗ At c (kLane 1 l) t ∗ At c (kLane 2 l) t ∗ At c (kLane 0 l) t)
/-- What step `t` of the reduce-scatter takes beside. -/
def need (c : Dev nD) (t : ℕ) (l : Lane) : sProp 𝕄 :=
  iprop(Cr c (oLane 2 l) t ∗ Cr c (oLane 0 l) t ∗ Tok (prv l.1 c) (oLane 0 l) t ∗ Tok c (oLane 1 l) (t + 1) ∗ Tok (nxt l.1 c) (oLane 2 l) (t + 1)
    ∗ accP c (blk (back l.1 (t + 1) c) l.1 l.2) fullShare (prods xa wa c))
/-- The share of a block of the result kept for the write-out, and the one kept for the next transfer. -/
def rightP (c : Dev nD) (h : ℕ) (l : Lane) : sProp 𝕄 := accP c (blk (back l.1 (h + 3) c) l.1 l.2) fullShare.right (outAll xa wa)

/-- One step of the reduce-scatter. -/
theorem rstep_wp (c : Dev nD) (t : Fin 2) (lane : Lane) (h6 : t.val + 1 < 6) (l : List PK)
    (h1 : above (lvK (kLane 2 lane) t.val) (.cred t lane :: .hop ⟨t.val + 1, h6⟩ lane :: l))
    (h2 : above (lvK (kLane 0 lane) t.val) (.hop ⟨t.val + 1, h6⟩ lane :: l)) {p : PG F} {Q : PUnit → sProp 𝕄} :
    iprop(Ctx xa wa K ∗ Owe c (.cred t lane :: .hop ⟨t.val + 1, h6⟩ lane :: l) ∗ (carry c t.val lane ∗ need xa wa c t.val lane))
      ⊢ iprop(((Owe c l ∗ carry c (t.val + 1) lane) -∗ WP c p Q) -∗ WP c (rstep c t lane.1 lane.2 p) Q) := by
  have t2 := t.isLt
  have t3 : t.val < 3 := by omega
  have s3 : t.val + 1 < 3 := by omega
  unfold carry need rstep
  iintro ⟨#HC, HO, ⟨Hcs, Has, Har, Hac⟩, Hcr, Hcc, Htc, Hts, Htr, Hacc⟩ Hk
  iapply (rrecv_wp xa wa K c ⟨t.val, t3⟩ lane _ h1) $$ [Hcr HO Har]
  · isplitr; · iexact HC
    isplitl [Hcr]; · iexact Hcr
    isplitl [HO]; · iexact HO
    iexact Har
  iintro ⟨HO, Har, #Hr2, Hp⟩
  ihave Hp := (recvPay_rs xa wa K c lane t) $$ [Hp]
  · isplitr; · iexact HC
    iexact Hp
  icases Hp with ⟨Hm, Hpre, #Hr0⟩
  iapply (add_wp c (back lane.1 (t.val + 1) c) lane.1 lane.2 (aOff_eq c lane.1 ⟨t.val, t3⟩ lane.2) (aOff_inb c lane.1 ⟨t.val, t3⟩ lane.2)
    (prods xa wa c) (V (prods xa wa) lane.1 (prv lane.1 c) t.val)) $$ [Hacc Hm]
  · isplitl [Hacc]; · iexact Hacc
    iexact Hm
  iintro ⟨Hacc, Hm⟩
  iapply (credit_wp xa wa K c lane t _) $$ [HO Htc Hm]
  · isplitr; · iexact HC
    isplitl [HO]; · iexact HO
    isplitl [Htc]; · iexact Htc
    isplitl [Hm]; · unfold commAny; iexists _; iexact Hm
    isplitr; · iexact Hr2
    iexact Hr0
  iintro HO
  iapply (rdone_wp xa wa K c ⟨t.val, t3⟩ lane _) $$ [Hcs HO Has]
  · isplitr; · iexact HC
    isplitl [Hcs]; · iexact Hcs
    isplitl [HO]; · iexact HO
    iexact Has
  iintro ⟨HO, Has, #Hr1, -⟩
  iapply (creditwait_wp xa wa K c lane t.val t.isLt _ h2) $$ [Hcc HO Hac]
  · isplitr; · iexact HC
    isplitl [Hcc]; · iexact Hcc
    isplitl [HO]; · iexact HO
    iexact Hac
  iintro ⟨HO, Hac, #Hrc, Hp⟩
  unfold creditPay
  icases Hp with ⟨Hm, Hrn⟩
  iapply (rsend_wp xa wa K c ⟨t.val + 1, s3⟩ lane (others lane.1 t.val c) (others_rs lane.1 t c) l) $$ [Hacc Hm Hpre HO Hts Htr Hrn]
  · isplitr; · iexact HC
    isplitl [Hacc]; · iexact Hacc
    isplitl [Hm]; · iexact Hm
    isplitl [Hpre]; · iexact Hpre
    isplitr
    · iapply (news c lane t); iexact Hrc
    isplitl [HO]; · iexact HO
    isplitl [Hts]; · iexact Hts
    isplitr; · iexact Hr1
    isplitl [Htr]; · iexact Htr
    iexact Hrn
  iintro ⟨Hcs, HO⟩
  iapply Hk
  isplitl [HO]; · iexact HO
  isplitl [Hcs]; · iexact Hcs
  isplitl [Has]; · iexact Has
  isplitl [Har]; · iexact Har
  iexact Hac

/-- What the last step of the reduce-scatter takes beside. -/
def need2 (c : Dev nD) (l : Lane) : sProp 𝕄 :=
  iprop(Cr c (oLane 2 l) 2 ∗ accP c (blk (back l.1 3 c) l.1 l.2) fullShare (prods xa wa c) ∗ Tok c (oLane 3 l) 0 ∗ Tok (nxt l.1 c) (oLane 6 l) 0)
/-- What the lane holds after it until the closing waits. -/
def left0 (c : Dev nD) (l : Lane) : sProp 𝕄 :=
  iprop((Cr c (oLane 1 l) 2 ∗ At c (kLane 1 l) 2) ∗ At c (kLane 2 l) 3 ∗ At c (kLane 0 l) 2 ∗ commAny (F := F) l c ∗ Cr c (oLane 3 l) 0)

/-- The last step of the reduce-scatter, the activation, the first transfer of the all-gather. -/
theorem lstep_wp (c : Dev nD) (lane : Lane) (l : List PK) (h1 : above (lvK (kLane 2 lane) 2) (.hop 3 lane :: l)) {p : PG F} {Q : PUnit → sProp 𝕄} :
    iprop(Ctx xa wa K ∗ Owe c (.hop 3 lane :: l) ∗ (carry c 2 lane ∗ need2 xa wa c lane))
      ⊢ iprop(((Owe c l ∗ (rightP xa wa c 0 lane ∗ left0 c lane)) -∗ WP c p Q) -∗ WP c (lstep c lane.1 lane.2 p) Q) := by
  unfold carry need2 lstep left0 rightP
  iintro ⟨#HC, HO, ⟨Hcs, Has, Har, Hac⟩, Hcr, Hacc, Hts, Htr⟩ Hk
  iapply (rrecv_wp xa wa K c 2 lane _ h1) $$ [Hcr HO Har]
  · isplitr; · iexact HC
    isplitl [Hcr]; · iexact Hcr
    isplitl [HO]; · iexact HO
    iexact Har
  iintro ⟨HO, Har, -, Hp⟩
  ihave Hp := (show recvPay xa wa c lane (2 : Fin 3).val ⊢ _ from recvPay_rs2 xa wa c lane) $$ Hp
  icases Hp with ⟨Hm, Hpre⟩
  iapply (add_wp c (back lane.1 3 c) lane.1 lane.2 (aOff_eq c lane.1 2 lane.2) (aOff_inb c lane.1 2 lane.2)
    (prods xa wa c) (V (prods xa wa) lane.1 (prv lane.1 c) 2)) $$ [Hacc Hm]
  · isplitl [Hacc]; · iexact Hacc
    iexact Hm
  iintro ⟨Hacc, Hm⟩
  rw [addV]
  iapply (gelu_wp c (back lane.1 3 c) lane.1 lane.2 (aOff_eq c lane.1 2 lane.2) (aOff_inb c lane.1 2 lane.2)
    (V (prods xa wa) lane.1 c 3)) $$ Hacc
  iintro Hacc
  have he : (accP c (blk (back lane.1 3 c) lane.1 lane.2) fullShare (fun z => gelu1 (V (prods xa wa) lane.1 c 3 z)) : sProp 𝕄)
      = accP c (blk (back lane.1 3 c) lane.1 lane.2) fullShare (outAll xa wa) := accP_congr _ _ _ fun i hi => by
    unfold outAll; rw [outF_blk (prods xa wa) hi]
    rw [show prv lane.1 (back lane.1 3 c) = c from back_four lane.1 c]
  ihave Hacc := (Entails.of_eq he) $$ Hacc
  ihave Hacc := (accP_share c _ _).1 $$ Hacc
  icases Hacc with ⟨Hl, Hr⟩
  iapply (asend_wp xa wa K c 0 lane l) $$ [Hl Hpre HO Hts Htr]
  · isplitr; · iexact HC
    isplitl [Hl]; · iexact Hl
    isplitl [Hpre]; · iexact Hpre
    isplitl [HO]; · iexact HO
    isplitl [Hts]; · iexact Hts
    iexact Htr
  iintro ⟨Hg, HO⟩
  iapply Hk
  isplitl [HO]; · iexact HO
  isplitl [Hr]; · iexact Hr
  isplitl [Hcs Has]
  · isplitl [Hcs]; · iexact Hcs
    iexact Has
  isplitl [Har]; · iexact Har
  isplitl [Hac]; · iexact Hac
  isplitl [Hm]; · unfold commAny; iexists _; iexact Hm
  iexact Hg

/-- What step `t` of the all-gather takes. -/
def needA (c : Dev nD) (t : Fin 3) (l : Lane) : sProp 𝕄 :=
  iprop(Cr c (oLane ⟨6 + t.val, by omega⟩ l) 0 ∗ At c (kLane ⟨6 + t.val, by omega⟩ l) 0)
/-- The rights its transfer takes. -/
def toksA (c : Dev nD) (t : Fin 3) (l : Lane) : sProp 𝕄 :=
  iprop(Tok c (oLane ⟨3 + t.val, by omega⟩ l) 0 ∗ Tok (nxt l.1 c) (oLane ⟨6 + t.val, by omega⟩ l) 0)

/-- One step of the all-gather that passes the block on. -/
theorem astep_wp (c : Dev nD) (t : Fin 2) (t3 : t.val < 3) (s3 : t.val + 1 < 3) (h6 : 3 + (t.val + 1) < 6) (h9 : 6 + t.val < 9) (h9' : 3 + (t.val + 1) < 9)
    (lane : Lane) (l : List PK)
    (h1 : above (lvK (kLane ⟨6 + t.val, h9⟩ lane) 0) (.hop ⟨3 + (t.val + 1), h6⟩ lane :: l)) {p : PG F} {Q : PUnit → sProp 𝕄} :
    iprop(Ctx xa wa K ∗ Owe c (.hop ⟨3 + (t.val + 1), h6⟩ lane :: l) ∗ (needA c ⟨t.val, t3⟩ lane ∗ toksA c ⟨t.val + 1, s3⟩ lane))
      ⊢ iprop(((Owe c l ∗ (rightP xa wa c (t.val + 1) lane ∗ (At c (kLane ⟨6 + t.val, h9⟩ lane) 1 ∗ Cr c (oLane ⟨3 + (t.val + 1), h9'⟩ lane) 0))) -∗ WP c p Q)
        -∗ WP c (astep c t lane.1 lane.2 p) Q) := by
  unfold needA toksA astep rightP
  iintro ⟨#HC, HO, ⟨Hcr, Har⟩, Hts, Htr⟩ Hk
  iapply (arecv_wp xa wa K c ⟨t.val, t3⟩ h9 lane _ h1) $$ [Hcr HO Har]
  · isplitr; · iexact HC
    isplitl [Hcr]; · iexact Hcr
    isplitl [HO]; · iexact HO
    iexact Har
  iintro ⟨HO, Har, Hacc, Hpre⟩
  ihave Hacc := (accP_share c _ _).1 $$ Hacc
  icases Hacc with ⟨Hl, Hr⟩
  iapply (asend_wp xa wa K c ⟨t.val + 1, s3⟩ lane l) $$ [Hl Hpre HO Hts Htr]
  · isplitr; · iexact HC
    isplitl [Hl]; · iexact Hl
    isplitl [Hpre]
    · rw [show 2 + (t.val + 1) = 3 + t.val by omega]
      iexact Hpre
    isplitl [HO]; · iexact HO
    isplitl [Hts]; · iexact Hts
    iexact Htr
  iintro ⟨Hg, HO⟩
  iapply Hk
  isplitl [HO]; · iexact HO
  isplitl [Hr]; · iexact Hr
  isplitl [Har]; · iexact Har
  iexact Hg

/-- The last arrival of a lane. -/
theorem alast_wp (c : Dev nD) (lane : Lane) (l : List PK) (h1 : above (lvK (kLane 8 lane) 0) l) {p : PG F} {Q : PUnit → sProp 𝕄} :
    iprop(Ctx xa wa K ∗ Owe c l ∗ needA c 2 lane)
      ⊢ iprop(((Owe c l ∗ (rightP xa wa c 3 lane ∗ (At c (kLane 8 lane) 1 ∗ gonePay xa wa c lane 3))) -∗ WP c p Q)
        -∗ WP c (arecv c 2 lane.1 lane.2 p) Q) := by
  unfold needA rightP gonePay
  iintro ⟨#HC, HO, Hcr, Har⟩ Hk
  iapply (arecv_wp xa wa K c 2 (by decide) lane _ h1) $$ [Hcr HO Har]
  · isplitr; · iexact HC
    isplitl [Hcr]; · iexact Hcr
    isplitl [HO]; · iexact HO
    iexact Har
  iintro ⟨HO, Har, Hacc, -⟩
  ihave Hacc := (accP_share c _ _).1 $$ Hacc
  icases Hacc with ⟨Hl, Hr⟩
  iapply Hk
  isplitl [HO]; · iexact HO
  isplitl [Hr]; · iexact Hr
  isplitl [Har]; · iexact Har
  iexact Hl

end Steps

end Cert.KernelIdeal.RS

end
-- ==== Proof.Gemm.lean ====
/- The products: the copies of `x` double-buffered under them, the first hop's transfers sent as their blocks are made. -/
module

public import proofs.«01_k».proof.Proof.Lane

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem okAll_true {ι : Type} : ∀ l : List ι, okAll (fun _ _ => True) l
  | [] => trivial
  | _ :: l => ⟨trivial, okAll_true l⟩

/-- The slot of the `n`-th copy. -/
abbrev bN (n : ℕ) : Fin 2 := ⟨n % 2, Nat.mod_lt _ (by decide)⟩

theorem lanes4_nodup : ∀ i, (lanes4 i).Nodup := by decide

/-- Row slab `i` of a device's own chunk is cut into the blocks it makes ready. -/
theorem own_cut (c : Dev nD) (i : Fin 4) (h : i.val < 16) (f : AccT F) :
    (accP c (aslab (rs c ⟨i.val, h⟩)) fullShare f : sProp 𝕄) = sepL (fun l => accP c (blk c l.1 l.2) fullShare f) (lanes4 i) := by
  have e := rs_own c ⟨i.val, h⟩ i.isLt
  refine accP_cut c fullShare f _ (fun l : Lane => blk c l.1 l.2) (lanes4 i) (lanes4_nodup i) (fun z => ?_) (fun l _ m _ hlm => blk_disjoint fun hh => hlm hh.2)
  rw [mem_aslab]
  have h1 := lt1 z
  constructor
  · intro hz
    have hz' : (z 0).val / 256 = 4 * c.val + i.val := hz.trans e
    refine ⟨(⟨(z 1).val / 1024, by omega⟩, ⟨(z 0).val / 128 % 8, by omega⟩), ?_, ?_⟩
    · have h2 : (z 1).val / 1024 = 0 ∨ (z 1).val / 1024 = 1 := by omega
      have h3 : (z 0).val / 128 % 8 = 2 * i.val ∨ (z 0).val / 128 % 8 = 2 * i.val + 1 := by omega
      unfold lanes4
      rcases h2 with h2 | h2 <;> rcases h3 with h3 | h3 <;> simp [h2, h3]
    · rw [mem_blk]; dsimp only; omega
  · rintro ⟨l, hl, hz⟩
    rw [mem_blk] at hz
    have hk : l.2.val = 2 * i.val ∨ l.2.val = 2 * i.val + 1 := by
      unfold lanes4 at hl
      simp only [List.mem_cons, List.not_mem_nil, _root_.or_false] at hl
      rcases hl with rfl | rfl | rfl | rfl <;> simp
    exact (show (z 0).val / 256 = 4 * c.val + i.val by omega).trans e.symm

section Gemm
variable (xa : Dev nD → XT F) (wa : Dev nD → WT F) (K : Dev nD × Option Ko → ℕ)

/-- The `n`-th copy is on its way. -/
def busy (c : Dev nD) (n : ℕ) : sProp 𝕄 := iprop(Cr c (oCopy (bN n)) (n / 2) ∗ At c (kCopy (bN n)) (n / 2))
/-- The slot of the `n`-th copy is free for it. -/
def free (c : Dev nD) (n : ℕ) : sProp 𝕄 :=
  iprop((∃ f : BufT F, bufP c (bslot (bN n)) f) ∗ At c (kCopy (bN n)) (n / 2) ∗ Rch c (kCopy (bN n)) (n / 2))
/-- What the copy of row slab `i` takes. -/
def xIn (c : Dev nD) (i : Fin 16) : sProp 𝕄 := iprop(xP c (xslab (rs c i)) (xa c) ∗ Tok c (oCopy (slotOf i)) (i.val / 2))
/-- Row slab `i` of the accumulator at some contents. -/
def accAny (c : Dev nD) (i : Fin 16) : sProp 𝕄 := iprop(∃ f : AccT F, accP c (aslab (rs c i)) fullShare f)
/-- What the first transfer of a lane takes beside its block. -/
def sendIn (c : Dev nD) (l : Lane) : sProp 𝕄 := iprop(commAny (F := F) l (nxt l.1 c) ∗ Tok c (oLane 1 l) 0 ∗ Tok (nxt l.1 c) (oLane 2 l) 0)

theorem start_wp (c : Dev nD) (i : Fin 16) {p : PG F} {Q : PUnit → sProp 𝕄} :
    iprop(Ctx xa wa K ∗ xIn xa c i ∗ free c i.val) ⊢ iprop((busy c i.val -∗ WP c p Q) -∗ WP c (xstart c i p) Q) := by
  unfold xIn free busy
  iintro ⟨#HC, ⟨Hx, Ht⟩, Hb, Ha, Hr⟩ Hk
  iapply (xstart_wp xa wa K c i) $$ [Hx Ht Hb Hr]
  · isplitr; · iexact HC
    isplitl [Hx]; · iexact Hx
    isplitl [Hb]; · iexact Hb
    isplitl [Ht]; · iexact Ht
    iexact Hr
  iintro Hcr
  iapply Hk
  isplitl [Hcr]; · iexact Hcr
  iexact Ha

/-- A row slab's product, once its copy is there. -/
theorem slab_wp (c : Dev nD) (i : Fin 16) (l : List PK) {p : PG F} {Q : PUnit → sProp 𝕄} :
    iprop(Ctx xa wa K ∗ Owe c l ∗ busy c i.val ∗ wP c (wa c) ∗ accAny c i)
      ⊢ iprop(((Owe c l ∗ free c (i.val + 2) ∗ wP c (wa c) ∗ xP c (xslab (rs c i)) (xa c) ∗ accP c (aslab (rs c i)) fullShare (prods xa wa c)) -∗ WP c p Q)
        -∗ WP c (slab c (Memref.whole cc0_stg0_0) i p) Q) := by
  have h16 := i.isLt
  have hb : bN (i.val + 2) = slotOf i := Fin.ext (by show (i.val + 2) % 2 = i.val % 2; omega)
  have hr : (i.val + 2) / 2 = i.val / 2 + 1 := by omega
  have hw := waitP_wp xa wa K c (oCopy (slotOf i)) (sem := copyS (slotOf i)) rfl (i.val / 2) (by show i.val / 2 < 8; omega) (by omega)
    (src := xV c i) (dst := bufV (slotOf i)) rfl l (above_zero l)
    (p := gemmP (Memref.whole cc0_stg0_0) (slotOf i) (gOff c i) (gOff_inb c i) p) (Q := Q)
  have hp : payK xa wa c (kCopy (slotOf i)) (i.val / 2) 0 = iprop(bufP c (bslot (slotOf i)) (bufF (xa c) (rs c i)) ∗ xP c (xslab (rs c i)) (xa c)) :=
    copyPay_eq xa c i (slotOf i) rfl
  rw [hp] at hw
  unfold busy free accAny slab xwait
  rw [hb, hr]
  iintro ⟨#HC, HO, ⟨Hcr, Ha⟩, Hw, Hacc⟩ Hk
  iapply hw $$ [Hcr HO Ha]
  · isplitr; · iexact HC
    isplitl [Hcr]; · iexact Hcr
    isplitl [HO]; · iexact HO
    iexact Ha
  iintro ⟨HO, Ha, Hr, Hb, Hx⟩
  iapply (gemm_wp c i (slotOf i) (xa c) (wa c)) $$ [Hb Hw Hacc]
  · isplitl [Hb]; · iexact Hb
    isplitl [Hw]; · iexact Hw
    iexact Hacc
  iintro ⟨Hb, Hw, Hacc⟩
  iapply Hk
  isplitl [HO]; · iexact HO
  isplitl [Hb Ha Hr]
  · isplitl [Hb]; · iexists _; iexact Hb
    isplitl [Ha]; · iexact Ha
    iexact Hr
  isplitl [Hw]; · iexact Hw
  isplitl [Hx]; · iexact Hx
  iexact Hacc

/-- The first transfer of a lane. -/
theorem send0_wp (c : Dev nD) (lane : Lane) (l : List PK) {p : PG F} {Q : PUnit → sProp 𝕄} :
    iprop(Ctx xa wa K ∗ Owe c (.hop 0 lane :: l) ∗ (sendIn c lane ∗ accP c (blk c lane.1 lane.2) fullShare (prods xa wa c)))
      ⊢ iprop(((Owe c l ∗ Cr c (oLane 1 lane) 0) -∗ WP c p Q) -∗ WP c (rsend c 0 lane.1 lane.2 p) Q) := by
  unfold sendIn
  iintro ⟨#HC, HO, ⟨Hm, Hts, Htr⟩, Hacc⟩ Hk
  iapply (rsend_wp xa wa K c 0 lane [] (others_first lane.1 c) l) $$ [Hacc Hm HO Hts Htr]
  · isplitr; · iexact HC
    isplitl [Hacc]; · iexact Hacc
    isplitl [Hm]; · iexact Hm
    isplitr; · show _ ⊢ iprop(emp); iintro -; iempintro
    isplitr; · show _ ⊢ iprop(emp); iintro -; iempintro
    isplitl [HO]; · iexact HO
    isplitl [Hts]; · iexact Hts
    isplitr; · iapply (Ctx_rch xa wa K c (kLane 1 lane)); iexact HC
    isplitl [Htr]; · iexact Htr
    iapply (Ctx_rch xa wa K (nxt lane.1 c) (kLane 2 lane)); iexact HC
  iintro ⟨Hcr, HO⟩
  iapply Hk
  isplitl [HO]; · iexact HO
  iexact Hcr

/-- The payments of row slab `i`. -/
abbrev pays0 (i : Fin 4) : List PK := (lanes4 i).map (PK.hop 0)

/-- The transfers of a row slab. -/
theorem slabSends_wp (c : Dev nD) (i : Fin 4) (h : i.val < 16) (l : List PK) {p : PG F} {Q : PUnit → sProp 𝕄} :
    iprop(Ctx xa wa K ∗ Owe c (pays0 i ++ l) ∗ sepL (sendIn c) (lanes4 i) ∗ accP c (aslab (rs c ⟨i.val, h⟩)) fullShare (prods xa wa c))
      ⊢ iprop(((Owe c l ∗ sepL (fun lane => Cr c (oLane 1 lane) 0) (lanes4 i)) -∗ WP c p Q) -∗ WP c (slabSends c i p) Q) := by
  rw [own_cut]
  have hrun := run_wp c (Ctx xa wa K) (fun l : Lane => rsend c 0 l.1 l.2) (fun rest => Owe c (rest.map (PK.hop 0) ++ l))
    (fun lane => iprop(sendIn c lane ∗ accP c (blk c lane.1 lane.2) fullShare (prods xa wa c))) (fun lane => Cr c (oLane 1 lane) 0)
    (fun _ _ => True) (fun lane rest p Q _ => send0_wp xa wa K c lane (rest.map (PK.hop 0) ++ l)) (lanes4 i) (okAll_true _) (p := p) (Q := Q)
  iintro ⟨#HC, HO, Hs, Ha⟩ Hk
  iapply hrun $$ [HO Hs Ha]
  · isplitr; · iexact HC
    isplitl [HO]; · iexact HO
    iapply (sepL_sep (sendIn c) (fun lane : Lane => accP c (blk c lane.1 lane.2) fullShare (prods xa wa c)) (lanes4 i))
    isplitl [Hs]; · iexact Hs
    iexact Ha
  iexact Hk

/-- What the row slabs 1 to 3 take. -/
def inA (c : Dev nD) (i : Fin 4) : sProp 𝕄 :=
  iprop(xIn xa c ⟨i.val + 1, by omega⟩ ∗ accAny c ⟨i.val, by omega⟩ ∗ sepL (sendIn c) (lanes4 i))
/-- What they leave. -/
def outA (c : Dev nD) (i : Fin 4) : sProp 𝕄 :=
  iprop(xP c (xslab (rs c ⟨i.val, by omega⟩)) (xa c) ∗ sepL (fun lane => Cr (F := F) c (oLane 1 lane) 0) (lanes4 i))
/-- What the row slabs 4 to 14 take. -/
def inB (c : Dev nD) (i : Fin 15) : sProp 𝕄 := iprop(xIn xa c ⟨i.val + 1, by omega⟩ ∗ accAny c ⟨i.val, by omega⟩)
/-- What they leave. -/
def outB (c : Dev nD) (i : Fin 15) : sProp 𝕄 :=
  iprop(xP c (xslab (rs c ⟨i.val, by omega⟩)) (xa c) ∗ accP c (aslab (rs c ⟨i.val, by omega⟩)) fullShare (prods xa wa c))

/-- The state between two row slabs. -/
def mid (c : Dev nD) (n : ℕ) : sProp 𝕄 := iprop(busy c n ∗ free c (n + 1) ∗ wP c (wa c))

theorem slabA_wp (c : Dev nD) (i : Fin 4) (l : List PK) {p : PG F} {Q : PUnit → sProp 𝕄} :
    iprop(Ctx xa wa K ∗ (mid wa c i.val ∗ Owe c (pays0 i ++ l)) ∗ inA xa c i)
      ⊢ iprop((((mid wa c (i.val + 1) ∗ Owe c l) ∗ outA xa c i) -∗ WP c p Q) -∗ WP c (slabA c (Memref.whole cc0_stg0_0) i p) Q) := by
  have h16 : i.val < 16 := by omega
  have h17 : i.val + 1 < 16 := by omega
  unfold inA outA mid slabA
  iintro ⟨#HC, ⟨⟨Hb, Hf, Hw⟩, HO⟩, Hx, Ha, Hs⟩ Hk
  iapply (start_wp xa wa K c ⟨i.val + 1, h17⟩) $$ [Hx Hf]
  · isplitr; · iexact HC
    isplitl [Hx]; · iexact Hx
    iexact Hf
  iintro Hb'
  iapply (slab_wp xa wa K c ⟨i.val, h16⟩ (pays0 i ++ l)) $$ [HO Hb Hw Ha]
  · isplitr; · iexact HC
    isplitl [HO]; · iexact HO
    isplitl [Hb]; · iexact Hb
    isplitl [Hw]; · iexact Hw
    iexact Ha
  iintro ⟨HO, Hf, Hw, Hx, Ha⟩
  iapply (slabSends_wp xa wa K c i h16 l) $$ [HO Hs Ha]
  · isplitr; · iexact HC
    isplitl [HO]; · iexact HO
    isplitl [Hs]; · iexact Hs
    iexact Ha
  iintro ⟨HO, Hcr⟩
  iapply Hk
  isplitl [Hb' Hf Hw HO]
  · isplitl [Hb' Hf Hw]
    · isplitl [Hb']; · iexact Hb'
      isplitl [Hf]; · iexact Hf
      iexact Hw
    iexact HO
  isplitl [Hx]; · iexact Hx
  iexact Hcr

theorem slabB_wp (c : Dev nD) (i : Fin 15) (l : List PK) {p : PG F} {Q : PUnit → sProp 𝕄} :
    iprop(Ctx xa wa K ∗ (mid wa c i.val ∗ Owe c l) ∗ inB xa c i)
      ⊢ iprop((((mid wa c (i.val + 1) ∗ Owe c l) ∗ outB xa wa c i) -∗ WP c p Q) -∗ WP c (slabB c (Memref.whole cc0_stg0_0) i p) Q) := by
  have h16 : i.val < 16 := by omega
  have h17 : i.val + 1 < 16 := by omega
  unfold inB outB mid slabB
  iintro ⟨#HC, ⟨⟨Hb, Hf, Hw⟩, HO⟩, Hx, Ha⟩ Hk
  iapply (start_wp xa wa K c ⟨i.val + 1, h17⟩) $$ [Hx Hf]
  · isplitr; · iexact HC
    isplitl [Hx]; · iexact Hx
    iexact Hf
  iintro Hb'
  iapply (slab_wp xa wa K c ⟨i.val, h16⟩ l) $$ [HO Hb Hw Ha]
  · isplitr; · iexact HC
    isplitl [HO]; · iexact HO
    isplitl [Hb]; · iexact Hb
    isplitl [Hw]; · iexact Hw
    iexact Ha
  iintro ⟨HO, Hf, Hw, Hx, Ha⟩
  iapply Hk
  isplitl [Hb' Hf Hw HO]
  · isplitl [Hb' Hf Hw]
    · isplitl [Hb']; · iexact Hb'
      isplitl [Hf]; · iexact Hf
      iexact Hw
    iexact HO
  isplitl [Hx]; · iexact Hx
  iexact Ha

/-- The row slabs 1 to 3 and 4 to 14, as the program's runs list them. -/
def idxA : List (Fin 4) := [1, 2, 3]
@[inherit_doc idxA] def idxB : List (Fin 15) := [4, 5, 6, 7, 8, 9, 10, 11, 12, 13, 14]

theorem runA_wp (c : Dev nD) (l : List PK) {p : PG F} {Q : PUnit → sProp 𝕄} :
    iprop(Ctx xa wa K ∗ (mid wa c 1 ∗ Owe c (idxA.flatMap pays0 ++ l)) ∗ sepL (inA xa c) idxA)
      ⊢ iprop((((mid wa c 4 ∗ Owe c l) ∗ sepL (outA xa c) idxA) -∗ WP c p Q) -∗ WP c (run (slabA c (Memref.whole cc0_stg0_0)) idxA p) Q) :=
  run_wp c (Ctx xa wa K) (slabA c (Memref.whole cc0_stg0_0)) (fun rest => iprop(mid wa c (4 - rest.length) ∗ Owe c (rest.flatMap pays0 ++ l)))
    (inA xa c) (outA xa c) (fun i rest => i.val + rest.length = 3) (fun i rest p Q h => by
      rw [show 4 - (i :: rest).length = i.val by rw [List.length_cons]; omega, show 4 - rest.length = i.val + 1 by omega,
        List.flatMap_cons, List.append_assoc]
      exact slabA_wp xa wa K c i (rest.flatMap pays0 ++ l)) idxA (by decide)

theorem runB_wp (c : Dev nD) (l : List PK) (n m : ℕ) (hn : n = 15 - idxB.length) (hm : m = 15 - ([] : List (Fin 15)).length) {p : PG F} {Q : PUnit → sProp 𝕄} :
    iprop(Ctx xa wa K ∗ (mid wa c n ∗ Owe c l) ∗ sepL (inB xa c) idxB)
      ⊢ iprop((((mid wa c m ∗ Owe c l) ∗ sepL (outB xa wa c) idxB) -∗ WP c p Q) -∗ WP c (run (slabB c (Memref.whole cc0_stg0_0)) idxB p) Q) := by
  subst hn hm
  exact run_wp c (Ctx xa wa K) (slabB c (Memref.whole cc0_stg0_0)) (fun rest => iprop(mid wa c (15 - rest.length) ∗ Owe c l))
    (inB xa c) (outB xa wa c) (fun i rest => i.val + rest.length = 14) (fun i rest p Q h => by
      rw [show 15 - (i :: rest).length = i.val by rw [List.length_cons]; omega, show 15 - rest.length = i.val + 1 by omega]
      exact slabB_wp xa wa K c i l) idxB (by decide +kernel)

/-- What all the products take. -/
def gIn (c : Dev nD) : sProp 𝕄 :=
  iprop(wP c (wa c) ∗ free c 0 ∗ free c 1 ∗ sepL (xIn xa c) slabs ∗ sepL (accAny c) slabs ∗ sepL (sendIn c) lanes)
/-- What they leave. -/
def gOut (c : Dev nD) : sProp 𝕄 :=
  iprop(wP c (wa c) ∗ free c 16 ∗ free c 17 ∗ sepL (fun i => xP c (xslab (rs c i)) (xa c)) slabs
    ∗ sepL (fun i => accP c (aslab (rs c i)) fullShare (prods xa wa c)) slabs12 ∗ sepL (fun lane => Cr (F := F) c (oLane 1 lane) 0) lanes)

theorem idx_x : slabs = [0, 1] ++ (idxA.map (fun i => (⟨i.val + 1, by omega⟩ : Fin 16)) ++ idxB.map (fun i => (⟨i.val + 1, by omega⟩ : Fin 16))) := by decide
theorem idx_a : slabs = [0] ++ (idxA.map (fun i => (⟨i.val, by omega⟩ : Fin 16)) ++ (idxB.map (fun i => (⟨i.val, by omega⟩ : Fin 16)) ++ [15])) := by decide
theorem idx_b : slabs12 = idxB.map (fun i => (⟨i.val, by omega⟩ : Fin 16)) ++ [15] := by decide
theorem idx_l : lanes = lanes4 0 ++ idxA.flatMap lanes4 := by decide
theorem idx_p : lanes.map (PK.hop 0) = pays0 0 ++ idxA.flatMap pays0 := by decide

theorem gIn_cut (c : Dev nD) : gIn xa wa c ⊢ iprop((wP c (wa c) ∗ free c 0 ∗ free c 1 ∗ xIn xa c 0 ∗ xIn xa c 1 ∗ accAny c 0 ∗ accAny c 15 ∗ sepL (sendIn c) (lanes4 0))
    ∗ sepL (inA xa c) idxA ∗ sepL (inB xa c) idxB) := by
  unfold gIn
  rw [show sepL (xIn xa c) slabs = sepL (xIn xa c) ([0, 1] ++ (idxA.map (fun i => (⟨i.val + 1, by omega⟩ : Fin 16)) ++ idxB.map (fun i => (⟨i.val + 1, by omega⟩ : Fin 16)))) from
      congrArg _ idx_x,
    show sepL (accAny (F := F) c) slabs = sepL (accAny c) ([0] ++ (idxA.map (fun i => (⟨i.val, by omega⟩ : Fin 16)) ++ (idxB.map (fun i => (⟨i.val, by omega⟩ : Fin 16)) ++ [15]))) from
      congrArg _ idx_a,
    show sepL (sendIn (F := F) c) lanes = sepL (sendIn c) (lanes4 0 ++ idxA.flatMap lanes4) from congrArg _ idx_l]
  iintro ⟨Hw, Hf0, Hf1, Hx, Ha, Hs⟩
  ihave Hx := (sepL_append' _ _ _) $$ Hx
  icases Hx with ⟨Hx0, Hx⟩
  ihave Hx0 := (sepL_two _ _ _) $$ Hx0
  icases Hx0 with ⟨Hx0, Hx1⟩
  ihave Hx := (sepL_append' _ _ _) $$ Hx
  icases Hx with ⟨HxA, HxB⟩
  ihave Ha := (sepL_append' _ _ _) $$ Ha
  icases Ha with ⟨Ha0, Ha⟩
  ihave Ha0 := (sepL_one _ _) $$ Ha0
  ihave Ha := (sepL_append' _ _ _) $$ Ha
  icases Ha with ⟨HaA, Ha⟩
  ihave Ha := (sepL_append' _ _ _) $$ Ha
  icases Ha with ⟨HaB, Ha15⟩
  ihave Ha15 := (sepL_one _ _) $$ Ha15
  ihave Hs := (sepL_append' _ _ _) $$ Hs
  icases Hs with ⟨Hs0, HsA⟩
  ihave HsA := (sepL_flatMap _ _ _) $$ HsA
  ihave HxA := (Entails.of_eq (sepL_map _ _ _)) $$ HxA
  ihave HxB := (Entails.of_eq (sepL_map _ _ _)) $$ HxB
  ihave HaA := (Entails.of_eq (sepL_map _ _ _)) $$ HaA
  ihave HaB := (Entails.of_eq (sepL_map _ _ _)) $$ HaB
  isplitl [Hw Hf0 Hf1 Hx0 Hx1 Ha0 Ha15 Hs0]
  · isplitl [Hw]; · iexact Hw
    isplitl [Hf0]; · iexact Hf0
    isplitl [Hf1]; · iexact Hf1
    isplitl [Hx0]; · iexact Hx0
    isplitl [Hx1]; · iexact Hx1
    isplitl [Ha0]; · iexact Ha0
    isplitl [Ha15]; · iexact Ha15
    iexact Hs0
  isplitl [HxA HaA HsA]
  · unfold inA
    iapply sepL_sep
    isplitl [HxA]; · iexact HxA
    iapply sepL_sep
    isplitl [HaA]; · iexact HaA
    iexact HsA
  unfold inB
  iapply sepL_sep
  isplitl [HxB]; · iexact HxB
  iexact HaB

theorem gOut_join (c : Dev nD) : iprop((wP c (wa c) ∗ free c 16 ∗ free c 17 ∗ xP c (xslab (rs c 0)) (xa c) ∗ xP c (xslab (rs c 15)) (xa c)
      ∗ accP c (aslab (rs c 15)) fullShare (prods xa wa c) ∗ sepL (fun lane => Cr (F := F) c (oLane 1 lane) 0) (lanes4 0))
    ∗ sepL (outA xa c) idxA ∗ sepL (outB xa wa c) idxB) ⊢ gOut xa wa c := by
  unfold gOut
  rw [show sepL (fun i => xP c (xslab (rs c i)) (xa c)) slabs = sepL (fun i => xP c (xslab (rs c i)) (xa c))
        ([0] ++ (idxA.map (fun i => (⟨i.val, by omega⟩ : Fin 16)) ++ (idxB.map (fun i => (⟨i.val, by omega⟩ : Fin 16)) ++ [15]))) from congrArg _ idx_a,
    show sepL (fun i => accP c (aslab (rs c i)) fullShare (prods xa wa c)) slabs12 = sepL (fun i => accP c (aslab (rs c i)) fullShare (prods xa wa c))
        (idxB.map (fun i => (⟨i.val, by omega⟩ : Fin 16)) ++ [15]) from congrArg _ idx_b,
    show sepL (fun lane => Cr (F := F) c (oLane 1 lane) 0) lanes = sepL (fun lane => Cr (F := F) c (oLane 1 lane) 0) (lanes4 0 ++ idxA.flatMap lanes4) from congrArg _ idx_l]
  unfold outA outB
  iintro ⟨⟨Hw, Hf0, Hf1, Hx0, Hx15, Ha15, Hc0⟩, HA, HB⟩
  ihave HA := (sepL_unsep _ _ _) $$ HA
  icases HA with ⟨HxA, HcA⟩
  ihave HB := (sepL_unsep _ _ _) $$ HB
  icases HB with ⟨HxB, HaB⟩
  isplitl [Hw]; · iexact Hw
  isplitl [Hf0]; · iexact Hf0
  isplitl [Hf1]; · iexact Hf1
  isplitl [Hx0 Hx15 HxA HxB]
  · iapply sepL_append
    isplitl [Hx0]; · iapply (sepL_single (fun i => xP c (xslab (rs c i)) (xa c)) (0 : Fin 16)); iexact Hx0
    iapply sepL_append
    isplitl [HxA]; · iapply (Entails.of_eq (sepL_map _ _ _).symm); iexact HxA
    iapply sepL_append
    isplitl [HxB]; · iapply (Entails.of_eq (sepL_map _ _ _).symm); iexact HxB
    iapply (sepL_single (fun i => xP c (xslab (rs c i)) (xa c)) (15 : Fin 16)); iexact Hx15
  isplitl [HaB Ha15]
  · iapply sepL_append
    isplitl [HaB]; · iapply (Entails.of_eq (sepL_map _ _ _).symm); iexact HaB
    iapply (sepL_single (fun i => accP c (aslab (rs c i)) fullShare (prods xa wa c)) (15 : Fin 16)); iexact Ha15
  iapply sepL_append
  isplitl [Hc0]; · iexact Hc0
  iapply sepL_flatten
  iexact HcA

/-- All the products, with the first hop's transfers. -/
theorem gemmAll_wp (c : Dev nD) (l : List PK) {p : PG F} {Q : PUnit → sProp 𝕄} :
    iprop(Ctx xa wa K ∗ Owe c (lanes.map (PK.hop 0) ++ l) ∗ gIn xa wa c)
      ⊢ iprop(((Owe c l ∗ gOut xa wa c) -∗ WP c p Q) -∗ WP c (gemmAll c (Memref.whole cc0_stg0_0) p) Q) := by
  unfold gemmAll
  rw [idx_p, List.append_assoc]
  iintro ⟨#HC, HO, HG⟩ Hk
  ihave HG := (gIn_cut xa wa c) $$ HG
  icases HG with ⟨⟨Hw, Hf0, Hf1, Hx0, Hx1, Ha0, Ha15, Hs0⟩, HA, HB⟩
  iapply (start_wp xa wa K c 0) $$ [Hx0 Hf0]
  · isplitr; · iexact HC
    isplitl [Hx0]; · iexact Hx0
    iexact Hf0
  iintro Hb0
  iapply (start_wp xa wa K c 1) $$ [Hx1 Hf1]
  · isplitr; · iexact HC
    isplitl [Hx1]; · iexact Hx1
    iexact Hf1
  iintro Hb1
  iapply (slab_wp xa wa K c 0 (pays0 0 ++ (idxA.flatMap pays0 ++ l))) $$ [HO Hb0 Hw Ha0]
  · isplitr; · iexact HC
    isplitl [HO]; · iexact HO
    isplitl [Hb0]; · iexact Hb0
    isplitl [Hw]; · iexact Hw
    iexact Ha0
  iintro ⟨HO, Hf2, Hw, Hx0, Ha0⟩
  iapply (slabSends_wp xa wa K c 0 (by decide) (idxA.flatMap pays0 ++ l)) $$ [HO Hs0 Ha0]
  · isplitr; · iexact HC
    isplitl [HO]; · iexact HO
    isplitl [Hs0]; · iexact Hs0
    iexact Ha0
  iintro ⟨HO, Hc0⟩
  iapply (runA_wp xa wa K c l) $$ [HO Hb1 Hf2 Hw HA]
  · isplitr; · iexact HC
    isplitl [HO Hb1 Hf2 Hw]
    · isplitl [Hb1 Hf2 Hw]
      · unfold mid
        isplitl [Hb1]; · iexact Hb1
        isplitl [Hf2]; · iexact Hf2
        iexact Hw
      iexact HO
    iexact HA
  iintro ⟨⟨Hm, HO⟩, HA⟩
  iapply (runB_wp xa wa K c l 4 15 rfl rfl) $$ [HO Hm HB]
  · isplitr; · iexact HC
    isplitl [HO Hm]
    · isplitl [Hm]; · iexact Hm
      iexact HO
    iexact HB
  iintro ⟨⟨Hm, HO⟩, HB⟩
  unfold mid
  icases Hm with ⟨Hb, Hf, Hw⟩
  iapply (slab_wp xa wa K c 15 l) $$ [HO Hb Hw Ha15]
  · isplitr; · iexact HC
    isplitl [HO]; · iexact HO
    isplitl [Hb]; · iexact Hb
    isplitl [Hw]; · iexact Hw
    iexact Ha15
  iintro ⟨HO, Hf', Hw, Hx15, Ha15⟩
  iapply Hk
  isplitl [HO]; · iexact HO
  iapply (gOut_join xa wa c)
  isplitl [Hw Hf Hf' Hx0 Hx15 Ha15 Hc0]
  · isplitl [Hw]; · iexact Hw
    isplitl [Hf]; · iexact Hf
    isplitl [Hf']; · iexact Hf'
    isplitl [Hx0]; · iexact Hx0
    isplitl [Hx15]; · iexact Hx15
    isplitl [Ha15]; · iexact Ha15
    iexact Hc0
  isplitl [HA]; · iexact HA
  iexact HB

end Gemm

end Cert.KernelIdeal.RS

end
-- ==== Proof.Phases.lean ====
/- The phases of the body over all lanes: the reduce-scatter steps, the sweeps with their write-outs, the closing waits. -/
module

public import proofs.«01_k».proof.Proof.Gemm

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- A half chunk of the accumulator is its blocks. -/
theorem half_cut (c : Dev nD) (X : Dev nD) (d : Fin 2) (q : PosShare TreeShare) (f : AccT F) :
    (accP c (half X d) q f : sProp 𝕄) = sepL (fun k => accP c (blk X d k) q f) (List.finRange 8) := by
  refine accP_cut c q f _ (fun k => blk X d k) (List.finRange 8) (List.nodup_finRange 8) (fun z => ?_)
    (fun k _ m _ hkm => blk_disjoint (l := (d, k)) (m := (d, m)) fun hh => hkm (Prod.ext_iff.mp hh.2).2)
  rw [mem_half]
  constructor
  · intro ⟨h1, h2⟩
    refine ⟨⟨(z 0).val / 128 % 8, by omega⟩, List.mem_finRange _, ?_⟩
    rw [mem_blk]; dsimp only; omega
  · rintro ⟨k, _, hz⟩
    rw [mem_blk] at hz
    have := k.isLt
    omega

section Phases
variable (xa : Dev nD → XT F) (wa : Dev nD → WT F) (K : Dev nD × Option Ko → ℕ)

/-! ### The reduce-scatter -/

/-- The payments of step `t` of a lane. -/
abbrev paysR (t : Fin 2) (l : Lane) : List PK := [.cred t l, .hop ⟨t.val + 1, by omega⟩ l]
/-- The waits of step `t` are below what is then owed. -/
def okR (t : Fin 2) (tail : List PK) (l : Lane) (rest : List Lane) : Prop :=
  above (lvK (kLane 2 l) t.val) (paysR t l ++ (rest.flatMap (paysR t) ++ tail))
    ∧ above (lvK (kLane 0 l) t.val) (.hop ⟨t.val + 1, by omega⟩ l :: (rest.flatMap (paysR t) ++ tail))
instance (t : Fin 2) (tail : List PK) (l : Lane) (rest : List Lane) : Decidable (okR t tail l rest) := by unfold okR; infer_instance

theorem runR_wp (c : Dev nD) (t : Fin 2) (tail : List PK) (hok : okAll (okR t tail) lanes) {p : PG F} {Q : PUnit → sProp 𝕄} :
    iprop(Ctx xa wa K ∗ Owe c (lanes.flatMap (paysR t) ++ tail) ∗ sepL (fun l => iprop(carry c t.val l ∗ need xa wa c t.val l)) lanes)
      ⊢ iprop(((Owe c tail ∗ sepL (carry c (t.val + 1)) lanes) -∗ WP c p Q) -∗ WP c (run (fun l => rstep c t l.1 l.2) lanes p) Q) := by
  have hrun := run_wp c (Ctx xa wa K) (fun l : Lane => rstep c t l.1 l.2) (fun rest => Owe c (rest.flatMap (paysR t) ++ tail))
    (fun l => iprop(carry c t.val l ∗ need xa wa c t.val l)) (carry c (t.val + 1)) (okR t tail) (fun l rest p Q h => by
      rw [List.flatMap_cons, List.append_assoc]
      exact rstep_wp xa wa K c t l (by omega) (rest.flatMap (paysR t) ++ tail) h.1 h.2) lanes hok (p := p) (Q := Q)
  iintro H Hk
  iapply hrun $$ H
  iexact Hk

/-! ### The sweeps -/

/-- What the write-out of a half chunk takes beside its contents. -/
def flushIn (c : Dev nD) (d : Fin 2) (h : Fin 4) : sProp 𝕄 :=
  iprop((∃ f : AccT F, outP c (half (back d (h.val + 3) c) d) f) ∗ Tok c (oFlush d h) 0)

theorem right_half (c : Dev nD) (d : Fin 2) (h : ℕ) :
    sepL (rightP xa wa c h) (lanesOf d) ⊢ accP c (half (back d (h + 3) c) d) fullShare.right (outAll xa wa) := by
  rw [half_cut]
  unfold lanesOf
  exact Entails.of_eq (sepL_map _ _ _)

/-- The write-out of a half chunk starts, its blocks all there. -/
theorem flush_wp (c : Dev nD) (d : Fin 2) (h : Fin 4) {p : PG F} {Q : PUnit → sProp 𝕄} :
    iprop(Ctx xa wa K ∗ sepL (rightP xa wa c h.val) (lanesOf d) ∗ flushIn c d h)
      ⊢ iprop((Cr c (oFlush d h) 0 -∗ WP c p Q) -∗ WP c (fstart c d h p) Q) := by
  unfold flushIn
  iintro ⟨#HC, Hr, Ho, Ht⟩ Hk
  iapply (fstart_wp xa wa K c d h) $$ [Hr Ho Ht]
  · isplitr; · iexact HC
    isplitl [Hr]; · iapply (right_half xa wa c d h.val); iexact Hr
    isplitl [Ho]; · iexact Ho
    iexact Ht
  iexact Hk

/-- The lanes of direction 1 without their last. -/
def lanes7 : List Lane := (List.finRange 7).map fun k : Fin 7 => ((1 : Fin 2), k.castSucc)

/-- The waits of a sweep are below what is then owed. -/
def okS (pays : Lane → List PK) (bound : Lane → ℕ) (tail : List PK) : Prop :=
  okAll (fun l rest => above (bound l) (pays l ++ (rest.flatMap pays ++ (pays (0, 7) ++ (pays (1, 7) ++ tail))))) lanes14
    ∧ above (bound (0, 7)) (pays (0, 7) ++ (pays (1, 7) ++ tail)) ∧ above (bound (1, 7)) (pays (1, 7) ++ tail)
instance (pays : Lane → List PK) (bound : Lane → ℕ) (tail : List PK) : Decidable (okS pays bound tail) := by unfold okS; infer_instance

/-- A sweep over the lanes: each step yields its block's share for the write-out and what the lane then holds. -/
theorem sweep_wp (c : Dev nD) (h : Fin 4) (step : Lane → PG F → PG F) (pays : Lane → List PK) (bound : Lane → ℕ) (tail : List PK)
    (A C : Lane → sProp 𝕄)
    (hstep : ∀ lane l (p : PG F) (Q : PUnit → sProp 𝕄), above (bound lane) (pays lane ++ l) →
      (iprop(Ctx xa wa K ∗ Owe c (pays lane ++ l) ∗ A lane)
        ⊢ iprop(((Owe c l ∗ (rightP xa wa c h.val lane ∗ C lane)) -∗ WP c p Q) -∗ WP c (step lane p) Q)))
    (hok : okS pays bound tail) {p : PG F} {Q : PUnit → sProp 𝕄} :
    iprop(Ctx xa wa K ∗ Owe c (lanes.flatMap pays ++ tail) ∗ sepL A lanes ∗ flushIn c 0 h ∗ flushIn c 1 h)
      ⊢ iprop(((Owe c tail ∗ sepL C lanes ∗ Cr c (oFlush 0 h) 0 ∗ Cr c (oFlush 1 h) 0) -∗ WP c p Q) -∗ WP c (sweep c h step p) Q) := by
  have hl : lanes.flatMap pays ++ tail = lanes14.flatMap pays ++ (pays (0, 7) ++ (pays (1, 7) ++ tail)) := by
    rw [show lanes = lanes14 ++ [(0, 7), (1, 7)] from rfl, List.flatMap_append, List.append_assoc]
    simp only [List.flatMap_cons, List.flatMap_nil, List.append_nil, List.append_assoc]
  have hsplit : ∀ Φ : Lane → sProp 𝕄, sepL Φ lanes ⊢ iprop(sepL Φ lanes14 ∗ Φ (0, 7) ∗ Φ (1, 7)) := fun Φ =>
    (sepL_append' Φ lanes14 [(0, 7), (1, 7)]).trans (BIClass.sep_mono (Entails.refl _) (sepL_two Φ _ _))
  have hrun := run_wp c (Ctx xa wa K) step (fun rest => Owe c (rest.flatMap pays ++ (pays (0, 7) ++ (pays (1, 7) ++ tail))))
    A (fun lane => iprop(rightP xa wa c h.val lane ∗ C lane)) _ (fun lane rest p Q hh => by
      rw [List.flatMap_cons, List.append_assoc]
      exact hstep lane (rest.flatMap pays ++ (pays (0, 7) ++ (pays (1, 7) ++ tail))) p Q hh) lanes14 hok.1
      (p := step (0, 7) <| fstart c 0 h <| step (1, 7) <| fstart c 1 h p) (Q := Q)
  unfold sweep
  rw [hl]
  iintro ⟨#HC, HO, HA, Hf0, Hf1⟩ Hk
  ihave HA := (hsplit A) $$ HA
  icases HA with ⟨HA, HA0, HA1⟩
  iapply hrun $$ [HO HA]
  · isplitr; · iexact HC
    isplitl [HO]; · iexact HO
    iexact HA
  iintro ⟨HO, HB⟩
  ihave HB := (sepL_unsep _ _ _) $$ HB
  icases HB with ⟨HR, HCs⟩
  iapply (hstep (0, 7) (pays (1, 7) ++ tail) _ Q hok.2.1) $$ [HO HA0]
  · isplitr; · iexact HC
    isplitl [HO]; · iexact HO
    iexact HA0
  iintro ⟨HO, HR0, HC0⟩
  ihave HR := (sepL_append (rightP xa wa c h.val) lanes14 [(0, 7)]) $$ [HR HR0]
  · isplitl [HR]; · iexact HR
    iapply (sepL_single (rightP xa wa c h.val) ((0 : Fin 2), (7 : Fin 8))); iexact HR0
  ihave HR := ((sepL_perm (rightP xa wa c h.val) lanes14_perm).trans (sepL_append' (rightP xa wa c h.val) (lanesOf 0) lanes7)) $$ HR
  icases HR with ⟨HR0, HR⟩
  iapply (flush_wp xa wa K c 0 h) $$ [HR0 Hf0]
  · isplitr; · iexact HC
    isplitl [HR0]; · iexact HR0
    iexact Hf0
  iintro Hc0
  iapply (hstep (1, 7) tail _ Q hok.2.2) $$ [HO HA1]
  · isplitr; · iexact HC
    isplitl [HO]; · iexact HO
    iexact HA1
  iintro ⟨HO, HR1, HC1⟩
  ihave HR := (sepL_append (rightP xa wa c h.val) lanes7 [(1, 7)]) $$ [HR HR1]
  · isplitl [HR]; · iexact HR
    iapply (sepL_single (rightP xa wa c h.val) ((1 : Fin 2), (7 : Fin 8))); iexact HR1
  iapply (flush_wp xa wa K c 1 h) $$ [HR Hf1]
  · isplitr; · iexact HC
    isplitl [HR]
    · iapply (Entails.of_eq (congrArg (sepL (rightP xa wa c h.val)) (show lanes7 ++ [(1, 7)] = lanesOf 1 from lanes14_last))); iexact HR
    iexact Hf1
  iintro Hc1
  iapply Hk
  isplitl [HO]; · iexact HO
  isplitl [HCs HC0 HC1]
  · iapply (sepL_append C lanes14 [(0, 7), (1, 7)])
    isplitl [HCs]; · iexact HCs
    iapply (sepL_pair C ((0 : Fin 2), (7 : Fin 8)) ((1 : Fin 2), (7 : Fin 8)))
    isplitl [HC0]; · iexact HC0
    iexact HC1
  isplitl [Hc0]; · iexact Hc0
  iexact Hc1

/-! ### The closing waits -/

/-- A transfer of the all-gather still departing, and one back. -/
def goneIn (c : Dev nD) (h : Fin 3) (l : Lane) : sProp 𝕄 := iprop(Cr c (oLane ⟨3 + h.val, by omega⟩ l) 0 ∗ At c (kLane ⟨3 + h.val, by omega⟩ l) 0)
@[inherit_doc goneIn] def goneOut (c : Dev nD) (h : Fin 3) (l : Lane) : sProp 𝕄 :=
  iprop(At c (kLane ⟨3 + h.val, by omega⟩ l) 1 ∗ gonePay xa wa c l h.val)
/-- The write-outs of a sweep still under way, and done. -/
def flIn (c : Dev nD) (h : Fin 4) : sProp 𝕄 :=
  iprop((Cr c (oFlush 0 h) 0 ∗ At c (kFlush 0 h) 0) ∗ Cr c (oFlush 1 h) 0 ∗ At c (kFlush 1 h) 0)
@[inherit_doc flIn] def flOut (c : Dev nD) (h : Fin 4) : sProp 𝕄 :=
  iprop((At c (kFlush 0 h) 1 ∗ flushPay xa wa c 0 h.val) ∗ At c (kFlush 1 h) 1 ∗ flushPay xa wa c 1 h.val)

theorem goneAll_wp (c : Dev nD) (h : Fin 3) {p : PG F} {Q : PUnit → sProp 𝕄} :
    iprop(Ctx xa wa K ∗ Owe c [] ∗ sepL (goneIn c h) lanes)
      ⊢ iprop(((Owe c [] ∗ sepL (goneOut xa wa c h) lanes) -∗ WP c p Q) -∗ WP c (run (fun l => adone c h l.1 l.2) lanes p) Q) :=
  run_wp c (Ctx xa wa K) (fun l : Lane => adone c h l.1 l.2) (fun _ => Owe c []) (goneIn c h) (goneOut xa wa c h) (fun _ _ => True)
    (fun l rest p Q _ => by
      unfold goneIn goneOut
      iintro ⟨#HC, HO, Hcr, Ha⟩ Hk
      iapply (adone_wp xa wa K c h (by omega) l []) $$ [HO Hcr Ha]
      · isplitr; · iexact HC
        isplitl [Hcr]; · iexact Hcr
        isplitl [HO]; · iexact HO
        iexact Ha
      iexact Hk) lanes (okAll_true _)

theorem drain_wp (c : Dev nD) {p : PG F} {Q : PUnit → sProp 𝕄} :
    iprop(Ctx xa wa K ∗ Owe c [] ∗ sepL (fun l => iprop(Cr c (oLane 1 l) 2 ∗ At c (kLane 1 l) 2)) lanes
        ∗ sepL (fun h => sepL (goneIn c h) lanes) [0, 1, 2] ∗ sepL (flIn c) [0, 1, 2, 3])
      ⊢ iprop(((Owe c [] ∗ sepL (fun l => At c (kLane 1 l) 3) lanes
          ∗ sepL (fun h => sepL (goneOut xa wa c h) lanes) [0, 1, 2] ∗ sepL (flOut xa wa c) [0, 1, 2, 3]) -∗ WP c p Q) -∗ WP c (drain c p) Q) := by
  unfold drain
  iintro ⟨#HC, HO, Hs, Hg, Hf⟩ Hk
  iapply (run_wp c (Ctx xa wa K) (fun l : Lane => rdone c 2 l.1 l.2) (fun _ => Owe c []) (fun l => iprop(Cr c (oLane 1 l) 2 ∗ At c (kLane 1 l) 2))
    (fun l => At c (kLane 1 l) 3) (fun _ _ => True)
    (fun l rest p Q _ => by
      iintro ⟨#HC, HO, Hcr, Ha⟩ Hk
      iapply (rdone_wp xa wa K c 2 l []) $$ [HO Hcr Ha]
      · isplitr; · iexact HC
        isplitl [Hcr]; · iexact Hcr
        isplitl [HO]; · iexact HO
        iexact Ha
      iintro ⟨HO, Ha, -, -⟩
      iapply Hk
      isplitl [HO]; · iexact HO
      iexact Ha) lanes (okAll_true _)) $$ [HO Hs]
  · isplitr; · iexact HC
    isplitl [HO]; · iexact HO
    iexact Hs
  iintro ⟨HO, Hs⟩
  iapply (run_wp c (Ctx xa wa K) (fun (h : Fin 3) K => run (fun l : Lane => adone c h l.1 l.2) lanes K) (fun _ => Owe c [])
    (fun h => sepL (goneIn c h) lanes) (fun h => sepL (goneOut xa wa c h) lanes) (fun _ _ => True)
    (fun h rest p Q _ => goneAll_wp xa wa K c h) [0, 1, 2] (okAll_true _)) $$ [HO Hg]
  · isplitr; · iexact HC
    isplitl [HO]; · iexact HO
    iexact Hg
  iintro ⟨HO, Hg⟩
  iapply (run_wp c (Ctx xa wa K) (fun (h : Fin 4) K => fwait c 0 h <| fwait c 1 h K) (fun _ => Owe c [])
    (flIn c) (flOut xa wa c) (fun _ _ => True)
    (fun h rest p Q _ => by
      unfold flIn flOut
      iintro ⟨#HC, HO, ⟨Hc0, Ha0⟩, Hc1, Ha1⟩ Hk
      iapply (fwait_wp xa wa K c 0 h []) $$ [HO Hc0 Ha0]
      · isplitr; · iexact HC
        isplitl [Hc0]; · iexact Hc0
        isplitl [HO]; · iexact HO
        iexact Ha0
      iintro ⟨HO, H0⟩
      iapply (fwait_wp xa wa K c 1 h []) $$ [HO Hc1 Ha1]
      · isplitr; · iexact HC
        isplitl [Hc1]; · iexact Hc1
        isplitl [HO]; · iexact HO
        iexact Ha1
      iintro ⟨HO, H1⟩
      iapply Hk
      isplitl [HO]; · iexact HO
      isplitl [H0]; · iexact H0
      iexact H1) [0, 1, 2, 3] (okAll_true _)) $$ [HO Hf]
  · isplitr; · iexact HC
    isplitl [HO]; · iexact HO
    iexact Hf
  iintro ⟨HO, Hf⟩
  iapply Hk
  isplitl [HO]; · iexact HO
  isplitl [Hs]; · iexact Hs
  isplitl [Hg]; · iexact Hg
  iexact Hf

end Phases

/-! ### What is owed, phase by phase -/

/-- What is owed from each phase on. -/
def tl5 : List PK := lanes.map (PK.hop 5)
@[inherit_doc tl5] def tl4 : List PK := lanes.map (PK.hop 4) ++ tl5
@[inherit_doc tl5] def tl3 : List PK := lanes.map (PK.hop 3) ++ tl4
@[inherit_doc tl5] def tl2 : List PK := lanes.flatMap (paysR 1) ++ tl3
@[inherit_doc tl5] def tl1 : List PK := lanes.flatMap (paysR 0) ++ tl2
theorem todo_eq : todo = .bar 0 :: .bar 1 :: (lanes.map (PK.hop 0) ++ tl1) := by decide +kernel

theorem ok_bar : above 1 (lanes.map (PK.hop 0) ++ tl1) := by decide +kernel
theorem ok_r0 : okAll (okR 0 tl2) lanes := by decide +kernel
theorem ok_r1 : okAll (okR 1 tl3) lanes := by decide +kernel
theorem ok_s0 : okS (fun l => [.hop 3 l]) (fun l => lvK (kLane 2 l) 2) tl4 := by decide +kernel
theorem ok_s1 : okS (fun l => [.hop 4 l]) (fun l => lvK (kLane 6 l) 0) tl5 := by decide +kernel
theorem ok_s2 : okS (fun l => [.hop 5 l]) (fun l => lvK (kLane 7 l) 0) [] := by decide +kernel
theorem ok_s3 : okS (fun _ => []) (fun l => lvK (kLane 8 l) 0) [] := by decide +kernel

theorem pays_s0 : lanes.flatMap (fun l => [PK.hop 3 l]) ++ tl4 = tl3 := by decide +kernel
theorem pays_s1 : lanes.flatMap (fun l => [PK.hop 4 l]) ++ tl5 = tl4 := by decide +kernel
theorem pays_s2 : lanes.flatMap (fun l => [PK.hop 5 l]) ++ [] = tl5 := by decide +kernel
theorem pays_s3 : lanes.flatMap (fun _ => ([] : List PK)) ++ [] = [] := by decide +kernel

end Cert.KernelIdeal.RS

end
-- ==== Proof.Body.lean ====
/- A device's whole body: from what the launch hands it to what it hands back. -/
module

public import proofs.«01_k».proof.Proof.Phases

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ### Regrouping -/

/-- The two directions' sub-blocks are the lanes. -/
theorem lanes_two (Φ : Lane → sProp 𝕄) :
    iprop((bigSep Finset.univ fun k : Fin 8 => Φ (0, k)) ∗ (bigSep Finset.univ fun k : Fin 8 => Φ (1, k))) ⊢ sepL Φ lanes := by
  have h : ∀ d : Fin 2, (bigSep Finset.univ fun k : Fin 8 => Φ (d, k)) = sepL Φ (lanesOf d) := fun d => by
    unfold lanesOf; rw [sepL_map]
    exact (sepL_eq _ _ _ (List.nodup_finRange 8) fun i => by simp).symm
  rw [h, h]
  exact (sepL_append Φ _ _).trans (sepL_perm Φ lanes_perm.symm)
/-- The lanes, direction by direction. -/
theorem lanes_split (Φ : Lane → sProp 𝕄) :
    sepL Φ lanes ⊢ iprop(sepL (fun k => Φ (0, k)) (List.finRange 8) ∗ sepL (fun k => Φ (1, k)) (List.finRange 8)) := by
  refine (sepL_perm Φ lanes_perm).trans ((sepL_append' Φ _ _).trans ?_)
  unfold lanesOf
  rw [sepL_map, sepL_map]

theorem back_other : ∀ (d : Fin 2) (c X : Dev nD), X ≠ c → X = back d 1 c ∨ X = back d 2 c ∨ X = back d 3 c := by decide
theorem back_ne : ∀ (d : Fin 2) (c : Dev nD) (n : Fin 4), n.val ≠ 0 → back d n.val c ≠ c := by decide
theorem back_inj : ∀ (d : Fin 2) (c : Dev nD) (n m : Fin 4), back d n.val c = back d m.val c → n = m := by decide

/-- The blocks of the other devices' chunks, by distance. -/
def blocks3 : List (Fin 4 × Lane) := lanes.map (Prod.mk 1) ++ (lanes.map (Prod.mk 2) ++ lanes.map (Prod.mk 3))
theorem blocks3_nodup : blocks3.Nodup := by decide +kernel
theorem blocks3_mem : ∀ (n : Fin 4) (l : Lane), n.val ≠ 0 → (n, l) ∈ blocks3 := by decide +kernel
theorem blocks3_ne : ∀ x ∈ blocks3, x.1.val ≠ 0 := by decide +kernel
theorem slabs12_nodup : slabs12.Nodup := by decide
theorem slabs12_mem : ∀ i : Fin 16, i ∈ slabs12 ↔ 4 ≤ i.val := by decide

/-- The other devices' chunks of the accumulator. -/
def rest (c : Dev nD) : Finset S4096x2048.Idx := Finset.univ.filter fun z => (z 0).val / 1024 ≠ c.val
theorem mem_rest {c : Dev nD} {z : S4096x2048.Idx} : z ∈ rest c ↔ (z 0).val / 1024 ≠ c.val := by simp [rest]

theorem rest_slabs (c : Dev nD) (f : AccT F) : (accP c (rest c) fullShare f : sProp 𝕄) = sepL (fun i => accP c (aslab (rs c i)) fullShare f) slabs12 := by
  refine accP_cut c _ f _ (fun i => aslab (rs c i)) slabs12 slabs12_nodup (fun z => ?_) (fun i _ j _ h => aslab_disjoint fun e => h (rs_inj c i j e))
  have hz := lt0 z
  rw [mem_rest]
  constructor
  · intro h
    obtain ⟨i, hi⟩ := rs_surj c ⟨(z 0).val / 256, by omega⟩
    refine ⟨i, (slabs12_mem i).mpr ?_, mem_aslab.mpr hi.symm⟩
    by_contra hlt
    have := rs_own c i (by omega)
    have hi' : rs c i = (z 0).val / 256 := hi
    omega
  · rintro ⟨i, hi, hz'⟩
    rw [mem_aslab] at hz'
    have := rs_other c i ((slabs12_mem i).mp hi)
    omega
theorem rest_blocks (c : Dev nD) (f : AccT F) :
    (accP c (rest c) fullShare f : sProp 𝕄) = sepL (fun x : Fin 4 × Lane => accP c (blk (back x.2.1 x.1.val c) x.2.1 x.2.2) fullShare f) blocks3 := by
  refine accP_cut c _ f _ (fun x : Fin 4 × Lane => blk (back x.2.1 x.1.val c) x.2.1 x.2.2) blocks3 blocks3_nodup (fun z => ?_) (fun x _ y _ h => ?_)
  · have h0 := lt0 z
    have h1 := lt1 z
    rw [mem_rest]
    constructor
    · intro h
      have hX : (⟨(z 0).val / 1024, by show _ < 4; omega⟩ : Dev nD) ≠ c := fun e => h (congrArg Fin.val e)
      have key : ∀ n : Fin 4, n.val ≠ 0 → (⟨(z 0).val / 1024, by show _ < 4; omega⟩ : Dev nD) = back ⟨(z 1).val / 1024, by omega⟩ n.val c →
          ∃ x ∈ blocks3, z ∈ blk (back x.2.1 x.1.val c) x.2.1 x.2.2 := fun n hn e => by
        refine ⟨(n, (⟨(z 1).val / 1024, by omega⟩, ⟨(z 0).val / 128 % 8, by omega⟩)), blocks3_mem _ _ hn, ?_⟩
        rw [mem_blk]
        have e' := congrArg Fin.val e
        dsimp only at e' ⊢
        omega
      rcases back_other ⟨(z 1).val / 1024, by omega⟩ c _ hX with e | e | e
      · exact key 1 (by decide) e
      · exact key 2 (by decide) e
      · exact key 3 (by decide) e
    · rintro ⟨x, hx, hz⟩ h
      rw [mem_blk] at hz
      have hk := x.2.2.isLt
      exact back_ne x.2.1 c x.1 (blocks3_ne x hx) (Fin.ext (by omega))
  · refine blk_disjoint fun hh => h ?_
    obtain ⟨n, l⟩ := x
    obtain ⟨m, l'⟩ := y
    obtain ⟨h1, h2⟩ := hh
    dsimp only at h1 h2
    subst h2
    exact Prod.ext (back_inj _ c n m h1) rfl

/-- The other devices' chunks, made slab by slab, as the reduce-scatter takes them. -/
theorem acc_regroup (c : Dev nD) (f : AccT F) :
    sepL (fun i => accP c (aslab (rs c i)) fullShare f) slabs12
      ⊢ iprop(sepL (fun l : Lane => (accP c (blk (back l.1 1 c) l.1 l.2) fullShare f : sProp 𝕄)) lanes
        ∗ sepL (fun l : Lane => (accP c (blk (back l.1 2 c) l.1 l.2) fullShare f : sProp 𝕄)) lanes
        ∗ sepL (fun l : Lane => (accP c (blk (back l.1 3 c) l.1 l.2) fullShare f : sProp 𝕄)) lanes) := by
  rw [← rest_slabs, rest_blocks]
  unfold blocks3
  refine (sepL_append' _ _ _).trans (BIClass.sep_mono (Entails.of_eq (sepL_map _ _ _)) ?_)
  exact (sepL_append' _ _ _).trans (BIClass.sep_mono (Entails.of_eq (sepL_map _ _ _)) (Entails.of_eq (sepL_map _ _ _)))

section Body
variable (xa : Dev nD → XT F) (wa : Dev nD → WT F) (K : Dev nD × Option Ko → ℕ)

/-! ### What a device starts with -/

/-- What the opening barrier takes. -/
def barIn (c : Dev nD) : sProp 𝕄 :=
  iprop(dutyTok ER (kcell (prv 0 c) kBar) 0 (0 : Fin 2) ∗ dutyTok ER (kcell (prv 1 c) kBar) 0 (1 : Fin 2) ∗ cred (tallyAt (kcell c kBar) 0 2) ∗ At c kBar 0
    ∗ (bigSep Finset.univ fun k : Fin 8 => commAny (F := F) (0, k) c) ∗ (bigSep Finset.univ fun k : Fin 8 => commAny (F := F) (1, k) c))
/-- What the products take. -/
def memIn (c : Dev nD) : sProp 𝕄 :=
  iprop(wP c (wa c) ∗ free c 0 ∗ free c 1 ∗ sepL (xIn xa c) slabs ∗ sepL (accAny c) slabs)
/-- A lane's rights for its first transfer. -/
def toks0 (c : Dev nD) (l : Lane) : sProp 𝕄 := iprop(Tok c (oLane 1 l) 0 ∗ Tok (nxt l.1 c) (oLane 2 l) 0)
/-- Its places in the reduce-scatter's cells. -/
def ats0 (c : Dev nD) (l : Lane) : sProp 𝕄 := iprop(At c (kLane 1 l) 0 ∗ At c (kLane 2 l) 0 ∗ At c (kLane 0 l) 0)
/-- What step `t` takes beside the block. -/
def needG (c : Dev nD) (t : ℕ) (l : Lane) : sProp 𝕄 :=
  iprop(Cr c (oLane 2 l) t ∗ Cr c (oLane 0 l) t ∗ Tok (prv l.1 c) (oLane 0 l) t ∗ Tok c (oLane 1 l) (t + 1) ∗ Tok (nxt l.1 c) (oLane 2 l) (t + 1))
/-- What the last step takes beside the block. -/
def needG2 (c : Dev nD) (l : Lane) : sProp 𝕄 := iprop(Cr c (oLane 2 l) 2 ∗ Tok c (oLane 3 l) 0 ∗ Tok (nxt l.1 c) (oLane 6 l) 0)

/-- All a device starts with. -/
def bodyIn (c : Dev nD) : sProp 𝕄 :=
  iprop(Owe c todo ∗ barIn c ∗ memIn xa wa c ∗ sepL (toks0 c) lanes ∗ sepL (ats0 c) lanes ∗ sepL (needG c 0) lanes ∗ sepL (needG c 1) lanes
    ∗ sepL (needG2 c) lanes ∗ sepL (fun l => iprop(needA c 0 l ∗ toksA c 1 l)) lanes ∗ sepL (fun l => iprop(needA c 1 l ∗ toksA c 2 l)) lanes
    ∗ sepL (needA c 2) lanes ∗ sepL (fun h => sepL (fun l => At c (kLane h l) 0) lanes) [3, 4, 5]
    ∗ sepL (fun h => iprop(flushIn c 0 h ∗ flushIn c 1 h)) [0, 1, 2, 3]
    ∗ sepL (fun h => iprop(At c (kFlush 0 h) 0 ∗ At c (kFlush 1 h) 0)) [0, 1, 2, 3])

/-! ### What it ends with -/

/-- What the products leave in memory. -/
def memOut (c : Dev nD) : sProp 𝕄 :=
  iprop(wP c (wa c) ∗ free c 16 ∗ free c 17 ∗ sepL (fun i => xP c (xslab (rs c i)) (xa c)) slabs)
/-- All a device ends with. -/
def bodyOut (c : Dev nD) : sProp 𝕄 :=
  iprop(Owe c [] ∗ At c kBar 1 ∗ memOut xa wa c
    ∗ sepL (fun l => iprop(At c (kLane 2 l) 3 ∗ At c (kLane 0 l) 2 ∗ commAny (F := F) l c)) lanes ∗ sepL (fun l => At c (kLane 1 l) 3) lanes
    ∗ sepL (fun l => At c (kLane 6 l) 1) lanes ∗ sepL (fun l => At c (kLane 7 l) 1) lanes
    ∗ sepL (fun l => iprop(At c (kLane 8 l) 1 ∗ gonePay xa wa c l 3)) lanes
    ∗ sepL (fun h => sepL (goneOut xa wa c h) lanes) [0, 1, 2] ∗ sepL (flOut xa wa c) [0, 1, 2, 3])

/-- The barrier: each device hands its landing buffer upstream and takes its neighbours'. -/
theorem bar_wp (c : Dev nD) (l : List PK) (hl : above 1 l) {p : PG F} {Q : PUnit → sProp 𝕄} :
    iprop(Ctx xa wa K ∗ Owe c (.bar 0 :: .bar 1 :: l) ∗ barIn c)
      ⊢ iprop(((Owe c l ∗ At c kBar 1 ∗ sepL (fun lane => commAny lane (nxt lane.1 c)) lanes) -∗ WP c p Q)
        -∗ WP c (sigP (prv 0 c) barS <| sigP (prv 1 c) barS <| swaitP barS 2 p) Q) := by
  unfold barIn
  iintro ⟨#HC, HO, Ht0, Ht1, Hcr, Ha, Hm0, Hm1⟩ Hk
  iapply (barsig_wp xa wa K c 0 (.bar 1 :: l)) $$ [HO Ht0 Hm0]
  · isplitr; · iexact HC
    isplitl [HO]; · iexact HO
    isplitl [Ht0]; · iexact Ht0
    iexact Hm0
  iintro HO
  iapply (barsig_wp xa wa K c 1 l) $$ [HO Ht1 Hm1]
  · isplitr; · iexact HC
    isplitl [HO]; · iexact HO
    isplitl [Ht1]; · iexact Ht1
    iexact Hm1
  iintro HO
  iapply (barwait_wp xa wa K c l hl) $$ [HO Hcr Ha]
  · isplitr; · iexact HC
    isplitl [Hcr]; · iexact Hcr
    isplitl [HO]; · iexact HO
    iexact Ha
  iintro ⟨HO, Ha, Hp0, Hp1⟩
  iapply Hk
  isplitl [HO]; · iexact HO
  isplitl [Ha]; · iexact Ha
  iapply (lanes_two (fun lane : Lane => commAny lane (nxt lane.1 c)))
  unfold barPay
  isplitl [Hp0]; · iexact Hp0
  iexact Hp1

/-- The barrier and the products. -/
theorem start_all_wp (c : Dev nD) {p : PG F} {Q : PUnit → sProp 𝕄} :
    iprop(Ctx xa wa K ∗ Owe c todo ∗ barIn c ∗ memIn xa wa c ∗ sepL (toks0 c) lanes ∗ sepL (ats0 c) lanes)
      ⊢ iprop(((Owe c tl1 ∗ At c kBar 1 ∗ memOut xa wa c ∗ sepL (carry c 0) lanes
          ∗ sepL (fun l : Lane => (accP c (blk (back l.1 1 c) l.1 l.2) fullShare (prods xa wa c) : sProp 𝕄)) lanes
          ∗ sepL (fun l : Lane => (accP c (blk (back l.1 2 c) l.1 l.2) fullShare (prods xa wa c) : sProp 𝕄)) lanes
          ∗ sepL (fun l : Lane => (accP c (blk (back l.1 3 c) l.1 l.2) fullShare (prods xa wa c) : sProp 𝕄)) lanes) -∗ WP c p Q)
        -∗ WP c (sigP (prv 0 c) barS <| sigP (prv 1 c) barS <| swaitP barS 2 <| gemmAll c (Memref.whole cc0_stg0_0) p) Q) := by
  rw [todo_eq]
  unfold memIn
  iintro ⟨#HC, HO, HB, ⟨Hw, Hf0, Hf1, Hx, Ha⟩, Ht, Hats⟩ Hk
  iapply (bar_wp xa wa K c (lanes.map (PK.hop 0) ++ tl1) ok_bar) $$ [HO HB]
  · isplitr; · iexact HC
    isplitl [HO]; · iexact HO
    iexact HB
  iintro ⟨HO, Hbar, Hm⟩
  iapply (gemmAll_wp xa wa K c tl1) $$ [HO Hw Hf0 Hf1 Hx Ha Ht Hm]
  · isplitr; · iexact HC
    isplitl [HO]; · iexact HO
    unfold gIn
    isplitl [Hw]; · iexact Hw
    isplitl [Hf0]; · iexact Hf0
    isplitl [Hf1]; · iexact Hf1
    isplitl [Hx]; · iexact Hx
    isplitl [Ha]; · iexact Ha
    iapply (sepL_sep (fun lane : Lane => commAny lane (nxt lane.1 c)) (toks0 c) lanes)
    isplitl [Hm]; · iexact Hm
    iexact Ht
  unfold gOut
  iintro ⟨HO, Hw, Hf0, Hf1, Hx, Ha, Hc⟩
  ihave Ha := (acc_regroup c (prods xa wa c)) $$ Ha
  iapply Hk
  isplitl [HO]; · iexact HO
  isplitl [Hbar]; · iexact Hbar
  isplitl [Hw Hf0 Hf1 Hx]
  · unfold memOut
    isplitl [Hw]; · iexact Hw
    isplitl [Hf0]; · iexact Hf0
    isplitl [Hf1]; · iexact Hf1
    iexact Hx
  isplitl [Hc Hats]
  · iapply (sepL_sep (fun lane : Lane => Cr (F := F) c (oLane 1 lane) 0) (ats0 c) lanes)
    isplitl [Hc]; · iexact Hc
    iexact Hats
  iexact Ha

theorem need_of (c : Dev nD) (t : ℕ) :
    iprop(sepL (needG c t) lanes ∗ sepL (fun l : Lane => (accP c (blk (back l.1 (t + 1) c) l.1 l.2) fullShare (prods xa wa c) : sProp 𝕄)) lanes)
      ⊢ sepL (need xa wa c t) lanes := by
  refine (sepL_sep _ _ _).trans (sepL_mono (fun l => ?_) lanes)
  unfold needG need
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6
theorem need2_of (c : Dev nD) :
    iprop(sepL (needG2 c) lanes ∗ sepL (fun l : Lane => (accP c (blk (back l.1 3 c) l.1 l.2) fullShare (prods xa wa c) : sProp 𝕄)) lanes)
      ⊢ sepL (need2 xa wa c) lanes := by
  refine (sepL_sep _ _ _).trans (sepL_mono (fun l => ?_) lanes)
  unfold needG2 need2
  iintro ⟨⟨H1, H2, H3⟩, H6⟩
  isplitl [H1]; · iexact H1
  isplitl [H6]; · iexact H6
  isplitl [H2]; · iexact H2
  iexact H3

/-- The reduce-scatter up to its last step. -/
theorem rs_wp (c : Dev nD) {p : PG F} {Q : PUnit → sProp 𝕄} :
    iprop(Ctx xa wa K ∗ Owe c tl1 ∗ sepL (carry c 0) lanes ∗ sepL (need xa wa c 0) lanes ∗ sepL (need xa wa c 1) lanes)
      ⊢ iprop(((Owe c tl3 ∗ sepL (carry c 2) lanes) -∗ WP c p Q)
        -∗ WP c (run (fun l => rstep c 0 l.1 l.2) lanes <| run (fun l => rstep c 1 l.1 l.2) lanes p) Q) := by
  iintro ⟨#HC, HO, Hc, Hn0, Hn1⟩ Hk
  iapply (runR_wp xa wa K c 0 tl2 ok_r0) $$ [HO Hc Hn0]
  · isplitr; · iexact HC
    isplitl [HO]; · unfold tl1; iexact HO
    iapply (sepL_sep (carry c 0) (need xa wa c 0) lanes)
    isplitl [Hc]; · iexact Hc
    iexact Hn0
  iintro ⟨HO, Hc⟩
  iapply (runR_wp xa wa K c 1 tl3 ok_r1) $$ [HO Hc Hn1]
  · isplitr; · iexact HC
    isplitl [HO]; · unfold tl2; iexact HO
    iapply (sepL_sep (carry c 1) (need xa wa c 1) lanes)
    isplitl [Hc]; · iexact Hc
    iexact Hn1
  iexact Hk

/-- What a sweep leaves under way: its two write-outs. -/
def fl2 (c : Dev nD) (h : Fin 4) : sProp 𝕄 := iprop(Cr c (oFlush 0 h) 0 ∗ Cr c (oFlush 1 h) 0)

theorem sweep0_wp (c : Dev nD) {p : PG F} {Q : PUnit → sProp 𝕄} :
    iprop(Ctx xa wa K ∗ Owe c tl3 ∗ sepL (fun l => iprop(carry c 2 l ∗ need2 xa wa c l)) lanes ∗ flushIn c 0 0 ∗ flushIn c 1 0)
      ⊢ iprop(((Owe c tl4 ∗ sepL (left0 c) lanes ∗ fl2 c 0) -∗ WP c p Q) -∗ WP c (sweep c 0 (fun l => lstep c l.1 l.2) p) Q) := by
  have hs := sweep_wp xa wa K c 0 (fun l => lstep c l.1 l.2) (fun l => [.hop 3 l]) (fun l => lvK (kLane 2 l) 2) tl4
    (fun l => iprop(carry c 2 l ∗ need2 xa wa c l)) (left0 c) (fun lane l p Q h => lstep_wp xa wa K c lane l h) ok_s0 (p := p) (Q := Q)
  rw [pays_s0] at hs
  exact hs
theorem sweep1_wp (c : Dev nD) {p : PG F} {Q : PUnit → sProp 𝕄} :
    iprop(Ctx xa wa K ∗ Owe c tl4 ∗ sepL (fun l => iprop(needA c 0 l ∗ toksA c 1 l)) lanes ∗ flushIn c 0 1 ∗ flushIn c 1 1)
      ⊢ iprop(((Owe c tl5 ∗ sepL (fun l => iprop(At c (kLane 6 l) 1 ∗ Cr c (oLane 4 l) 0)) lanes ∗ fl2 c 1) -∗ WP c p Q)
        -∗ WP c (sweep c 1 (fun l => astep c 0 l.1 l.2) p) Q) := by
  have hs := sweep_wp xa wa K c 1 (fun l => astep c 0 l.1 l.2) (fun l => [.hop 4 l]) (fun l => lvK (kLane 6 l) 0) tl5
    (fun l => iprop(needA c 0 l ∗ toksA c 1 l)) (fun l => iprop(At c (kLane 6 l) 1 ∗ Cr c (oLane 4 l) 0))
    (fun lane l p Q h => astep_wp xa wa K c 0 (by decide) (by decide) (by decide) (by decide) (by decide) lane l h) ok_s1 (p := p) (Q := Q)
  rw [pays_s1] at hs
  exact hs
theorem sweep2_wp (c : Dev nD) {p : PG F} {Q : PUnit → sProp 𝕄} :
    iprop(Ctx xa wa K ∗ Owe c tl5 ∗ sepL (fun l => iprop(needA c 1 l ∗ toksA c 2 l)) lanes ∗ flushIn c 0 2 ∗ flushIn c 1 2)
      ⊢ iprop(((Owe c [] ∗ sepL (fun l => iprop(At c (kLane 7 l) 1 ∗ Cr c (oLane 5 l) 0)) lanes ∗ fl2 c 2) -∗ WP c p Q)
        -∗ WP c (sweep c 2 (fun l => astep c 1 l.1 l.2) p) Q) := by
  have hs := sweep_wp xa wa K c 2 (fun l => astep c 1 l.1 l.2) (fun l => [.hop 5 l]) (fun l => lvK (kLane 7 l) 0) []
    (fun l => iprop(needA c 1 l ∗ toksA c 2 l)) (fun l => iprop(At c (kLane 7 l) 1 ∗ Cr c (oLane 5 l) 0))
    (fun lane l p Q h => astep_wp xa wa K c 1 (by decide) (by decide) (by decide) (by decide) (by decide) lane l h) ok_s2 (p := p) (Q := Q)
  rw [pays_s2] at hs
  exact hs
theorem sweep3_wp (c : Dev nD) {p : PG F} {Q : PUnit → sProp 𝕄} :
    iprop(Ctx xa wa K ∗ Owe c [] ∗ sepL (needA c 2) lanes ∗ flushIn c 0 3 ∗ flushIn c 1 3)
      ⊢ iprop(((Owe c [] ∗ sepL (fun l => iprop(At c (kLane 8 l) 1 ∗ gonePay xa wa c l 3)) lanes ∗ fl2 c 3) -∗ WP c p Q)
        -∗ WP c (sweep c 3 (fun l => arecv c 2 l.1 l.2) p) Q) := by
  have hs := sweep_wp xa wa K c 3 (fun l => arecv c 2 l.1 l.2) (fun _ => []) (fun l => lvK (kLane 8 l) 0) []
    (needA c 2) (fun l => iprop(At c (kLane 8 l) 1 ∗ gonePay xa wa c l 3))
    (fun lane l p Q h => alast_wp xa wa K c lane l h) ok_s3 (p := p) (Q := Q)
  rw [pays_s3] at hs
  exact hs

theorem left0_split (c : Dev nD) :
    sepL (left0 (F := F) c) lanes ⊢ iprop(sepL (fun l => iprop(Cr c (oLane 1 l) 2 ∗ At c (kLane 1 l) 2)) lanes
      ∗ sepL (fun l => iprop(At c (kLane 2 l) 3 ∗ At c (kLane 0 l) 2 ∗ commAny (F := F) l c)) lanes ∗ sepL (fun l => Cr c (oLane 3 l) 0) lanes) := by
  refine .trans (sepL_mono (Ψ := fun l => iprop((Cr c (oLane 1 l) 2 ∗ At c (kLane 1 l) 2)
      ∗ ((At c (kLane 2 l) 3 ∗ At c (kLane 0 l) 2 ∗ commAny (F := F) l c) ∗ Cr c (oLane 3 l) 0))) (fun l => ?_) lanes) ?_
  · unfold left0
    iintro ⟨H1, H2, H3, H4, H5⟩
    isplitl [H1]; · iexact H1
    isplitr [H5]
    · isplitl [H2]; · iexact H2
      isplitl [H3]; · iexact H3
      iexact H4
    iexact H5
  · exact (sepL_unsep _ _ _).trans (BIClass.sep_mono (Entails.refl _) (sepL_unsep _ _ _))

/-- What the closing waits take, of what the sweeps left. -/
theorem drainIn (c : Dev nD) :
    iprop(sepL (fun l => Cr (F := F) c (oLane 3 l) 0) lanes ∗ sepL (fun l => Cr (F := F) c (oLane 4 l) 0) lanes ∗ sepL (fun l => Cr (F := F) c (oLane 5 l) 0) lanes
        ∗ sepL (fun h => sepL (fun l => At c (kLane h l) 0) lanes) [3, 4, 5])
      ⊢ sepL (fun h => sepL (goneIn (F := F) c h) lanes) [0, 1, 2] := by
  iintro ⟨H0, H1, H2, HA⟩
  ihave HA := (sepL_three _ _ _ _).1 $$ HA
  icases HA with ⟨A0, A1, A2⟩
  iapply (sepL_three (fun h => sepL (goneIn (F := F) c h) lanes) 0 1 2).2
  isplitl [H0 A0]
  · iapply (sepL_sep (fun l : Lane => Cr (F := F) c (oLane 3 l) 0) (fun l : Lane => At c (kLane 3 l) 0) lanes)
    isplitl [H0]; · iexact H0
    iexact A0
  isplitl [H1 A1]
  · iapply (sepL_sep (fun l : Lane => Cr (F := F) c (oLane 4 l) 0) (fun l : Lane => At c (kLane 4 l) 0) lanes)
    isplitl [H1]; · iexact H1
    iexact A1
  iapply (sepL_sep (fun l : Lane => Cr (F := F) c (oLane 5 l) 0) (fun l : Lane => At c (kLane 5 l) 0) lanes)
  isplitl [H2]; · iexact H2
  iexact A2
@[inherit_doc drainIn] theorem drainFl (c : Dev nD) :
    iprop(fl2 (F := F) c 0 ∗ fl2 c 1 ∗ fl2 c 2 ∗ fl2 c 3 ∗ sepL (fun h => iprop(At c (kFlush 0 h) 0 ∗ At c (kFlush 1 h) 0)) [0, 1, 2, 3])
      ⊢ sepL (flIn (F := F) c) [0, 1, 2, 3] := by
  have h1 : ∀ h : Fin 4, iprop(fl2 (F := F) c h ∗ (At c (kFlush 0 h) 0 ∗ At c (kFlush 1 h) 0)) ⊢ flIn c h := fun h => by
    unfold fl2 flIn
    iintro ⟨⟨H0, H1⟩, A0, A1⟩
    isplitl [H0 A0]
    · isplitl [H0]; · iexact H0
      iexact A0
    isplitl [H1]; · iexact H1
    iexact A1
  iintro ⟨H0, H1, H2, H3, HA⟩
  iapply (sepL_mono h1 [0, 1, 2, 3])
  iapply (sepL_sep (fl2 (F := F) c) (fun h => iprop(At c (kFlush 0 h) 0 ∗ At c (kFlush 1 h) 0)) [0, 1, 2, 3])
  isplitr [HA]
  · iapply (sepL_four (fl2 (F := F) c) 0 1 2 3).2
    isplitl [H0]; · iexact H0
    isplitl [H1]; · iexact H1
    isplitl [H2]; · iexact H2
    iexact H3
  iexact HA

/-- A device's whole body. -/
theorem body_wp (c : Dev nD) {Q : PUnit → sProp 𝕄} :
    iprop(Ctx xa wa K ∗ bodyIn xa wa c) ⊢ iprop((bodyOut xa wa c -∗ |={Set.univ}=> Q ⟨⟩) -∗ WP c (prog c (Memref.whole cc0_stg0_0)) Q) := by
  unfold bodyIn prog
  iintro ⟨#HC, HO, HB, HM, Ht0, Hats, Hg0, Hg1, Hg2, HA0, HA1, HA2, Hgs, Hfl, Hfa⟩ Hk
  iapply (start_all_wp xa wa K c) $$ [HO HB HM Ht0 Hats]
  · isplitr; · iexact HC
    isplitl [HO]; · iexact HO
    isplitl [HB]; · iexact HB
    isplitl [HM]; · iexact HM
    isplitl [Ht0]; · iexact Ht0
    iexact Hats
  iintro ⟨HO, Hbar, HM, Hc, Hb1, Hb2, Hb3⟩
  iapply (rs_wp xa wa K c) $$ [HO Hc Hg0 Hb1 Hg1 Hb2]
  · isplitr; · iexact HC
    isplitl [HO]; · iexact HO
    isplitl [Hc]; · iexact Hc
    isplitl [Hg0 Hb1]
    · iapply (need_of xa wa c 0)
      isplitl [Hg0]; · iexact Hg0
      iexact Hb1
    iapply (need_of xa wa c 1)
    isplitl [Hg1]; · iexact Hg1
    iexact Hb2
  iintro ⟨HO, Hc⟩
  ihave Hfl := (sepL_four _ _ _ _ _).1 $$ Hfl
  icases Hfl with ⟨Hfl0, Hfl1, Hfl2, Hfl3⟩
  ihave Hn2 := (need2_of xa wa c) $$ [Hg2 Hb3]
  · isplitl [Hg2]; · iexact Hg2
    iexact Hb3
  iapply (sweep0_wp xa wa K c) $$ [HO Hc Hn2 Hfl0]
  · isplitr; · iexact HC
    isplitl [HO]; · iexact HO
    isplitl [Hc Hn2]
    · iapply (sepL_sep (carry c 2) (need2 xa wa c) lanes)
      isplitl [Hc]; · iexact Hc
      iexact Hn2
    iexact Hfl0
  iintro ⟨HO, Hl, Hq0⟩
  ihave Hl := (left0_split c) $$ Hl
  icases Hl with ⟨Hs, Hr, Hk0⟩
  iapply (sweep1_wp xa wa K c) $$ [HO HA0 Hfl1]
  · isplitr; · iexact HC
    isplitl [HO]; · iexact HO
    isplitl [HA0]; · iexact HA0
    iexact Hfl1
  iintro ⟨HO, H1, Hq1⟩
  ihave H1 := (sepL_unsep _ _ _) $$ H1
  icases H1 with ⟨Ha6, Hk1⟩
  iapply (sweep2_wp xa wa K c) $$ [HO HA1 Hfl2]
  · isplitr; · iexact HC
    isplitl [HO]; · iexact HO
    isplitl [HA1]; · iexact HA1
    iexact Hfl2
  iintro ⟨HO, H2, Hq2⟩
  ihave H2 := (sepL_unsep _ _ _) $$ H2
  icases H2 with ⟨Ha7, Hk2⟩
  iapply (sweep3_wp xa wa K c) $$ [HO HA2 Hfl3]
  · isplitr; · iexact HC
    isplitl [HO]; · iexact HO
    isplitl [HA2]; · iexact HA2
    iexact Hfl3
  iintro ⟨HO, Ha8, Hq3⟩
  iapply (drain_wp xa wa K c) $$ [HO Hs Hk0 Hk1 Hk2 Hgs Hq0 Hq1 Hq2 Hq3 Hfa]
  · isplitr; · iexact HC
    isplitl [HO]; · iexact HO
    isplitl [Hs]; · iexact Hs
    isplitl [Hk0 Hk1 Hk2 Hgs]
    · iapply (drainIn c)
      isplitl [Hk0]; · iexact Hk0
      isplitl [Hk1]; · iexact Hk1
      isplitl [Hk2]; · iexact Hk2
      iexact Hgs
    iapply (drainFl c)
    isplitl [Hq0]; · iexact Hq0
    isplitl [Hq1]; · iexact Hq1
    isplitl [Hq2]; · iexact Hq2
    isplitl [Hq3]; · iexact Hq3
    iexact Hfa
  iintro ⟨HO, Hs, Hg, Hf⟩
  unfold WP; rw [wp_ret]
  iapply Hk
  unfold bodyOut
  isplitl [HO]; · iexact HO
  isplitl [Hbar]; · iexact Hbar
  isplitl [HM]; · iexact HM
  isplitl [Hr]; · iexact Hr
  isplitl [Hs]; · iexact Hs
  isplitl [Ha6]; · iexact Ha6
  isplitl [Ha7]; · iexact Ha7
  isplitl [Ha8]; · iexact Ha8
  isplitl [Hg]; · iexact Hg
  iexact Hf

end Body

end Cert.KernelIdeal.RS

end
-- ==== Proof.Exit.lean ====
/- What a device has at the end, put together again: every cell closed at zero, every buffer whole, the result whole at its
   contents; and what it has at the start, taken apart. -/
module

public import proofs.«01_k».proof.Proof.Body

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ### The cells, one by one -/

/-- All lane cells, kind by kind. -/
def laneKs : List (Option Ko) := [0, 1, 2, 3, 4, 5, 6, 7, 8].flatMap fun j => lanes.map (kLane j)
/-- All write-out cells. -/
def flushKs : List (Option Ko) := [0, 1, 2, 3].flatMap fun h => [kFlush 0 h, kFlush 1 h]
/-- All cells. -/
def allKs : List (Option Ko) := [kBar, kCopy 0, kCopy 1] ++ (laneKs ++ flushKs)

theorem allKs_nodup : allKs.Nodup := by decide +kernel
theorem allKs_any : ∀ k, (allKs.any fun x => decide (x = k)) = true := by decide +kernel
theorem allKs_mem (k : Option Ko) : k ∈ allKs := by
  obtain ⟨x, hx, h⟩ := List.any_eq_true.mp (allKs_any k)
  exact of_decide_eq_true h ▸ hx

/-- A family over a device's cells, the cells named by kind. -/
def byKind (Φ : Option Ko → sProp 𝕄) : sProp 𝕄 :=
  iprop(Φ kBar ∗ (Φ (kCopy 0) ∗ Φ (kCopy 1)) ∗ sepL (fun j => sepL (fun l => Φ (kLane j l)) lanes) [0, 1, 2, 3, 4, 5, 6, 7, 8]
    ∗ sepL (fun h => iprop(Φ (kFlush 0 h) ∗ Φ (kFlush 1 h))) [0, 1, 2, 3])

theorem cells_all (Φ : Option Ko → sProp 𝕄) : bigSep Finset.univ Φ = sepL Φ allKs :=
  (sepL_eq Φ allKs Finset.univ allKs_nodup fun k => ⟨fun _ => allKs_mem k, fun _ => Finset.mem_univ k⟩).symm

/-- Over all cells: over each kind. -/
theorem cells_split (Φ : Option Ko → sProp 𝕄) : bigSep Finset.univ Φ ⊢ byKind Φ := by
  rw [cells_all]
  unfold byKind allKs laneKs flushKs
  iintro H
  ihave H := (sepL_append' Φ _ _) $$ H
  icases H with ⟨H1, H2⟩
  ihave H1 := (sepL_three Φ _ _ _).1 $$ H1
  icases H1 with ⟨Hb, Hc0, Hc1⟩
  ihave H2 := (sepL_append' Φ _ _) $$ H2
  icases H2 with ⟨H3, H4⟩
  isplitl [Hb]; · iexact Hb
  isplitl [Hc0 Hc1]
  · isplitl [Hc0]; · iexact Hc0
    iexact Hc1
  isplitl [H3]
  · iapply (sepL_mono (fun j => Entails.of_eq (sepL_map (kLane j) Φ lanes)) [0, 1, 2, 3, 4, 5, 6, 7, 8])
    iapply (sepL_flatMap (fun j => lanes.map (kLane j)) Φ [0, 1, 2, 3, 4, 5, 6, 7, 8])
    iexact H3
  iapply (sepL_mono (fun h => sepL_two Φ (kFlush 0 h) (kFlush 1 h)) [0, 1, 2, 3])
  iapply (sepL_flatMap (fun h => [kFlush 0 h, kFlush 1 h]) Φ [0, 1, 2, 3])
  iexact H4
/-- Over each kind: over all cells. -/
theorem cells_join (Φ : Option Ko → sProp 𝕄) : byKind Φ ⊢ bigSep Finset.univ Φ := by
  rw [cells_all]
  unfold byKind allKs laneKs flushKs
  iintro ⟨Hb, ⟨Hc0, Hc1⟩, H3, H4⟩
  iapply (sepL_append Φ _ _)
  isplitl [Hb Hc0 Hc1]
  · iapply (sepL_three Φ _ _ _).2
    isplitl [Hb]; · iexact Hb
    isplitl [Hc0]; · iexact Hc0
    iexact Hc1
  iapply (sepL_append Φ _ _)
  isplitl [H3]
  · iapply (sepL_flatten (fun j => lanes.map (kLane j)) Φ [0, 1, 2, 3, 4, 5, 6, 7, 8])
    iapply (sepL_mono (fun j => Entails.of_eq (sepL_map (kLane j) Φ lanes).symm) [0, 1, 2, 3, 4, 5, 6, 7, 8])
    iexact H3
  iapply (sepL_flatten (fun h => [kFlush 0 h, kFlush 1 h]) Φ [0, 1, 2, 3])
  iapply (sepL_mono (fun h => sepL_pair Φ (kFlush 0 h) (kFlush 1 h)) [0, 1, 2, 3])
  iexact H4

/-! ### The buffers, whole and in parts -/

/-- The halves of the chunks, in the order they are written out. -/
def halves : List (Fin 4 × Fin 2) := [(0, 0), (0, 1), (1, 0), (1, 1), (2, 0), (2, 1), (3, 0), (3, 1)]
theorem halves_nodup : halves.Nodup := by decide
theorem halves_mem : ∀ x, x ∈ halves := by decide
/-- The half that is written out at a place of that order. -/
def hOf (c : Dev nD) (x : Fin 4 × Fin 2) : Finset S4096x2048.Idx := half (back x.2 (x.1.val + 3) c) x.2

theorem back_all : ∀ (d : Fin 2) (c X : Dev nD), ∃ h : Fin 4, X = back d (h.val + 3) c := by decide
theorem back_one : ∀ (d : Fin 2) (c : Dev nD) (h h' : Fin 4), back d (h.val + 3) c = back d (h'.val + 3) c → h = h' := by decide

theorem hOf_mem (c : Dev nD) (z : S4096x2048.Idx) : z ∈ (Finset.univ : Finset S4096x2048.Idx) ↔ ∃ x ∈ halves, z ∈ hOf c x := by
  refine ⟨fun _ => ?_, fun _ => Finset.mem_univ z⟩
  have h0 := lt0 z
  have h1 := lt1 z
  obtain ⟨h, hh⟩ := back_all ⟨(z 1).val / 1024, by omega⟩ c ⟨(z 0).val / 1024, by show _ < 4; omega⟩
  refine ⟨(h, ⟨(z 1).val / 1024, by omega⟩), halves_mem _, ?_⟩
  unfold hOf
  rw [mem_half]
  have := congrArg Fin.val hh
  dsimp only at this ⊢
  omega
theorem hOf_disjoint (c : Dev nD) : ∀ x ∈ halves, ∀ y ∈ halves, x ≠ y → Disjoint (hOf c x) (hOf c y) := fun x _ y _ h =>
  half_disjoint fun hh => h (by
    obtain ⟨a, d⟩ := x
    obtain ⟨b, e⟩ := y
    obtain ⟨h1, h2⟩ := hh
    dsimp only at h1 h2
    subst h2
    exact Prod.ext (back_one d c a b h1) rfl)

theorem acc_halves (c : Dev nD) (q : PosShare TreeShare) (f : AccT F) :
    (accP c Finset.univ q f : sProp 𝕄) = sepL (fun x => accP c (hOf c x) q f) halves :=
  pts_cut ((c : Thread nD τ).loc cc0_scratch8) q f Finset.univ (hOf c) halves halves_nodup (hOf_mem c) (hOf_disjoint c)
theorem out_halves (c : Dev nD) (f : AccT F) : (outP c Finset.univ f : sProp 𝕄) = sepL (fun x => outP c (hOf c x) f) halves :=
  pts_cut ((c : Thread nD τ).loc main_v1) fullShare f Finset.univ (hOf c) halves halves_nodup (hOf_mem c) (hOf_disjoint c)

theorem slabs_nodup : slabs.Nodup := by decide
theorem slabs_all : ∀ i, i ∈ slabs := by decide

theorem acc_slabs (c : Dev nD) (f : AccT F) : (accP c Finset.univ fullShare f : sProp 𝕄) = sepL (fun i => accP c (aslab (rs c i)) fullShare f) slabs :=
  pts_cut ((c : Thread nD τ).loc cc0_scratch8) fullShare f Finset.univ (fun i => aslab (rs c i)) slabs slabs_nodup
    (fun z => ⟨fun _ => by
      have hz := lt0 z
      obtain ⟨i, hi⟩ := rs_surj c ⟨(z 0).val / 256, by omega⟩
      exact ⟨i, slabs_all i, mem_aslab.mpr hi.symm⟩, fun _ => Finset.mem_univ z⟩)
    (fun i _ j _ h => aslab_disjoint fun e => h (rs_inj c i j e))
theorem x_slabs (c : Dev nD) (f : XT F) : (xP c Finset.univ f : sProp 𝕄) = sepL (fun i => xP c (xslab (rs c i)) f) slabs :=
  pts_cut ((c : Thread nD τ).loc main_arg0) fullShare f Finset.univ (fun i => xslab (rs c i)) slabs slabs_nodup
    (fun z => ⟨fun _ => by
      have hz : ((z : S4096x1024.Idx) 0).val < 4096 := (z 0).isLt
      obtain ⟨i, hi⟩ := rs_surj c ⟨((z : S4096x1024.Idx) 0).val / 256, by omega⟩
      exact ⟨i, slabs_all i, mem_xslab.mpr hi.symm⟩, fun _ => Finset.mem_univ z⟩)
    (fun i _ j _ h => xslab_disjoint fun e => h (rs_inj c i j e))

theorem cblk_all (z : S2x1024x1024.Idx) : z ∈ (Finset.univ : Finset S2x1024x1024.Idx) ↔ ∃ l ∈ lanes, z ∈ cblk l.1 l.2 := by
  refine ⟨fun _ => ?_, fun _ => Finset.mem_univ z⟩
  have h0 : (z 0).val < 2 := (z 0).isLt
  have h1 : (z 1).val < 1024 := (z 1).isLt
  refine ⟨(⟨(z 0).val, h0⟩, ⟨(z 1).val / 128, by omega⟩), lanes_perm.mem_iff.mpr ?_, ?_⟩
  · generalize (⟨(z 0).val, h0⟩ : Fin 2) = d
    generalize (⟨(z 1).val / 128, by omega⟩ : Fin 8) = k
    revert d k; decide
  · rw [mem_cblk]; dsimp only; omega
theorem lanes_nodup : lanes.Nodup := by decide

theorem comm_lanes (c : Dev nD) (f : CommT F) : (commP c Finset.univ f : sProp 𝕄) = sepL (fun l => commP c (cblk l.1 l.2) f) lanes :=
  pts_cut ((c : Thread nD τ).loc cc0_scratch1) fullShare f Finset.univ (fun l : Lane => cblk l.1 l.2) lanes lanes_nodup cblk_all
    (fun l _ m _ h => cblk_disjoint h)
theorem comm_join (c : Dev nD) (f₀ : CommT F) : sepL (fun l => commAny (F := F) l c) lanes ⊢ (iprop(∃ f, commP c Finset.univ f) : sProp 𝕄) :=
  pts_join ((c : Thread nD τ).loc cc0_scratch1) f₀ Finset.univ (fun l : Lane => cblk l.1 l.2) lanes lanes_nodup cblk_all
    (fun l _ m _ h => cblk_disjoint h)

theorem bslot_all (z : S2x256x1024.Idx) : z ∈ (Finset.univ : Finset S2x256x1024.Idx) ↔ ∃ b ∈ [(0 : Fin 2), 1], z ∈ bslot b := by
  refine ⟨fun _ => ?_, fun _ => Finset.mem_univ z⟩
  have h0 : (z 0).val < 2 := (z 0).isLt
  refine ⟨⟨(z 0).val, h0⟩, ?_, mem_bslot.mpr rfl⟩
  generalize (⟨(z 0).val, h0⟩ : Fin 2) = d
  revert d; decide
theorem buf_cut (c : Dev nD) (f : BufT F) : (bufP c Finset.univ f : sProp 𝕄) = sepL (fun b => bufP c (bslot b) f) [0, 1] :=
  pts_cut ((c : Thread nD τ).loc cc0_scratch0) fullShare f Finset.univ bslot [0, 1] (by decide) bslot_all (fun l _ m _ h => bslot_disjoint h)
theorem buf_join (c : Dev nD) (f₀ : BufT F) :
    sepL (fun b => iprop(∃ f : BufT F, bufP c (bslot b) f)) [0, 1] ⊢ (iprop(∃ f, bufP c Finset.univ f) : sProp 𝕄) :=
  pts_join ((c : Thread nD τ).loc cc0_scratch0) f₀ Finset.univ bslot [0, 1] (by decide) bslot_all (fun l _ m _ h => bslot_disjoint h)

section Exit
variable (xa : Dev nD → XT F) (wa : Dev nD → WT F) (K : Dev nD × Option Ko → ℕ)

/-! ### The end -/

/-- The shares of the accumulator lent to the last transfers, per sweep. -/
theorem gone_halves (c : Dev nD) (h : ℕ) : sepL (fun l => gonePay xa wa c l h) lanes
    ⊢ iprop(accP c (half (back 0 (h + 3) c) 0) fullShare.left (outAll xa wa) ∗ accP c (half (back 1 (h + 3) c) 1) fullShare.left (outAll xa wa)) := by
  refine (lanes_split _).trans ?_
  rw [half_cut, half_cut]
  exact Entails.refl _

/-- A sweep's halves, written out and whole again. -/
def doneHalves (c : Dev nD) (h : ℕ) : sProp 𝕄 :=
  iprop((outP c (half (back 0 (h + 3) c) 0) (outAll xa wa) ∗ accP c (half (back 0 (h + 3) c) 0) fullShare (outAll xa wa))
    ∗ outP c (half (back 1 (h + 3) c) 1) (outAll xa wa) ∗ accP c (half (back 1 (h + 3) c) 1) fullShare (outAll xa wa))

theorem done_halves (c : Dev nD) (h : ℕ) : iprop(sepL (fun l => gonePay xa wa c l h) lanes ∗ flushPay xa wa c 0 h ∗ flushPay xa wa c 1 h)
    ⊢ doneHalves xa wa c h := by
  unfold flushPay doneHalves
  iintro ⟨Hg, ⟨Ho0, Hr0⟩, Ho1, Hr1⟩
  ihave Hg := (gone_halves xa wa c h) $$ Hg
  icases Hg with ⟨Hl0, Hl1⟩
  isplitl [Ho0 Hl0 Hr0]
  · isplitl [Ho0]; · iexact Ho0
    iapply (accP_share c _ _).2
    isplitl [Hl0]; · iexact Hl0
    iexact Hr0
  isplitl [Ho1]; · iexact Ho1
  iapply (accP_share c _ _).2
  isplitl [Hl1]; · iexact Hl1
  iexact Hr1

/-- The accumulator and the result, whole. -/
theorem halves_whole (c : Dev nD) : iprop(doneHalves xa wa c 0 ∗ doneHalves xa wa c 1 ∗ doneHalves xa wa c 2 ∗ doneHalves xa wa c 3)
    ⊢ iprop(outP c Finset.univ (outAll xa wa) ∗ accP c Finset.univ fullShare (outAll xa wa)) := by
  rw [out_halves, acc_halves]
  refine .trans ?_ (sepL_unsep _ _ halves)
  unfold doneHalves
  show _ ⊢ iprop((outP c (half (back 0 (0 + 3) c) 0) (outAll xa wa) ∗ accP c (half (back 0 (0 + 3) c) 0) fullShare (outAll xa wa))
    ∗ (outP c (half (back 1 (0 + 3) c) 1) (outAll xa wa) ∗ accP c (half (back 1 (0 + 3) c) 1) fullShare (outAll xa wa))
    ∗ (outP c (half (back 0 (1 + 3) c) 0) (outAll xa wa) ∗ accP c (half (back 0 (1 + 3) c) 0) fullShare (outAll xa wa))
    ∗ (outP c (half (back 1 (1 + 3) c) 1) (outAll xa wa) ∗ accP c (half (back 1 (1 + 3) c) 1) fullShare (outAll xa wa))
    ∗ (outP c (half (back 0 (2 + 3) c) 0) (outAll xa wa) ∗ accP c (half (back 0 (2 + 3) c) 0) fullShare (outAll xa wa))
    ∗ (outP c (half (back 1 (2 + 3) c) 1) (outAll xa wa) ∗ accP c (half (back 1 (2 + 3) c) 1) fullShare (outAll xa wa))
    ∗ (outP c (half (back 0 (3 + 3) c) 0) (outAll xa wa) ∗ accP c (half (back 0 (3 + 3) c) 0) fullShare (outAll xa wa))
    ∗ (outP c (half (back 1 (3 + 3) c) 1) (outAll xa wa) ∗ accP c (half (back 1 (3 + 3) c) 1) fullShare (outAll xa wa)) ∗ emp)
  iintro ⟨⟨H1, H2⟩, ⟨H3, H4⟩, ⟨H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iempintro

/-- A device past every round of its cells. -/
abbrev AtEnd (c : Dev nD) (k : Option Ko) : sProp 𝕄 := At c k (rounds k)

/-- What a device has when its body is done: its cells past their rounds, its buffers whole. -/
def ended (c : Dev nD) : sProp 𝕄 :=
  iprop(Owe c [] ∗ bigSep Finset.univ (AtEnd c) ∗ wP c (wa c) ∗ xP c Finset.univ (xa c) ∗ outP c Finset.univ (outAll xa wa)
    ∗ (∃ f, bufP c Finset.univ f) ∗ (∃ f, commP c Finset.univ f) ∗ ∃ f, accP c Finset.univ fullShare f)

theorem goneOut_split (c : Dev nD) (h : Fin 3) :
    sepL (goneOut xa wa c h) lanes ⊢ iprop(sepL (fun l => At c (kLane ⟨3 + h.val, by omega⟩ l) 1) lanes ∗ sepL (fun l => gonePay xa wa c l h.val) lanes) := by
  unfold goneOut; exact sepL_unsep _ _ lanes

theorem flOut_split (c : Dev nD) (h : Fin 4) :
    flOut xa wa c h ⊢ iprop((At c (kFlush 0 h) 1 ∗ At c (kFlush 1 h) 1) ∗ flushPay xa wa c 0 h.val ∗ flushPay xa wa c 1 h.val) := by
  unfold flOut
  iintro ⟨⟨H1, H2⟩, H3, H4⟩
  isplitl [H1 H3]
  · isplitl [H1]; · iexact H1
    iexact H3
  isplitl [H2]; · iexact H2
  iexact H4

theorem body_end (c : Dev nD) : bodyOut xa wa c ⊢ ended xa wa c := by
  unfold bodyOut memOut free ended
  iintro ⟨HO, Hbar, ⟨Hw, ⟨Hb0, Hc0, -⟩, ⟨Hb1, Hc1, -⟩, Hx⟩, Hr, Hs, Ha6, Ha7, Ha8, Hg, Hf⟩
  ihave Hr := (sepL_unsep _ _ _) $$ Hr
  icases Hr with ⟨H2, Hr⟩
  ihave Hr := (sepL_unsep _ _ _) $$ Hr
  icases Hr with ⟨H0, Hcm⟩
  ihave Ha8 := (sepL_unsep _ _ _) $$ Ha8
  icases Ha8 with ⟨Ha8, Hg3⟩
  ihave Hg := (sepL_three _ _ _ _).1 $$ Hg
  icases Hg with ⟨Hg0, Hg1, Hg2⟩
  ihave Hg0 := (goneOut_split xa wa c 0) $$ Hg0
  icases Hg0 with ⟨H3, Hg0⟩
  ihave Hg1 := (goneOut_split xa wa c 1) $$ Hg1
  icases Hg1 with ⟨H4, Hg1⟩
  ihave Hg2 := (goneOut_split xa wa c 2) $$ Hg2
  icases Hg2 with ⟨H5, Hg2⟩
  ihave Hf := (sepL_four _ _ _ _ _).1 $$ Hf
  icases Hf with ⟨Hf0, Hf1, Hf2, Hf3⟩
  ihave Hf0 := (flOut_split xa wa c 0) $$ Hf0
  icases Hf0 with ⟨Hk0, Hf0⟩
  ihave Hf1 := (flOut_split xa wa c 1) $$ Hf1
  icases Hf1 with ⟨Hk1, Hf1⟩
  ihave Hf2 := (flOut_split xa wa c 2) $$ Hf2
  icases Hf2 with ⟨Hk2, Hf2⟩
  ihave Hf3 := (flOut_split xa wa c 3) $$ Hf3
  icases Hf3 with ⟨Hk3, Hf3⟩
  ihave Hwhole := (halves_whole xa wa c) $$ [Hg0 Hg1 Hg2 Hg3 Hf0 Hf1 Hf2 Hf3]
  · isplitl [Hg0 Hf0]
    · iapply (done_halves xa wa c 0)
      isplitl [Hg0]; · iexact Hg0
      iexact Hf0
    isplitl [Hg1 Hf1]
    · iapply (done_halves xa wa c 1)
      isplitl [Hg1]; · iexact Hg1
      iexact Hf1
    isplitl [Hg2 Hf2]
    · iapply (done_halves xa wa c 2)
      isplitl [Hg2]; · iexact Hg2
      iexact Hf2
    iapply (done_halves xa wa c 3)
    isplitl [Hg3]; · iexact Hg3
    iexact Hf3
  icases Hwhole with ⟨Hout, Hacc⟩
  isplitl [HO]; · iexact HO
  isplitl [Hbar Hc0 Hc1 H0 Hs H2 H3 H4 H5 Ha6 Ha7 Ha8 Hk0 Hk1 Hk2 Hk3]
  · iapply (cells_join (AtEnd c))
    unfold byKind
    isplitl [Hbar]; · iexact Hbar
    isplitl [Hc0 Hc1]
    · isplitl [Hc0]; · iexact Hc0
      iexact Hc1
    isplitr [Hk0 Hk1 Hk2 Hk3]
    · iapply (show iprop(sepL (fun l => AtEnd c (kLane 0 l)) lanes ∗ sepL (fun l => AtEnd c (kLane 1 l)) lanes ∗ sepL (fun l => AtEnd c (kLane 2 l)) lanes
          ∗ sepL (fun l => AtEnd c (kLane 3 l)) lanes ∗ sepL (fun l => AtEnd c (kLane 4 l)) lanes ∗ sepL (fun l => AtEnd c (kLane 5 l)) lanes
          ∗ sepL (fun l => AtEnd c (kLane 6 l)) lanes ∗ sepL (fun l => AtEnd c (kLane 7 l)) lanes ∗ sepL (fun l => AtEnd c (kLane 8 l)) lanes ∗ emp)
        ⊢ sepL (fun j => sepL (fun l => AtEnd c (kLane j l)) lanes) [0, 1, 2, 3, 4, 5, 6, 7, 8] from Entails.refl _)
      isplitl [H0]; · iexact H0
      isplitl [Hs]; · iexact Hs
      isplitl [H2]; · iexact H2
      isplitl [H3]; · iexact H3
      isplitl [H4]; · iexact H4
      isplitl [H5]; · iexact H5
      isplitl [Ha6]; · iexact Ha6
      isplitl [Ha7]; · iexact Ha7
      isplitl [Ha8]; · iexact Ha8
      iempintro
    iapply (sepL_four _ _ _ _ _).2
    isplitl [Hk0]; · iexact Hk0
    isplitl [Hk1]; · iexact Hk1
    isplitl [Hk2]; · iexact Hk2
    iexact Hk3
  isplitl [Hw]; · iexact Hw
  isplitl [Hx]; · rw [x_slabs]; iexact Hx
  isplitl [Hout]; · iexact Hout
  isplitl [Hb0 Hb1]
  · iapply (buf_join c (bufF (xa c) 0))
    iapply (sepL_pair (fun b => iprop(∃ f : BufT F, bufP c (bslot b) f)) 0 1)
    isplitl [Hb0]; · iexact Hb0
    iexact Hb1
  isplitl [Hcm]
  · iapply (comm_join c (commF c (outAll xa wa))); iexact Hcm
  iexists _; iexact Hacc

/-- Past its rounds a cell closes at zero; so all of them do. -/
theorem close_all (c : Dev nD) : iprop(Ctx xa wa K ∗ bigSep Finset.univ (AtEnd c)) ⊢ (|={Set.univ}=> bigSep Finset.univ fun k => semVal (kcell c k) 0 : sProp 𝕄) := by
  have h : ∀ k, iprop(Ctx xa wa K ∗ AtEnd c k) ⊢ (|={Set.univ}=> semVal (kcell c k) 0 : sProp 𝕄) := fun k => by
    iintro ⟨HC, Ha⟩
    iapply (cell_close ER (Rd xa wa) (κ := K (c, k)) (Es := Set.univ) (Set.mem_univ _) (fun h => h) (duties_done xa wa c k))
    isplitl [HC]; · iapply (Ctx_inv xa wa K c k); iexact HC
    iexact Ha
  refine (sep_mono_left (BI.bigSep_of_persistent (Finset.univ : Finset (Option Ko)) (Ctx xa wa K))).trans ?_
  rw [← bigSep_sep']
  exact (bigSep_mono fun k _ => h k).trans (bigSep_fupd _ _)

/-! ### The start -/

theorem acc_start (c : Dev nD) : (iprop(∃ f : AccT F, accP c Finset.univ fullShare f) : sProp 𝕄) ⊢ sepL (accAny c) slabs := by
  iintro ⟨%f, H⟩
  iapply (sepL_mono (fun i => show (accP c (aslab (rs c i)) fullShare f : sProp 𝕄) ⊢ accAny c i from by
    unfold accAny; iintro H; iexists f; iexact H) slabs)
  rw [← acc_slabs]; iexact H
theorem comm_start (c : Dev nD) : (iprop(∃ f : CommT F, commP c Finset.univ f) : sProp 𝕄) ⊢ sepL (fun l => commAny l c) lanes := by
  iintro ⟨%f, H⟩
  iapply (sepL_mono (fun l : Lane => show (commP c (cblk l.1 l.2) f : sProp 𝕄) ⊢ commAny l c from by
    unfold commAny; iintro H; iexists f; iexact H) lanes)
  rw [← comm_lanes]; iexact H
theorem comm_two (c : Dev nD) : sepL (fun l => commAny (F := F) l c) lanes
    ⊢ iprop((bigSep Finset.univ fun k : Fin 8 => commAny (F := F) (0, k) c) ∗ (bigSep Finset.univ fun k : Fin 8 => commAny (F := F) (1, k) c)) := by
  refine (lanes_split _).trans ?_
  have h : ∀ d : Fin 2, sepL (fun k : Fin 8 => commAny (F := F) (d, k) c) (List.finRange 8) = bigSep Finset.univ fun k : Fin 8 => commAny (F := F) (d, k) c :=
    fun d => sepL_eq _ _ Finset.univ (List.nodup_finRange 8) fun i => by simp
  exact BIClass.sep_mono (Entails.of_eq (h 0)) (Entails.of_eq (h 1))
theorem buf_start (c : Dev nD) : (iprop(∃ f : BufT F, bufP c Finset.univ f) : sProp 𝕄)
    ⊢ iprop((∃ f : BufT F, bufP c (bslot 0) f) ∗ ∃ f : BufT F, bufP c (bslot 1) f) := by
  iintro ⟨%f, H⟩
  ihave H := (Entails.of_eq (buf_cut c f)) $$ H
  ihave H := (sepL_two _ _ _) $$ H
  icases H with ⟨H0, H1⟩
  isplitl [H0]
  · iexists f; iexact H0
  iexists f; iexact H1
theorem out_start (c : Dev nD) (f : AccT F) : (outP c Finset.univ f : sProp 𝕄)
    ⊢ sepL (fun h : Fin 4 => iprop((∃ f : AccT F, outP c (half (back 0 (h.val + 3) c) 0) f) ∗ ∃ f : AccT F, outP c (half (back 1 (h.val + 3) c) 1) f)) [0, 1, 2, 3] := by
  rw [out_halves]
  refine .trans (show sepL (fun x => (outP c (hOf c x) f : sProp 𝕄)) ([0, 1, 2, 3].flatMap fun h : Fin 4 => [(h, (0 : Fin 2)), (h, 1)]) ⊢ _ from sepL_flatMap _ _ _) ?_
  refine sepL_mono (fun h => (sepL_two _ _ _).trans ?_) _
  iintro ⟨H0, H1⟩
  isplitl [H0]
  · iexists f; iexact H0
  iexists f; iexact H1

end Exit

end Cert.KernelIdeal.RS

end
-- ==== Proof.Deal.lean ====
/- What the launch deals the devices: cells, tokens, credit; each token and credit to the device that spends it; and a
   device's start made of them. -/
module

public import proofs.«01_k».proof.Proof.Exit
public import Idealize.ShloMosaic.Lib.Pipeline.Launch
public import Idealize.ShloMosaic.Lib.Pipeline.Kit

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

local notation "𝕄" => MT nD τ sig ℕ (Elt F) ℕ UU ℕ

/-! ### Cells and tokens -/

/-- A duty of one device's cells: the cell, the round, the duty. -/
abbrev Duty : Type := Option Ko × ℕ × Fin 2

/-- The lanes' rounds, in the order in which they are first paid. -/
def laneRounds : List (Fin 9 × ℕ) :=
  [(1, 0), (2, 0), (0, 0), (1, 1), (2, 1), (0, 1), (1, 2), (2, 2), (3, 0), (6, 0), (4, 0), (7, 0), (5, 0), (8, 0)]
/-- The duties of a lane round. -/
def laneDuty (jr : Fin 9 × ℕ) (l : Lane) : Duty := (kLane jr.1 l, jr.2, 0)
/-- The duty of a row slab's copy. -/
def copyDuty (i : Fin 16) : Duty := (kCopy (slotOf i), i.val / 2, 0)
/-- All duties. -/
def duties : List Duty :=
  [(kBar, 0, 0), (kBar, 0, 1)] ++ (slabs.map copyDuty ++ (laneRounds.flatMap (fun jr => lanes.map (laneDuty jr))
    ++ [0, 1, 2, 3].flatMap fun h => [(kFlush 0 h, 0, 0), (kFlush 1 h, 0, 0)]))

/-- Numbers that tell the duties apart. -/
def dNo (x : Duty) : ℕ := 32 * kNo x.1 + 2 * x.2.1 + x.2.2.val
theorem dutiesNo_nodup : (duties.map dNo).Nodup := by decide +kernel
theorem duties_nodup : duties.Nodup := List.Nodup.of_map _ dutiesNo_nodup

theorem kcell_inj : Function.Injective (fun ck : Dev nD × Option Ko => kcell ck.1 ck.2) := by
  rintro ⟨c, k⟩ ⟨c', k'⟩ h
  have h1 : c = c' := congrArg (fun g : GSem nD τ sig => g.1.1) h
  have h2 : k = k' := ksem_inj (congrArg (fun g : GSem nD τ sig => g.2) h)
  rw [h1, h2]
/-- Every device's cells. -/
def kcells : Finset (GSem nD τ sig) := Finset.univ.map ⟨fun ck : Dev nD × Option Ko => kcell ck.1 ck.2, kcell_inj⟩

/-- A device's duty as the ghost state names it. -/
def dutyAt (cx : Dev nD × Duty) : GSem nD τ sig × ℕ × Fin 2 := (kcell cx.1 cx.2.1, cx.2.2.1, cx.2.2.2)
theorem dutyAt_inj : Function.Injective dutyAt := by
  rintro ⟨c, k, r, d⟩ ⟨c', k', r', d'⟩ h
  have h0 : (c, k) = (c', k') := kcell_inj (congrArg Prod.fst h)
  have h1 : (r, d) = (r', d') := congrArg Prod.snd h
  obtain ⟨rfl, rfl⟩ := Prod.ext_iff.mp h0
  obtain ⟨rfl, rfl⟩ := Prod.ext_iff.mp h1
  rfl
/-- A duty of a device, by its place in the list. -/
def dutyNth (ci : Dev nD × Fin duties.length) : GSem nD τ sig × ℕ × Fin 2 := dutyAt (ci.1, duties.get ci.2)
theorem dutyNth_inj : Function.Injective dutyNth := by
  rintro ⟨c, i⟩ ⟨c', i'⟩ h
  have h0 := dutyAt_inj h
  have h1 : c = c' := congrArg Prod.fst h0
  have h2 : i = i' := (List.nodup_iff_injective_get.mp duties_nodup) (congrArg Prod.snd h0)
  rw [h1, h2]
/-- Every device's duties. -/
def ktoks : Finset (GSem nD τ sig × ℕ × Fin 2) := Finset.univ.map ⟨dutyNth, dutyNth_inj⟩

/-- The ghost element at launch. -/
def u₀ : UU := (initOf (Pipeline.cells cfgs cellOf_inj) (Pipeline.launchToks cfgs cellOf_inj), initOf kcells ktoks)

/-- The token of a device's own duty. -/
def tokAt (c : Dev nD) (x : Duty) : sProp 𝕄 := dutyTok ER (kcell c x.1) x.2.1 x.2.2

/-- Whose cell a lane's duty is of, seen from who pays it. -/
def laneTo (j : Fin 9) (d : Fin 2) : Dev nD ≃ Dev nD :=
  match j with
  | 0 => (turn d).symm
  | 2 | 6 | 7 | 8 => turn d
  | _ => Equiv.refl _
/-- Whose cell a duty is of, seen from who pays it. -/
def dutyTo (x : Duty) : Dev nD ≃ Dev nD :=
  match x.1 with
  | none => (turn x.2.2).symm
  | some (.inr (.inl jl)) => laneTo jl.1 jl.2.1
  | _ => Equiv.refl _
/-- The token of the duty a device pays. -/
def tokBy (c : Dev nD) (x : Duty) : sProp 𝕄 := tokAt (dutyTo x c) x

/-- Something of each device and each member of a list, in either order. -/
theorem sepL_swap {ι : Type} (Φ : Dev nD → ι → sProp 𝕄) (l : List ι) :
    (bigSep Finset.univ fun c : Dev nD => sepL (Φ c) l) = sepL (fun i => bigSep Finset.univ fun c : Dev nD => Φ c i) l := by
  induction l with
  | nil => exact bigSep_emp_const _
  | cons i l ih =>
    show (bigSep Finset.univ fun c : Dev nD => iprop(Φ c i ∗ sepL (Φ c) l)) = iprop((bigSep Finset.univ fun c : Dev nD => Φ c i) ∗ sepL _ l)
    rw [bigSep_sep', ih]

theorem toks_around : (bigSep Finset.univ fun c : Dev nD => sepL (fun x => (tokAt c x : sProp 𝕄)) duties)
    = bigSep Finset.univ fun c : Dev nD => sepL (tokBy c) duties := by
  rw [sepL_swap, sepL_swap]
  exact congrArg (fun Φ => sepL Φ duties) (funext fun x => bigSep_univ_equiv (dutyTo x) fun c => tokAt c x)

theorem toks_nth (c : Dev nD) : (bigSep Finset.univ fun i : Fin duties.length => (tokAt c (duties.get i) : sProp 𝕄)) = sepL (fun x => tokAt c x) duties := by
  rw [← sepL_eq (fun i : Fin duties.length => tokAt c (duties.get i)) (List.finRange duties.length) Finset.univ (List.nodup_finRange _) (fun i => by simp),
    ← sepL_map duties.get, List.map_get_finRange]

section Deal
variable (xa : Dev nD → XT F) (wa : Dev nD → WT F)

/-- What the launch element gives a device. -/
def G (c : Dev nD) : sProp 𝕄 :=
  iprop((bigSep Finset.univ fun k : Option Ko => roundState ER (Rd xa wa) (kcell c k) 0)
    ∗ (bigSep Finset.univ fun k : Option Ko => Rch c k 0) ∗ (bigSep Finset.univ fun k : Option Ko => At c k 0)
    ∗ sepL (fun x => tokAt c x) duties)

theorem fund_all : BI.own (ER (initOf kcells ktoks)) ⊢ (|==> bigSep Finset.univ (G xa wa) : sProp 𝕄) := by
  have hX (Φ : GSem nD τ sig → sProp 𝕄) : bigSep kcells Φ = bigSep Finset.univ fun c : Dev nD => bigSep Finset.univ fun k : Option Ko => Φ (kcell c k) := by
    unfold kcells; rw [bigSep_map, bigSep_univ_prod]; rfl
  have hT : bigSep ktoks (fun x => (dutyTok ER x.1 x.2.1 x.2.2 : sProp 𝕄)) = bigSep Finset.univ fun c : Dev nD => sepL (fun x => tokAt c x) duties := by
    unfold ktoks; rw [bigSep_map, bigSep_univ_prod]; exact bigSep_congr fun c _ => toks_nth c
  iintro HX
  imod (Rounds.fund ER (Rd xa wa) kcells ktoks) $$ HX with ⟨Hst, Hr, Hat, Htok⟩
  imodintro
  ihave Hst := (Entails.of_eq (hX fun g => roundState ER (Rd xa wa) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-- A device's semaphores at zero are its cells at zero. -/
theorem sems_eq (c : Dev nD) :
    (bigSep Finset.univ fun k : Option Ko => (semVal (kcell c k) 0 : sProp 𝕄))
      = iprop(unscopedSems0 c ∗ Pipeline.ownSems0 (Ix := ℕ) (Name := ℕ) (U := UU) (Lvl := ℕ) (Val := Elt F) (τ := τ) osem c) := by
  have hu : (unscopedSems0 c : sProp 𝕄) = semVal (kcell c kBar) 0 := by
    unfold unscopedSems0; rw [bigSep_eq_bigSepL_of_eq [SemLoc.reg barS] (by decide +kernel) (by decide)]; rfl
  have hs : (Finset.univ : Finset (Option Ko)) = insert none (Finset.univ.map Function.Embedding.some) := by
    ext k; cases k <;> simp
  rw [hu, hs, bigSep_insert (by simp), bigSep_map]
  rfl

/-- What each device keeps for itself of the launch. -/
def kept (c : Dev nD) : sProp 𝕄 := iprop((bigSep Finset.univ fun k : Option Ko => At c k 0) ∗ sepL (tokBy c) duties)
/-- The cells' invariants and first rounds. -/
def records (K : Dev nD × Option Ko → ℕ) : sProp 𝕄 :=
  iprop((bigSep Finset.univ fun ck : Dev nD × Option Ko => cellInv ER (Rd xa wa) (K ck) (kcell ck.1 ck.2))
    ∗ bigSep Finset.univ fun ck : Dev nD × Option Ko => Rch (F := F) ck.1 ck.2 0)
instance (K : Dev nD × Option Ko → ℕ) : BI.Persistent (records xa wa K) := by unfold records; infer_instance
/-- What a device starts from. -/
def G' (c : Dev nD) : sProp 𝕄 := iprop(∃ K, records xa wa K ∗ kept c)

/-- The invariants allocated, one device. -/
theorem alloc_one (c : Dev nD) :
    iprop(Pipeline.ownSems0 (Ix := ℕ) (Name := ℕ) (U := UU) (Lvl := ℕ) (Val := Elt F) (τ := τ) osem c ∗ unscopedSems0 c ∗ G xa wa c)
      ⊢ |={Set.univ}=> iprop((bigSep Finset.univ fun k : Option Ko => iprop(∃ κ : ℕ, cellInv ER (Rd xa wa) κ (kcell c k)))
        ∗ (bigSep Finset.univ fun k : Option Ko => Rch c k 0) ∗ (bigSep Finset.univ fun k : Option Ko => At c k 0)
        ∗ sepL (fun x => tokAt c x) duties) := by
  unfold G
  iintro ⟨Hos, Hus, Hst, Hr, Hat, Htok⟩
  imod (show iprop((bigSep Finset.univ fun k : Option Ko => semVal (kcell c k) 0) ∗ bigSep Finset.univ fun k : Option Ko => roundState ER (Rd xa wa) (kcell c k) 0)
      ⊢ (|={Set.univ}=> bigSep Finset.univ fun k : Option Ko => iprop(∃ κ : ℕ, cellInv ER (Rd xa wa) κ (kcell c k)) : sProp 𝕄) from by
        rw [← bigSep_sep']
        exact (bigSep_mono fun k _ => (Rounds.body_intro ER (Rd xa wa) (kcell c k)).trans inv_alloc).trans (bigSep_fupd _ _)) $$ [Hos Hus Hst] with Hinv
  · isplitr [Hst]
    · rw [sems_eq]
      isplitl [Hus]; · iexact Hus
      iexact Hos
    iexact Hst
  imodintro
  isplitl [Hinv]; · iexact Hinv
  isplitl [Hr]; · iexact Hr
  isplitl [Hat]; · iexact Hat
  iexact Htok

/-- Something lasting, shared out. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Ko => iprop(∃ κ : ℕ, cellInv ER (Rd xa wa) κ (kcell c k)))
        ∗ (bigSep Finset.univ fun k : Option Ko => Rch c k 0) ∗ (bigSep Finset.univ fun k : Option Ko => At c k 0)
        ∗ sepL (fun x => tokAt c x) duties) : sProp 𝕄)
      ⊢ bigSep Finset.univ (G' xa wa) := by
  rw [bigSep_sep', bigSep_sep', bigSep_sep', toks_around,
    ← bigSep_univ_prod (fun ck : Dev nD × Option Ko => iprop(∃ κ : ℕ, cellInv ER (Rd xa wa) κ (kcell ck.1 ck.2))),
    ← bigSep_univ_prod (fun ck : Dev nD × Option Ko => (Rch ck.1 ck.2 0 : sProp 𝕄))]
  iintro ⟨HI, #HR, Hat, Htok⟩
  ihave HK := (BI.bigSep_exists_pi Finset.univ (fun (ck : Dev nD × Option Ko) (κ : ℕ) => (cellInv ER (Rd xa wa) κ (kcell ck.1 ck.2) : sProp 𝕄))) $$ HI
  icases HK with ⟨%K, #HI⟩
  iapply (share_out (R := records xa wa K) (Φ := kept) fun c _ => show iprop(records xa wa K ∗ kept c) ⊢ G' xa wa c from by
    unfold G'; iintro H; iexists K; iexact H)
  isplitr
  · unfold records
    isplitl; · iexact HI
    iexact HR
  unfold kept
  rw [bigSep_sep']
  isplitl [Hat]; · iexact Hat
  iexact Htok

/-- All devices' cells opened at once. -/
theorem glob : (bigSep Finset.univ fun c => iprop(Pipeline.ownSems0 (Ix := ℕ) (Name := ℕ) (U := UU) (Lvl := ℕ) (Val := Elt F) (τ := τ) osem c
      ∗ unscopedSems0 c ∗ G xa wa c) : sProp 𝕄) ⊢ |={Set.univ}=> bigSep Finset.univ (G' xa wa) :=
  ((bigSep_mono fun c _ => alloc_one xa wa c).trans (bigSep_fupd _ _)).trans (BI.fupd_mono (regroup xa wa))

end Deal

/-! ### Credit -/

/-- A payment as its receiver sees it. -/
def PK.own (c : Dev nD) : PK → Pay nD τ sig
  | .bar d => (kcell c kBar, 0, 1)
  | .hop t l => (kcell c (kLane (jRecv t) l), rnd t, nBlk)
  | .cred s l => (kcell c (kLane 0 l), s.val, 1)
/-- Its receiver. -/
def PK.to : PK → Dev nD ≃ Dev nD
  | .bar d => (turn d).symm
  | .hop t l => turn l.1
  | .cred s l => (turn l.1).symm
theorem pay_own (c : Dev nD) (e : PK) : e.pay c = e.own (e.to c) := by cases e <;> rfl
theorem own_dev (c : Dev nD) (e : PK) : (e.own c).1.1 = (c : Thread nD τ) := by cases e <;> rfl

theorem sum_pays (l : List PK) : (∑ d : Dev nD, tally d l) = ∑ d : Dev nD, tallyL (l.map (PK.own d)) := by
  induction l with
  | nil => rfl
  | cons e l ih =>
    show (∑ d : Dev nD, ((e.pay d).tally + tally d l)) = ∑ d : Dev nD, ((e.own d).tally + tallyL (l.map (PK.own d)))
    rw [Finset.sum_add_distrib, Finset.sum_add_distrib, ih, ← Equiv.sum_comp e.to fun d => (e.own d).tally]
    exact congrArg (· + _) (Finset.sum_congr rfl fun d _ => by rw [pay_own])

theorem launch_cred (c : Dev nD) : (Pipeline.launchCred (fun d => tally d todo) c : sProp 𝕄) = cred (tallyL (todo.map (PK.own c))) :=
  Pipeline.launchCred_of_sum (fun d => tally d todo) (fun d => tallyL (todo.map (PK.own d))) (sum_pays todo)
    (fun d g h => by
      have : ∃ i, tallyL (todo.map (PK.own d)) g i ≠ 0 := by
        by_contra hh
        exact h (Finsupp.ext fun i => not_not.mp fun h' => hh ⟨i, h'⟩)
      obtain ⟨i, hi⟩ := this
      obtain ⟨x, hx, h1, -⟩ := TalkSites.tallyL_pos (Nat.pos_of_ne_zero hi)
      obtain ⟨e, -, rfl⟩ := List.mem_map.mp hx
      rw [h1, own_dev]) c

theorem cred_list (c : Dev nD) (l : List PK) : (cred (tallyL (l.map (PK.own c))) : sProp 𝕄) ⊢ sepL (fun e => cred (e.own c).tally) l := by
  induction l with
  | nil => exact Entails.of_eq cred_zero
  | cons e l ih => exact (cred_add _ _).1.trans (BIClass.sep_mono (Entails.refl _) ih)

/-- The credit of a device's barrier, of each lane's arrivals and credits. -/
def creds (c : Dev nD) : sProp 𝕄 :=
  iprop(cred (tallyAt (kcell c kBar) 0 2)
    ∗ (sepL (fun l => Cr c (oLane 2 l) 0) lanes ∗ sepL (fun l => Cr c (oLane 2 l) 1) lanes ∗ sepL (fun l => Cr c (oLane 2 l) 2) lanes)
    ∗ (sepL (fun l => Cr c (oLane 0 l) 0) lanes ∗ sepL (fun l => Cr c (oLane 0 l) 1) lanes)
    ∗ sepL (fun l => Cr c (oLane 6 l) 0) lanes ∗ sepL (fun l => Cr c (oLane 7 l) 0) lanes ∗ sepL (fun l => Cr c (oLane 8 l) 0) lanes)

theorem cred_map (c : Dev nD) (t : Fin 6) (j : Fin 9) (r : ℕ) (h : ∀ l, (cred ((PK.hop t l).own c).tally : sProp 𝕄) ⊢ Cr c (oLane j l) r) :
    sepL (fun e => (cred (PK.own c e).tally : sProp 𝕄)) (lanes.map (PK.hop t)) ⊢ sepL (fun l => Cr c (oLane j l) r) lanes := by
  rw [sepL_map]; exact sepL_mono h lanes
theorem cred_pairs (c : Dev nD) (s : Fin 2) (t : Fin 6) (r : ℕ) (h : ∀ l, (cred ((PK.hop t l).own c).tally : sProp 𝕄) ⊢ Cr c (oLane 2 l) r) :
    sepL (fun e => (cred (PK.own c e).tally : sProp 𝕄)) (lanes.flatMap fun l => [.cred s l, .hop t l])
      ⊢ iprop(sepL (fun l => Cr c (oLane 0 l) s.val) lanes ∗ sepL (fun l => Cr c (oLane 2 l) r) lanes) := by
  refine (sepL_flatMap _ _ lanes).trans ((sepL_mono (fun l => (sepL_two _ _ _).trans (BIClass.sep_mono (Entails.refl _) (h l))) lanes).trans ?_)
  exact sepL_unsep _ _ lanes

theorem creds_intro (c : Dev nD) : (cred (tallyL (todo.map (PK.own c))) : sProp 𝕄) ⊢ creds c := by
  refine (cred_list c todo).trans ?_
  unfold creds todo
  show iprop(cred (tallyAt (kcell c kBar) 0 1) ∗ cred (tallyAt (kcell c kBar) 0 1) ∗ sepL _ _) ⊢ _
  iintro ⟨Hb0, Hb1, H⟩
  ihave H := (sepL_append' _ _ _) $$ H
  icases H with ⟨H0, H⟩
  ihave H := (sepL_append' _ _ _) $$ H
  icases H with ⟨H1, H⟩
  ihave H := (sepL_append' _ _ _) $$ H
  icases H with ⟨H2, H⟩
  ihave H := (sepL_append' _ _ _) $$ H
  icases H with ⟨H3, H⟩
  ihave H := (sepL_append' _ _ _) $$ H
  icases H with ⟨H4, H5⟩
  ihave H0 := (cred_map c 0 2 0 fun l => Entails.refl _) $$ H0
  ihave H1 := (cred_pairs c 0 1 1 fun l => Entails.refl _) $$ H1
  icases H1 with ⟨H10, H11⟩
  ihave H2 := (cred_pairs c 1 2 2 fun l => Entails.refl _) $$ H2
  icases H2 with ⟨H20, H21⟩
  ihave H3 := (cred_map c 3 6 0 fun l => Entails.refl _) $$ H3
  ihave H4 := (cred_map c 4 7 0 fun l => Entails.refl _) $$ H4
  ihave H5 := (cred_map c 5 8 0 fun l => Entails.refl _) $$ H5
  isplitl [Hb0 Hb1]
  · iapply (show iprop(cred (tallyAt (kcell c kBar) 0 1) ∗ cred (tallyAt (kcell c kBar) 0 1)) ⊢ (cred (tallyAt (kcell c kBar) 0 2) : sProp 𝕄) from by
      refine (cred_add _ _).2.trans ?_; rw [tallyAt_add])
    isplitl [Hb0]; · iexact Hb0
    iexact Hb1
  isplitl [H0 H11 H21]
  · isplitl [H0]; · iexact H0
    isplitl [H11]; · iexact H11
    iexact H21
  isplitl [H10 H20]
  · isplitl [H10]; · iexact H10
    iexact H20
  isplitl [H3]; · iexact H3
  isplitl [H4]; · iexact H4
  iexact H5

/-! ### A device's start -/

theorem sepL_three' {ι : Type} (A B C : ι → sProp 𝕄) (l : List ι) :
    iprop(sepL A l ∗ sepL B l ∗ sepL C l) ⊢ sepL (fun i => iprop(A i ∗ B i ∗ C i)) l :=
  (BIClass.sep_mono (Entails.refl _) (sepL_sep B C l)).trans (sepL_sep A _ l)
theorem sepL_five' {ι : Type} (A B C D E : ι → sProp 𝕄) (l : List ι) :
    iprop(sepL A l ∗ sepL B l ∗ sepL C l ∗ sepL D l ∗ sepL E l) ⊢ sepL (fun i => iprop(A i ∗ B i ∗ C i ∗ D i ∗ E i)) l :=
  (BIClass.sep_mono (Entails.refl _) (BIClass.sep_mono (Entails.refl _) (sepL_three' C D E l))).trans (sepL_three' A B _ l)

/-- The tokens of one lane round, on every lane. -/
def roundToks (c : Dev nD) (jr : Fin 9 × ℕ) : sProp 𝕄 := sepL (tokBy c) (lanes.map (laneDuty jr))
theorem roundToks_own (c : Dev nD) (j : Fin 9) (r : ℕ) (h : ∀ l, tokBy c (laneDuty (j, r) l) ⊢ (Tok c (oLane j l) r : sProp 𝕄)) :
    roundToks c (j, r) ⊢ sepL (fun l => (Tok c (oLane j l) r : sProp 𝕄)) lanes := by
  unfold roundToks; rw [sepL_map]; exact sepL_mono h lanes
theorem roundToks_nxt (c : Dev nD) (j : Fin 9) (r : ℕ) (h : ∀ l, tokBy c (laneDuty (j, r) l) ⊢ (Tok (nxt l.1 c) (oLane j l) r : sProp 𝕄)) :
    roundToks c (j, r) ⊢ sepL (fun l => (Tok (nxt l.1 c) (oLane j l) r : sProp 𝕄)) lanes := by
  unfold roundToks; rw [sepL_map]; exact sepL_mono h lanes
theorem roundToks_prv (c : Dev nD) (j : Fin 9) (r : ℕ) (h : ∀ l, tokBy c (laneDuty (j, r) l) ⊢ (Tok (prv l.1 c) (oLane j l) r : sProp 𝕄)) :
    roundToks c (j, r) ⊢ sepL (fun l => (Tok (prv l.1 c) (oLane j l) r : sProp 𝕄)) lanes := by
  unfold roundToks; rw [sepL_map]; exact sepL_mono h lanes

/-- The tokens a device pays with, sorted by the step that spends them. -/
def sorted (c : Dev nD) : sProp 𝕄 :=
  iprop((dutyTok ER (kcell (prv 0 c) kBar) 0 0 ∗ dutyTok ER (kcell (prv 1 c) kBar) 0 1)
    ∗ sepL (fun i => Tok c (oCopy (slotOf i)) (i.val / 2)) slabs
    ∗ (sepL (fun l => Tok c (oLane 1 l) 0) lanes ∗ sepL (fun l => Tok (nxt l.1 c) (oLane 2 l) 0) lanes)
    ∗ (sepL (fun l => Tok (prv l.1 c) (oLane 0 l) 0) lanes ∗ sepL (fun l => Tok c (oLane 1 l) 1) lanes ∗ sepL (fun l => Tok (nxt l.1 c) (oLane 2 l) 1) lanes)
    ∗ (sepL (fun l => Tok (prv l.1 c) (oLane 0 l) 1) lanes ∗ sepL (fun l => Tok c (oLane 1 l) 2) lanes ∗ sepL (fun l => Tok (nxt l.1 c) (oLane 2 l) 2) lanes)
    ∗ (sepL (fun l => Tok c (oLane 3 l) 0) lanes ∗ sepL (fun l => Tok (nxt l.1 c) (oLane 6 l) 0) lanes)
    ∗ (sepL (fun l => Tok c (oLane 4 l) 0) lanes ∗ sepL (fun l => Tok (nxt l.1 c) (oLane 7 l) 0) lanes)
    ∗ (sepL (fun l => Tok c (oLane 5 l) 0) lanes ∗ sepL (fun l => Tok (nxt l.1 c) (oLane 8 l) 0) lanes)
    ∗ sepL (fun h => iprop(Tok c (oFlush 0 h) 0 ∗ Tok c (oFlush 1 h) 0)) [0, 1, 2, 3])

theorem toks_sorted (c : Dev nD) : sepL (tokBy c) duties ⊢ (sorted c : sProp 𝕄) := by
  unfold duties
  show iprop(tokBy c (kBar, 0, 0) ∗ tokBy c (kBar, 0, 1) ∗ sepL (tokBy c) (slabs.map copyDuty ++ _)) ⊢ _
  iintro ⟨Hb0, Hb1, H⟩
  ihave H := (sepL_append' _ _ _) $$ H
  icases H with ⟨Hx, H⟩
  ihave H := (sepL_append' _ _ _) $$ H
  icases H with ⟨H, Hf⟩
  ihave H := ((sepL_flatMap _ _ _).trans (show sepL (fun jr => sepL (tokBy c) (lanes.map (laneDuty jr))) laneRounds
    ⊢ (iprop(roundToks c (1, 0) ∗ roundToks c (2, 0) ∗ roundToks c (0, 0) ∗ roundToks c (1, 1) ∗ roundToks c (2, 1) ∗ roundToks c (0, 1)
      ∗ roundToks c (1, 2) ∗ roundToks c (2, 2) ∗ roundToks c (3, 0) ∗ roundToks c (6, 0) ∗ roundToks c (4, 0) ∗ roundToks c (7, 0)
      ∗ roundToks c (5, 0) ∗ roundToks c (8, 0) ∗ emp) : sProp 𝕄) from Entails.refl _)) $$ H
  icases H with ⟨T10, T20, T00, T11, T21, T01, T12, T22, T3, T6, T4, T7, T5, T8, -⟩
  ihave Hx := ((Entails.of_eq (sepL_map copyDuty (tokBy c) slabs)).trans (sepL_mono (Ψ := fun i => (Tok c (oCopy (slotOf i)) (i.val / 2) : sProp 𝕄)) (fun i => Entails.refl _) slabs)) $$ Hx
  ihave Hf := ((sepL_flatMap _ _ _).trans (sepL_mono (Ψ := fun h => (iprop(Tok c (oFlush 0 h) 0 ∗ Tok c (oFlush 1 h) 0) : sProp 𝕄)) (fun h => (sepL_two (tokBy c) (kFlush 0 h, 0, 0) (kFlush 1 h, 0, 0)).trans (Entails.refl _)) _)) $$ Hf
  ihave T10 := (roundToks_own c 1 0 fun l => Entails.refl _) $$ T10
  ihave T20 := (roundToks_nxt c 2 0 fun l => Entails.refl _) $$ T20
  ihave T00 := (roundToks_prv c 0 0 fun l => Entails.refl _) $$ T00
  ihave T11 := (roundToks_own c 1 1 fun l => Entails.refl _) $$ T11
  ihave T21 := (roundToks_nxt c 2 1 fun l => Entails.refl _) $$ T21
  ihave T01 := (roundToks_prv c 0 1 fun l => Entails.refl _) $$ T01
  ihave T12 := (roundToks_own c 1 2 fun l => Entails.refl _) $$ T12
  ihave T22 := (roundToks_nxt c 2 2 fun l => Entails.refl _) $$ T22
  ihave T3 := (roundToks_own c 3 0 fun l => Entails.refl _) $$ T3
  ihave T6 := (roundToks_nxt c 6 0 fun l => Entails.refl _) $$ T6
  ihave T4 := (roundToks_own c 4 0 fun l => Entails.refl _) $$ T4
  ihave T7 := (roundToks_nxt c 7 0 fun l => Entails.refl _) $$ T7
  ihave T5 := (roundToks_own c 5 0 fun l => Entails.refl _) $$ T5
  ihave T8 := (roundToks_nxt c 8 0 fun l => Entails.refl _) $$ T8
  unfold sorted
  isplitl [Hb0 Hb1]
  · isplitl [Hb0]; · iapply (show tokBy c (kBar, 0, 0) ⊢ (dutyTok ER (kcell (prv 0 c) kBar) 0 0 : sProp 𝕄) from Entails.refl _); iexact Hb0
    iapply (show tokBy c (kBar, 0, 1) ⊢ (dutyTok ER (kcell (prv 1 c) kBar) 0 1 : sProp 𝕄) from Entails.refl _); iexact Hb1
  isplitl [Hx]; · iexact Hx
  isplitl [T10 T20]
  · isplitl [T10]; · iexact T10
    iexact T20
  isplitl [T00 T11 T21]
  · isplitl [T00]; · iexact T00
    isplitl [T11]; · iexact T11
    iexact T21
  isplitl [T01 T12 T22]
  · isplitl [T01]; · iexact T01
    isplitl [T12]; · iexact T12
    iexact T22
  isplitl [T3 T6]
  · isplitl [T3]; · iexact T3
    iexact T6
  isplitl [T4 T7]
  · isplitl [T4]; · iexact T4
    iexact T7
  isplitl [T5 T8]
  · isplitl [T5]; · iexact T5
    iexact T8
  iexact Hf

section Start
variable (xa : Dev nD → XT F) (wa : Dev nD → WT F) (K : Dev nD × Option Ko → ℕ)

/-- The outputs and their flushes' tokens, half by half. -/
theorem flush_start (c : Dev nD) (f : AccT F) :
    iprop(outP c Finset.univ f ∗ sepL (fun h => iprop(Tok c (oFlush 0 h) 0 ∗ Tok c (oFlush 1 h) 0)) [0, 1, 2, 3])
      ⊢ sepL (fun h => (iprop(flushIn c 0 h ∗ flushIn c 1 h) : sProp 𝕄)) [0, 1, 2, 3] := by
  refine (BIClass.sep_mono (out_start c f) (Entails.refl _)).trans ((sepL_sep _ _ _).trans (sepL_mono (fun h => ?_) _))
  unfold flushIn
  iintro ⟨⟨H0, H1⟩, T0, T1⟩
  isplitl [H0 T0]
  · isplitl [H0]; · iexact H0
    iexact T0
  isplitl [H1]; · iexact H1
  iexact T1

theorem body_start (c : Dev nD) (fo : AccT F) :
    iprop(Ctx xa wa K ∗ Owe c todo ∗ kept c ∗ creds c ∗ wP c (wa c) ∗ xP c Finset.univ (xa c) ∗ outP c Finset.univ fo
      ∗ (∃ f : BufT F, bufP c Finset.univ f) ∗ (∃ f : CommT F, commP c Finset.univ f) ∗ ∃ f : AccT F, accP c Finset.univ fullShare f)
      ⊢ bodyIn xa wa c := by
  unfold kept creds
  iintro ⟨#HC, HO, ⟨Hat, Htok⟩, ⟨Cb, ⟨C20, C21, C22⟩, ⟨C00, C01⟩, C6, C7, C8⟩, Hw, Hx, Hout, Hbuf, Hcomm, Hacc⟩
  ihave Htok := (toks_sorted c) $$ Htok
  unfold sorted
  icases Htok with ⟨⟨B0, B1⟩, TX, ⟨T10, T20⟩, ⟨T00, T11, T21⟩, ⟨T01, T12, T22⟩, ⟨T3, T6⟩, ⟨T4, T7⟩, ⟨T5, T8⟩, TF⟩
  ihave Hat := (cells_split fun k => (At c k 0 : sProp 𝕄)) $$ Hat
  ihave Hat := (show byKind (fun k => (At c k 0 : sProp 𝕄)) ⊢ iprop(At c kBar 0 ∗ (At c (kCopy 0) 0 ∗ At c (kCopy 1) 0)
      ∗ (sepL (fun l => At c (kLane 0 l) 0) lanes ∗ sepL (fun l => At c (kLane 1 l) 0) lanes ∗ sepL (fun l => At c (kLane 2 l) 0) lanes
        ∗ sepL (fun l => At c (kLane 3 l) 0) lanes ∗ sepL (fun l => At c (kLane 4 l) 0) lanes ∗ sepL (fun l => At c (kLane 5 l) 0) lanes
        ∗ sepL (fun l => At c (kLane 6 l) 0) lanes ∗ sepL (fun l => At c (kLane 7 l) 0) lanes ∗ sepL (fun l => At c (kLane 8 l) 0) lanes ∗ emp)
      ∗ sepL (fun h => iprop(At c (kFlush 0 h) 0 ∗ At c (kFlush 1 h) 0)) [0, 1, 2, 3]) from Entails.refl _) $$ Hat
  icases Hat with ⟨Ab, ⟨Ac0, Ac1⟩, ⟨A0, A1, A2, A3, A4, A5, A6, A7, A8, -⟩, AF⟩
  ihave Hbuf := (buf_start c) $$ Hbuf
  icases Hbuf with ⟨Hbuf0, Hbuf1⟩
  ihave Hcomm := ((comm_start c).trans (comm_two c)) $$ Hcomm
  icases Hcomm with ⟨Hm0, Hm1⟩
  ihave Hacc := (acc_start c) $$ Hacc
  unfold bodyIn
  isplitl [HO]; · iexact HO
  isplitl [B0 B1 Cb Ab Hm0 Hm1]
  · unfold barIn
    isplitl [B0]; · iexact B0
    isplitl [B1]; · iexact B1
    isplitl [Cb]; · iexact Cb
    isplitl [Ab]; · iexact Ab
    isplitl [Hm0]; · iexact Hm0
    iexact Hm1
  isplitl [Hw Hbuf0 Hbuf1 Ac0 Ac1 Hx TX Hacc]
  · unfold memIn
    isplitl [Hw]; · iexact Hw
    isplitl [Hbuf0 Ac0]
    · iapply (show iprop((∃ f : BufT F, bufP c (bslot 0) f) ∗ At c (kCopy 0) 0 ∗ Rch c (kCopy 0) 0) ⊢ (free c 0 : sProp 𝕄) from Entails.refl _)
      isplitl [Hbuf0]; · iexact Hbuf0
      isplitl [Ac0]; · iexact Ac0
      iapply (Ctx_rch xa wa K c (kCopy 0)); iexact HC
    isplitl [Hbuf1 Ac1]
    · iapply (show iprop((∃ f : BufT F, bufP c (bslot 1) f) ∗ At c (kCopy 1) 0 ∗ Rch c (kCopy 1) 0) ⊢ (free c 1 : sProp 𝕄) from Entails.refl _)
      isplitl [Hbuf1]; · iexact Hbuf1
      isplitl [Ac1]; · iexact Ac1
      iapply (Ctx_rch xa wa K c (kCopy 1)); iexact HC
    isplitl [Hx TX]
    · iapply (show iprop(sepL (fun i => xP c (xslab (rs c i)) (xa c)) slabs ∗ sepL (fun i => Tok c (oCopy (slotOf i)) (i.val / 2)) slabs) ⊢ sepL (xIn xa c) slabs from sepL_sep _ _ _)
      rw [← x_slabs]
      isplitl [Hx]; · iexact Hx
      iexact TX
    iexact Hacc
  isplitl [T10 T20]
  · iapply (show iprop(sepL (fun l => Tok c (oLane 1 l) 0) lanes ∗ sepL (fun l => Tok (nxt l.1 c) (oLane 2 l) 0) lanes) ⊢ sepL (toks0 c) lanes from sepL_sep _ _ _)
    isplitl [T10]; · iexact T10
    iexact T20
  isplitl [A1 A2 A0]
  · iapply (show iprop(sepL (fun l => At c (kLane 1 l) 0) lanes ∗ sepL (fun l => At c (kLane 2 l) 0) lanes ∗ sepL (fun l => At c (kLane 0 l) 0) lanes) ⊢ sepL (ats0 c) lanes from sepL_three' _ _ _ _)
    isplitl [A1]; · iexact A1
    isplitl [A2]; · iexact A2
    iexact A0
  isplitl [C20 C00 T00 T11 T21]
  · iapply (show iprop(sepL (fun l => Cr c (oLane 2 l) 0) lanes ∗ sepL (fun l => Cr c (oLane 0 l) 0) lanes ∗ sepL (fun l => Tok (prv l.1 c) (oLane 0 l) 0) lanes ∗ sepL (fun l => Tok c (oLane 1 l) (0 + 1)) lanes
      ∗ sepL (fun l => Tok (nxt l.1 c) (oLane 2 l) (0 + 1)) lanes) ⊢ sepL (needG c 0) lanes from sepL_five' _ _ _ _ _ _)
    isplitl [C20]; · iexact C20
    isplitl [C00]; · iexact C00
    isplitl [T00]; · iexact T00
    isplitl [T11]; · iexact T11
    iexact T21
  isplitl [C21 C01 T01 T12 T22]
  · iapply (show iprop(sepL (fun l => Cr c (oLane 2 l) 1) lanes ∗ sepL (fun l => Cr c (oLane 0 l) 1) lanes ∗ sepL (fun l => Tok (prv l.1 c) (oLane 0 l) 1) lanes ∗ sepL (fun l => Tok c (oLane 1 l) (1 + 1)) lanes
      ∗ sepL (fun l => Tok (nxt l.1 c) (oLane 2 l) (1 + 1)) lanes) ⊢ sepL (needG c 1) lanes from sepL_five' _ _ _ _ _ _)
    isplitl [C21]; · iexact C21
    isplitl [C01]; · iexact C01
    isplitl [T01]; · iexact T01
    isplitl [T12]; · iexact T12
    iexact T22
  isplitl [C22 T3 T6]
  · iapply (show iprop(sepL (fun l => Cr c (oLane 2 l) 2) lanes ∗ sepL (fun l => Tok c (oLane 3 l) 0) lanes ∗ sepL (fun l => Tok (nxt l.1 c) (oLane 6 l) 0) lanes) ⊢ sepL (needG2 c) lanes from sepL_three' _ _ _ _)
    isplitl [C22]; · iexact C22
    isplitl [T3]; · iexact T3
    iexact T6
  isplitl [C6 A6 T4 T7]
  · iapply (sepL_sep _ _ _)
    isplitl [C6 A6]
    · iapply (show iprop(sepL (fun l => Cr c (oLane 6 l) 0) lanes ∗ sepL (fun l => At c (kLane 6 l) 0) lanes) ⊢ sepL (needA c 0) lanes from sepL_sep _ _ _)
      isplitl [C6]; · iexact C6
      iexact A6
    iapply (show iprop(sepL (fun l => Tok c (oLane 4 l) 0) lanes ∗ sepL (fun l => Tok (nxt l.1 c) (oLane 7 l) 0) lanes) ⊢ sepL (toksA c 1) lanes from sepL_sep _ _ _)
    isplitl [T4]; · iexact T4
    iexact T7
  isplitl [C7 A7 T5 T8]
  · iapply (sepL_sep _ _ _)
    isplitl [C7 A7]
    · iapply (show iprop(sepL (fun l => Cr c (oLane 7 l) 0) lanes ∗ sepL (fun l => At c (kLane 7 l) 0) lanes) ⊢ sepL (needA c 1) lanes from sepL_sep _ _ _)
      isplitl [C7]; · iexact C7
      iexact A7
    iapply (show iprop(sepL (fun l => Tok c (oLane 5 l) 0) lanes ∗ sepL (fun l => Tok (nxt l.1 c) (oLane 8 l) 0) lanes) ⊢ sepL (toksA c 2) lanes from sepL_sep _ _ _)
    isplitl [T5]; · iexact T5
    iexact T8
  isplitl [C8 A8]
  · iapply (show iprop(sepL (fun l => Cr c (oLane 8 l) 0) lanes ∗ sepL (fun l => At c (kLane 8 l) 0) lanes) ⊢ sepL (needA c 2) lanes from sepL_sep _ _ _)
    isplitl [C8]; · iexact C8
    iexact A8
  isplitl [A3 A4 A5]
  · iapply (sepL_three _ _ _ _ |>.2)
    isplitl [A3]; · iexact A3
    isplitl [A4]; · iexact A4
    iexact A5
  isplitl [Hout TF]
  · iapply (flush_start c fo)
    isplitl [Hout]; · iexact Hout
    iexact TF
  iexact AF

end Start

end Cert.KernelIdeal.RS

end
-- ==== Proof.Run.lean ====
/- The run: from any memory and zero counters, every weakly fair execution ends with the result on every device. -/
module

public import proofs.«01_k».proof.Proof.Deal
public import Idealize.ShloMosaic.Lib.Pipeline.CollectiveSegs
public import proofs.«01_k».proof.Proof.Gen.KernelIdeal.Launch
public import proofs.«01_k».proof.Proof.Gen.KernelIdeal.Points

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The state at launch. -/
abbrev s₀ : MemSt nD τ sig (Elt F) := ⟨m, fun _ => 0, ρ⟩
/-- A device's shard of `x`. -/
def xIni (c : Dev nD) : XT F := m ((c : Thread nD τ).loc main_arg0)
/-- A device's shard of `w`, as its window brings it in. -/
def wIni (c : Dev nD) : WT F := (win0_0.blk (0 : Fin 1)).view.read (Elt F) (m ((c : Thread nD τ).loc main_arg1))
/-- What the result array holds at launch. -/
def oIni (c : Dev nD) : AccT F := m ((c : Thread nD τ).loc main_v1)

/-! ### The pipeline's data -/

/-- The kernel's scratch buffers at any contents. -/
def scratch (c : Dev nD) : sProp 𝕄 :=
  iprop((∃ f : BufT F, bufP c Finset.univ f) ∗ (∃ f : CommT F, commP c Finset.univ f) ∗ ∃ f : AccT F, accP c Finset.univ fullShare f)
/-- What a device enters its kernel with, beside the scratch. -/
def start (c : Dev nD) : sProp 𝕄 :=
  iprop(G' (xIni m) (wIni m) c ∗ creds c ∗ levAts L lv ∗ xP c Finset.univ (xIni m c) ∗ outP c Finset.univ (oIni m c))
/-- What it leaves it with, beside the scratch. -/
def finish (c : Dev nD) : sProp 𝕄 :=
  iprop((bigSep Finset.univ fun k : Option Ko => semVal (kcell c k) 0) ∗ xP c Finset.univ (xIni m c) ∗ outP c Finset.univ (outAll (xIni m) (wIni m)))

/-- The pipeline's contents and invariant. -/
def dats (_ : Fin 1) (c : Dev nD) : Dat τ (Elt F) ℕ ℕ UU ℕ cfg0 c where
  A w := m ((cfg0.win w).arr.view.loc (c : Thread nD τ))
  after w _ := match w with
    | ⟨0, _⟩ => wIni m c
  Φ t := match t with
    | ⟨0, _⟩ => iprop(start m c ∗ scratch c)
    | ⟨_ + 1, _⟩ => iprop(finish m c ∗ scratch c)
  q _ := fullShare
  owed t := match t with
    | ⟨0, _⟩ => tally c todo
    | ⟨_ + 1, _⟩ => 0

theorem owns_at (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged shard, as the pipeline hands it over. -/
abbrev stg (c : Dev nD) (X : WT F) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop((start m c ∗ scratch c) ∗ (dats m 0 c).owesAt 0 t0_0.castSucc ∗ ∃ d, stg c ((dats m 0 c).before (0 : Fin 1) t0_0 d))
def bodyPost (c : Dev nD) : sProp 𝕄 :=
  iprop((finish m c ∗ scratch c) ∗ (dats m 0 c).owesAt 0 t0_0.succ ∗ stg c (wIni m c))

theorem body_run (c : Dev nD) : bodyPre m c ⊢ WP c (prog c (Memref.whole cc0_stg0_0)) (fun _ => bodyPost m c) := by
  unfold bodyPre start scratch G' Dat.owesAt Pipeline.owesWithin
  iintro ⟨⟨⟨⟨%K, #Hrec, Hk⟩, Hcr, #Hlev, Hx, Hout⟩, Hbuf, Hcomm, Hacc⟩, ⟨%W, %hW, HO⟩, ⟨%d, %f, %hf, Hw⟩⟩
  have hw : f = wIni m c := by rw [hf]; unfold Dat.before; rw [if_pos (fetch0_0 t0_0)]; rfl
  subst hw
  ihave #HC := (show iprop(records (xIni m) (wIni m) K ∗ levAts L lv) ⊢ Ctx (xIni m) (wIni m) K from by
    unfold records Ctx; iintro ⟨⟨H1, H2⟩, H3⟩
    isplitl [H1]; · iexact H1
    isplitl [H2]; · iexact H2
    iexact H3) $$ [Hrec Hlev]
  · isplitl [Hrec]; · iexact Hrec
    iexact Hlev
  iapply (body_wp (xIni m) (wIni m) K c) $$ [HO Hk Hcr Hx Hout Hbuf Hcomm Hacc Hw]
  · isplitr; · iexact HC
    iapply (body_start (xIni m) (wIni m) K c (oIni m c))
    isplitr; · iexact HC
    isplitl [HO]; · unfold Owe; iexists W; iexact HO
    isplitl [Hk]; · iexact Hk
    isplitl [Hcr]; · iexact Hcr
    isplitl [Hw]; · unfold wP; iexact Hw
    isplitl [Hx]; · iexact Hx
    isplitl [Hout]; · iexact Hout
    isplitl [Hbuf]; · iexact Hbuf
    isplitl [Hcomm]; · iexact Hcomm
    iexact Hacc
  iintro H
  ihave H := (body_end (xIni m) (wIni m) c) $$ H
  unfold ended
  icases H with ⟨HO, Hat, Hw, Hx, Hout, Hbuf, Hcomm, Hacc⟩
  imod (close_all (xIni m) (wIni m) K c) $$ [Hat] with Hs
  · isplitr; · iexact HC
    iexact Hat
  imodintro
  unfold bodyPost finish scratch Dat.owesAt Pipeline.owesWithin Owe wP
  icases HO with ⟨%W', HO⟩
  isplitl [Hs Hx Hout Hbuf Hcomm Hacc]
  · isplitl [Hs Hx Hout]
    · isplitl [Hs]; · iexact Hs
      isplitl [Hx]; · iexact Hx
      iexact Hout
    isplitl [Hbuf]; · iexact Hbuf
    isplitl [Hcomm]; · iexact Hcomm
    iexact Hacc
  isplitl [HO]
  · iexists W'
    isplitr; · ipureintro; exact fun _ _ => Or.inl trivial
    iexact HO
  iexists (wIni m c)
  isplitr; · ipureintro; rfl
  iexact Hw

/-- The body the pipeline calls. -/
theorem call_eq : (defs₀ (F := F)) .tc cfg0.body (cfg0.bodyArgs t0_0 (cfg0.slots t0_0)) = bodyAt0 t0_0 := by
  unfold defs₀ Defs.onTc
  with_reducible rfl

/-- The pipeline's obligation on the body. -/
theorem body_obligation (c : Dev nD) : BodyObligation (dats m 0 c) (defs₀ (F := F)) 𝒱₀ 0 Set.univ := fun t => by
  have hrun := body_run m c
  unfold bodyPre bodyPost stg at hrun
  simp only [← owns_at] at hrun
  revert hrun
  rw [fin_N0 t, call_eq, body_eq, wp_deviceId, bigSep_W0, bigSep_W0,
    show prog (F := F) (c : Thread nD τ).1 (st0_0 t0_0) = prog c (Memref.whole cc0_stg0_0) from rfl]
  generalize prog (F := F) c (Memref.whole cc0_stg0_0) = p
  exact id

/-! ### The launch -/

theorem ownSemFacts : Pipeline.OwnSemFacts cfg0.spec osem := by decide +kernel

theorem share_eq (c : Dev nD) (w : Fin cfg0.W) : (dats m 0 c).share w = fullShare := by unfold Dat.share; split <;> rfl

theorem stage_other : ∀ k : Option Ko, ksem k ≠ SemLoc.dma (win0_0.sem 0) := by
  intro k
  cases k with
  | none => exact nofun
  | some k =>
    intro h
    exact absurd h (by revert k; decide +kernel)

theorem waits (c : Dev nD) : (levAts L lv : sProp 𝕄) ⊢ Pipeline.cellsWaits cfgs (dats m) 0 0 c :=
  Pipeline.cellsWaits_intro cfgs (dats m) 0 0 c fun w s t => by
    fin_cases w; fin_cases s
    rcases t with ⟨_ | _, ht⟩
    · refine mayWait c _ 0 (by decide) todo 0 ?_ (above_zero todo)
      have : kindOf (SemLoc.dma (win0_0.sem 0)) = none := by
        unfold kindOf Function.partialInv
        exact dif_neg fun ⟨k, hk⟩ => stage_other k hk
      show (match kindOf (SemLoc.dma (win0_0.sem 0)) with | none => 0 | some k => lvK k 0) ≤ 0
      rw [this]
    · show (levAts L lv : sProp 𝕄) ⊢ MayWait (c : Thread nD τ) _ 0 0
      rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred (fun d => tally d todo) c ∗ prngReg c (ρ c) ∗ G' (xIni m) (wIni m) c)
      ⊢ |={Set.univ}=> iprop(start m c ∗ emp) := by
  rw [Pipeline.unscopedRestP_none, unscopedRest0_eq, launch_cred]
  iintro ⟨⟨Hx, Hout⟩, Hlev, Hcr, -, HG⟩
  ihave Hc := (creds_intro c) $$ Hcr
  imodintro
  unfold start
  isplitl
  · isplitl [HG]; · iexact HG
    isplitl [Hc]; · iexact Hc
    isplitl [Hlev]; · iexact Hlev
    isplitl [Hx]; · unfold xP; iexact Hx
    unfold outP; iexact Hout
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch bufP commP accP
  iintro ⟨Hs, -, Hr⟩
  isplitl [Hs]; · iexact Hs
  iexact Hr

/-- What a device holds when the run has ended. -/
def atExit (c : Dev nD) : sProp 𝕄 := iprop(unscopedSems0 c ∗ xP c Finset.univ (xIni m c) ∗ outP c Finset.univ (outAll (xIni m) (wIni m)))

theorem leave (c : Dev nD) :
    (dats m 0 c).Φ (Fin.last cfg0.N) ⊢ iprop(atExit m c ∗ Pipeline.ownSems0 osem c ∗ Pipeline.scopedRest cfg0.spec c) := by
  rw [show (dats m 0 c).Φ (Fin.last cfg0.N) = iprop(finish m c ∗ scratch c) from rfl, scopedRest0_eq]
  unfold finish scratch atExit
  rw [sems_eq]
  iintro ⟨⟨⟨Hu, Ho⟩, Hx, Hout⟩, Hr⟩
  isplitl [Hu Hx Hout]
  · isplitl [Hu]; · iexact Hu
    isplitl [Hx]; · iexact Hx
    iexact Hout
  isplitl [Ho]; · iexact Ho
  unfold bufP commP accP
  iexact Hr

theorem read_exit (c : Dev nD) (s' : Phys nD τ sig (Elt F)) :
    iprop(atExit m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg0) = xIni m c ∧ s'.mem.mem ((c : Thread nD τ).loc main_v1) = outAll (xIni m) (wIni m)⌝ ∗ SI s' : sProp 𝕄) := by
  unfold atExit outP xP
  iintro ⟨⟨Hu, Hx, Hout⟩, -, HSI⟩
  icombine HSI Hx gives %hx
  icombine HSI Hout gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => hx i (Finset.mem_univ i), funext fun i => h i (Finset.mem_univ i)⟩
  iexact HSI

theorem fund : (ownU u₀ : sProp 𝕄) ⊢ |={Set.univ}=> iprop(BI.own (EP (initOf (Pipeline.cells cfgs cellOf_inj) (Pipeline.launchToks cfgs cellOf_inj)))
    ∗ bigSep Finset.univ (G (xIni m) (wIni m))) := by
  unfold u₀
  iintro Hu
  ihave H := (ownU_pair _ _) $$ Hu
  icases H with ⟨HP, HX⟩
  imod (fund_all (xIni m) (wIni m)) $$ HX with HG
  imodintro
  isplitl [HP] <;> iassumption

set_option maxRecDepth 32000 in
/-- For any float values, from any memory and zero counters, every weakly fair execution on the four devices ends, every
    device's arguments unchanged, its result array at `outAll` of the shards, every counter at zero. -/
theorem run_main : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outAll (xIni m) (wIni m)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := by exact (fun _ => rfl))
    (hbody := fun c => (body_obligation m c).loose) (hne := block_pos0) (harr := arr_whole0) (hstage := stage_whole0) (hshare := by exact (share_eq m))
    (hdistinct := winFacts0.arr_inj)
    (O₀ := fun c => tally c todo) (howed₀ := by exact (fun _ => rfl)) (howedN := by exact (fun _ => rfl))
    (L := L) (lv := lv) (hL := L_of_ne) (hwaits := by exact (waits m))
    (G := G (xIni m) (wIni m)) (G' := G' (xIni m) (wIni m)) (u₀ := u₀)
    (hu₀ := by exact fund m)
    (hglob := by exact (glob (xIni m) (wIni m)))
    (hA := by exact (fun _ _ => rfl)) (hpf := by exact (fun _ k => k.elim0))
    (X := start m) (Y := atExit m) (Z := fun _ => iprop(emp))
    (hX := by exact (start_intro m ρ)) (hin := by exact (enter m)) (hout := by exact (leave m))
    (QY := fun c s => (∀ sm : SemLoc sig, sm.isScoped .tc = false → s.sem ((c.tc : Thread nD τ), sm) = 0)
      ∧ s.mem ((c : Thread nD τ).loc main_arg0) = xIni m c ∧ s.mem ((c : Thread nD τ).loc main_v1) = outAll (xIni m) (wIni m))
    (hY := by exact (read_exit m))
    (hQ := by exact (fun _ h hs => ⟨fun c => ⟨(h c).2.2.2.1, ((h c).1 0).trans ((dats m 0 c).arrAt_in 0 rfl _), (h c).2.2.2.2⟩, sem_eq_zero hs fun c => (h c).2.2.1⟩))

end Cert.KernelIdeal.RS

end
-- ==== Proof.Value.lean ====
/- What the kernel's result is over the extended reals: the product of the whole arrays, activated, as the reference
   computes it. -/
module

public import proofs.«01_k».proof.Proof.Run
public import proofs.«01_k».proof.Proof.Gen.ReferenceIdeal.Run
public import Idealize.ShloMosaic.Lib.Layout
public import Idealize.ShloMosaic.Lib.Pointwise.Contract
public import Idealize.ShloMosaic.PureOps.Ideal.Laws

@[expose] public section

noncomputable section

namespace Cert.KernelIdeal.RS

open Idealize.ShloMosaic hiding ix2
open Idealize.ShloMosaic.TcCoe
open Idealize.SL Idealize.SL.Sem
open Cert.KernelIdeal Cert.KernelIdeal.Gen
open Idealize.ShloMosaic.ValueIdx

/-- An array of the whole product's left factor, and of its right factor. -/
abbrev XG : Type := (⟨2, ![4096, 4096]⟩ : Shape).Idx → EReal
abbrev WG : Type := (⟨2, ![4096, 2048]⟩ : Shape).Idx → EReal

/-- The kernel's shard of `w` is the whole of its argument. -/
theorem wIni_eq {F : FTy → Type} [FloatOps F] (m : (ℓ : Loc nD τ sig) → Buf (Elt F) ℓ) (c : Dev nD) :
    wIni m c = m ((c : Thread nD τ).loc main_arg1) := by
  funext z
  refine congrArg (m ((c : Thread nD τ).loc main_arg1)) (ext2 ?_ ?_)
  · exact win0_0.rect_emb_val_of_index_zero (0 : Fin 1) 0 rfl z
  · exact win0_0.rect_emb_val_of_index_zero (0 : Fin 1) 1 rfl z

/-- An entry of a device's product is the sum of its products of entries. -/
theorem part_apply (x : XT Ideal) (w : WT Ideal) (i : S4096x2048.Idx) :
    (part x w i : EReal) = ∑ k : Fin 1024, (x (ix2 (i 0) k) : EReal) * (w (ix2 k (i 1)) : EReal) := by
  unfold part k0_pay1
  rw [shapeCast_self, shapeCast_self]
  refine (Ideal.matmul_constant_zero_apply _ _ _ _ _).trans ?_
  rw [dot_S256x1024_S1024x2048_S256x2048_1_0_0_1_n_n.sum_contr₁ rfl rfl]
  refine Finset.sum_congr rfl fun k _ => ?_
  have h0 := lt0 i
  congr 1
  · refine (shapeCast_1ab_ab_apply _ _ _ _).trans ?_
    refine congrArg x (ext2 ?_ rfl)
    show (256 * ((i 0).val / 256) + (i 0).val % 256) % 4096 = (i 0).val
    omega
  · exact congrArg w (ext2 rfl rfl)

/-- An entry of the whole product likewise. -/
theorem prod_apply (X : XG) (W : WG) (i : S4096x2048.Idx) :
    (Host.dotGeneral (F := Ideal) (φ₁ := .f32) (φ₂ := .f32) Cert.ReferenceIdeal.dot_S4096x4096_S4096x2048_S4096x2048_1_0_0_1_n_n none X W i : EReal)
      = ∑ k : Fin 4096, X (ix2 (i 0) k) * W (ix2 k (i 1)) := by
  refine (Ideal.dotGeneral_apply _ _ _ _ _ _).trans ?_
  rw [Cert.ReferenceIdeal.dot_S4096x4096_S4096x2048_S4096x2048_1_0_0_1_n_n.sum_contr₁ rfl rfl]
  refine Finset.sum_congr rfl fun k _ => ?_
  congr 1
  · exact congrArg X (ext2 rfl rfl)
  · exact congrArg W (ext2 rfl rfl)

/-- What the ring adds up is the sum over the devices. -/
theorem V_eq_sum (P : Dev nD → AccT Ideal) (d : Fin 2) (X : Dev nD) (i : S4096x2048.Idx) :
    (V P d X 3 i : EReal) = ∑ c : Dev nD, (P c i : EReal) := by
  have h4 : (∑ c : Dev nD, (P c i : EReal)) = (P 0 i : EReal) + P 1 i + P 2 i + P 3 i := Fin.sum_univ_four (fun c : Fin 4 => (P c i : EReal))
  have hV : (V P d X 3 i : EReal)
      = (P X i : EReal) + ((P (prv d X) i : EReal) + ((P (prv d (prv d X)) i : EReal) + (P (prv d (prv d (prv d X))) i : EReal))) := rfl
  rw [h4, hV]
  have hp : ∀ (d : Fin 2) (X : Dev nD), [X, prv d X, prv d (prv d X), prv d (prv d (prv d X))].Perm [0, 1, 2, 3] := by decide
  have hs := ((hp d X).map fun c => (P c i : EReal)).sum_eq
  simpa [add_assoc] using hs

/-- A sum over the whole contracted axis, device by device. -/
theorem sum_blocks (f : Fin 4096 → EReal) :
    ∑ k : Fin 4096, f k = ∑ c : Fin 4, ∑ k : Fin 1024, f ⟨c.val * 1024 + k.val, by have := c.isLt; have := k.isLt; omega⟩ := by
  rw [← Fintype.sum_prod_type']
  refine (Fintype.sum_equiv (finProdFinEquiv (m := 4) (n := 1024)) _ _ fun p => ?_).symm
  refine congrArg f (Fin.ext ?_)
  show p.1.val * 1024 + p.2.val = p.2.val + 1024 * p.1.val
  omega

/-- The reference's result of the whole arrays. -/
abbrev refOut (X : XG) (W : WG) : Cert.ReferenceIdeal.S4096x2048.Idx → EReal :=
  let D : FVec Ideal Cert.ReferenceIdeal.S4096x2048 .f32 :=
    Host.dotGeneral (F := Ideal) (φ₁ := .f32) (φ₂ := .f32) Cert.ReferenceIdeal.dot_S4096x4096_S4096x2048_S4096x2048_1_0_0_1_n_n none X W
  let K (b : BitVec 32) : FVec Ideal Cert.ReferenceIdeal.S4096x2048 .f32 :=
    broadcastInDim Cert.ReferenceIdeal.S4096x2048 ![] Cert.ReferenceIdeal.Gen.facts₀.bcast_S_S4096x2048 (constant Cert.ReferenceIdeal.S_ .f32 b)
  mulf (mulf (K 0x3F000000#32) D) (addf (K 0x3F800000#32)
    (Host.tanh (mulf (K 0x3F4C422A#32) (addf D (mulf (K 0x3D372713#32) (mulf (mulf D D) D))))))

/-- The two activations agree: they differ in how the three factors of the cube are grouped. -/
theorem gelu1_eq (X : XG) (W : WG) (i : S4096x2048.Idx) :
    (gelu1 (F := Ideal) (∑ k : Fin 4096, X (ix2 (i 0) k) * W (ix2 k (i 1)) : EReal) : EReal) = refOut X W i := by
  have hD := prod_apply X W i
  have key : ∀ (y c h o t : EReal), h * y * (o + Ideal.tanh (t * (y + c * y * y * y)))
      = h * y * (o + Ideal.tanh (t * (y + c * (y * y * y)))) := fun y c h o t => by
    rw [mul_assoc (c * y), mul_assoc c, ← mul_assoc y y y]
  rw [← hD]
  exact key _ _ _ _ _

/-- The kernel's result, on every device, is the reference's of the whole arrays whose shards the devices hold. -/
theorem outAll_eq (xa : Dev nD → XT Ideal) (wa : Dev nD → WT Ideal) (X : XG) (W : WG)
    (hx : ∀ c : Dev nD, xa c = Layout.block ⟨2, ![4096, 1024]⟩ ⟨2, ![4096, 4096]⟩ 1 4 c X)
    (hw : ∀ c : Dev nD, wa c = Layout.block ⟨2, ![1024, 2048]⟩ ⟨2, ![4096, 2048]⟩ 0 4 c W) :
    outAll xa wa = refOut X W := by
  funext i
  refine Eq.trans ?_ (gelu1_eq X W i)
  unfold outAll outF
  refine congrArg (gelu1 (F := Ideal)) ?_
  refine (V_eq_sum _ _ _ i).trans ?_
  rw [sum_blocks]
  refine Finset.sum_congr rfl fun c _ => ?_
  unfold prods
  rw [part_apply, hx, hw]
  refine Finset.sum_congr rfl fun k _ => ?_
  congr 1
  · exact congrArg X (ext2 rfl rfl)
  · exact congrArg W (ext2 rfl rfl)

end Cert.KernelIdeal.RS

end
-- ==== Proof.SameText.lean ====
/- The kernel read on the machine's words and the kernel read over the extended reals are printed as two programs with
   the same text: their functions agree, part by part. -/
module

public import proofs.«01_k».proof.Proof.Gen.Kernel
public import proofs.«01_k».proof.Proof.Gen.KernelIdeal

@[expose] public section

noncomputable section

namespace Cert.SameText

open Idealize.ShloMosaic Idealize.SL.Sem

attribute [local instance] Cert.Kernel.Gen.facts Cert.KernelIdeal.Gen.facts

variable {F : FTy → Type} [FloatOps F]

/-- The bodies of the pallas_call are one function. -/
theorem body_eq : Cert.Kernel.cc0_body (F := F) = Cert.KernelIdeal.cc0_body (F := F) := rfl

/-- The tables of bodies agree at their one label. -/
theorem defs₀_eq : Cert.Kernel.defs₀ (F := F) = Cert.KernelIdeal.defs₀ (F := F) :=
  congrArg Defs.onTc (funext fun l => match l with
    | ⟨0, _⟩ => funext fun ⟨_, s⟩ => rfl
    | ⟨_ + 1, h⟩ => absurd h (by omega))

/-- So do the tables with the pipeline's own functions, -/
theorem defs_eq : Cert.Kernel.defs (F := F) = Cert.KernelIdeal.defs (F := F) :=
  congrArg (Pipeline.defs (Cert.Kernel.pcfgs (F := F))) defs₀_eq

/-- and the two programs. -/
theorem main_eq : Cert.Kernel.main (F := F) = Cert.KernelIdeal.main (F := F) := rfl

end Cert.SameText

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.SameText
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Over any float values every fair run ends, with the arguments as they were and every counter at zero. -/
theorem ends {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.KernelIdeal.RS.run_main m ρ)

/-- The kernel on the machine's words: the two programs have the same text. -/
theorem frame_kernel : Cert.quiescent_Kernel := fun m ρ _ => by
  rw [Cert.SameText.defs_eq, Cert.SameText.main_eq]
  exact ends (F := Bits) m ρ

/-- The same over the extended reals. -/
theorem frame_ideal : Cert.quiescent_KernelIdeal := fun m ρ _ => ends (F := Ideal) m ρ

/-- The reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals the kernel leaves on each device what the reference leaves on its one. -/
theorem algebraic : Cert.algebraic_KernelIdeal_ReferenceIdeal := by
  intro m g m' g' _ hagree
  refine ⟨Cert.KernelIdeal.RS.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.RS.run_main (F := Ideal) m g)
    exact Cert.KernelIdeal.RS.outAll_eq _ _ _ _ (fun c => (hagree c).1)
      (fun c => (Cert.KernelIdeal.RS.wIni_eq m c).trans (hagree c).2)
  · exact (θ_run Cert.ReferenceIdeal.defs _ _).mono (fun _ h => h 0) (Cert.ReferenceIdeal.Value.run (F := Ideal) m' g')

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
